-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Regroup (m : (ℓ : Loc Cert.Regroup.nD Cert.Regroup.τ Cert.Regroup.sig) → Buf (Elt Bits) ℓ) : Prop :=
  True

def Pre_RegroupIdeal (m : (ℓ : Loc Cert.RegroupIdeal.nD Cert.RegroupIdeal.τ Cert.RegroupIdeal.sig) → Buf (Elt Ideal) ℓ) : Prop :=
  True

def Pre_RegroupRefIdeal (m : (ℓ : Loc Cert.RegroupRefIdeal.nD Cert.RegroupRefIdeal.τ Cert.RegroupRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Chain (m : (ℓ : Loc Cert.Chain.nD Cert.Chain.τ Cert.Chain.sig) → Buf (Elt Bits) ℓ) : Prop :=
  True

def Pre_ChainIdeal (m : (ℓ : Loc Cert.ChainIdeal.nD Cert.ChainIdeal.τ Cert.ChainIdeal.sig) → Buf (Elt Ideal) ℓ) : Prop :=
  True

def Pre_ChainRefIdeal (m : (ℓ : Loc Cert.ChainRefIdeal.nD Cert.ChainRefIdeal.τ Cert.ChainRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Regroup [hRegroup : Cert.Regroup.Facts] : Prop :=
  ∀ (m : (ℓ : Loc Cert.Regroup.nD Cert.Regroup.τ Cert.Regroup.sig) → Buf (Elt Bits) ℓ) (g : Dev Cert.Regroup.nD → PrngReg), Pre_Regroup m →
    θ_run (Cert.Regroup.defs (F := Bits)) (onTc (τ := Cert.Regroup.τ) (Cert.Regroup.main (F := Bits))) ⟨m, fun _ => 0, g⟩ (fun r => (∀ c : Dev Cert.Regroup.nD,
      r.2.mem ((c.tc : Thread Cert.Regroup.nD Cert.Regroup.τ).loc Cert.Regroup.main_arg0) = m ((c.tc : Thread Cert.Regroup.nD Cert.Regroup.τ).loc Cert.Regroup.main_arg0))
      ∧ r.2.sem = fun _ => 0)

def quiescent_RegroupIdeal [hRegroupIdeal : Cert.RegroupIdeal.Facts] : Prop :=
  ∀ (m : (ℓ : Loc Cert.RegroupIdeal.nD Cert.RegroupIdeal.τ Cert.RegroupIdeal.sig) → Buf (Elt Ideal) ℓ) (g : Dev Cert.RegroupIdeal.nD → PrngReg), Pre_RegroupIdeal m →
    θ_run (Cert.RegroupIdeal.defs (F := Ideal)) (onTc (τ := Cert.RegroupIdeal.τ) (Cert.RegroupIdeal.main (F := Ideal))) ⟨m, fun _ => 0, g⟩ (fun r => (∀ c : Dev Cert.RegroupIdeal.nD,
      r.2.mem ((c.tc : Thread Cert.RegroupIdeal.nD Cert.RegroupIdeal.τ).loc Cert.RegroupIdeal.main_arg0) = m ((c.tc : Thread Cert.RegroupIdeal.nD Cert.RegroupIdeal.τ).loc Cert.RegroupIdeal.main_arg0))
      ∧ r.2.sem = fun _ => 0)

def quiescent_RegroupRefIdeal [hRegroupRefIdeal : Cert.RegroupRefIdeal.Facts] : Prop :=
  ∀ (m : (ℓ : Loc Cert.RegroupRefIdeal.nD Cert.RegroupRefIdeal.τ Cert.RegroupRefIdeal.sig) → Buf (Elt Ideal) ℓ) (g : Dev Cert.RegroupRefIdeal.nD → PrngReg), Pre_RegroupRefIdeal m →
    θ_run (Cert.RegroupRefIdeal.defs (F := Ideal)) (onTc (τ := Cert.RegroupRefIdeal.τ) (Cert.RegroupRefIdeal.main (F := Ideal))) ⟨m, fun _ => 0, g⟩ (fun r => (∀ c : Dev Cert.RegroupRefIdeal.nD,
      r.2.mem ((c.tc : Thread Cert.RegroupRefIdeal.nD Cert.RegroupRefIdeal.τ).loc Cert.RegroupRefIdeal.main_arg0) = m ((c.tc : Thread Cert.RegroupRefIdeal.nD Cert.RegroupRefIdeal.τ).loc Cert.RegroupRefIdeal.main_arg0))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7))
      ∧ r.2.sem = fun _ => 0)

def quiescent_Chain [hChain : Cert.Chain.Facts] : Prop :=
  ∀ (m : (ℓ : Loc Cert.Chain.nD Cert.Chain.τ Cert.Chain.sig) → Buf (Elt Bits) ℓ) (g : Dev Cert.Chain.nD → PrngReg), Pre_Chain m →
    θ_run (Cert.Chain.defs (F := Bits)) (onTc (τ := Cert.Chain.τ) (Cert.Chain.main (F := Bits))) ⟨m, fun _ => 0, g⟩ (fun r => (∀ c : Dev Cert.Chain.nD,
      r.2.mem ((c.tc : Thread Cert.Chain.nD Cert.Chain.τ).loc Cert.Chain.main_arg0) = m ((c.tc : Thread Cert.Chain.nD Cert.Chain.τ).loc Cert.Chain.main_arg0)
      ∧ r.2.mem ((c.tc : Thread Cert.Chain.nD Cert.Chain.τ).loc Cert.Chain.main_arg1) = m ((c.tc : Thread Cert.Chain.nD Cert.Chain.τ).loc Cert.Chain.main_arg1)
      ∧ r.2.mem ((c.tc : Thread Cert.Chain.nD Cert.Chain.τ).loc Cert.Chain.main_arg2) = m ((c.tc : Thread Cert.Chain.nD Cert.Chain.τ).loc Cert.Chain.main_arg2)
      ∧ r.2.mem ((c.tc : Thread Cert.Chain.nD Cert.Chain.τ).loc Cert.Chain.main_arg3) = m ((c.tc : Thread Cert.Chain.nD Cert.Chain.τ).loc Cert.Chain.main_arg3)
      ∧ r.2.mem ((c.tc : Thread Cert.Chain.nD Cert.Chain.τ).loc Cert.Chain.main_arg4) = m ((c.tc : Thread Cert.Chain.nD Cert.Chain.τ).loc Cert.Chain.main_arg4)
      ∧ r.2.mem ((c.tc : Thread Cert.Chain.nD Cert.Chain.τ).loc Cert.Chain.main_arg5) = m ((c.tc : Thread Cert.Chain.nD Cert.Chain.τ).loc Cert.Chain.main_arg5)
      ∧ r.2.mem ((c.tc : Thread Cert.Chain.nD Cert.Chain.τ).loc Cert.Chain.main_arg6) = m ((c.tc : Thread Cert.Chain.nD Cert.Chain.τ).loc Cert.Chain.main_arg6)
      ∧ r.2.mem ((c.tc : Thread Cert.Chain.nD Cert.Chain.τ).loc Cert.Chain.main_arg7) = m ((c.tc : Thread Cert.Chain.nD Cert.Chain.τ).loc Cert.Chain.main_arg7)
      ∧ r.2.mem ((c.tc : Thread Cert.Chain.nD Cert.Chain.τ).loc Cert.Chain.main_arg8) = m ((c.tc : Thread Cert.Chain.nD Cert.Chain.τ).loc Cert.Chain.main_arg8)
      ∧ r.2.mem ((c.tc : Thread Cert.Chain.nD Cert.Chain.τ).loc Cert.Chain.main_arg9) = m ((c.tc : Thread Cert.Chain.nD Cert.Chain.τ).loc Cert.Chain.main_arg9)
      ∧ r.2.mem ((c.tc : Thread Cert.Chain.nD Cert.Chain.τ).loc Cert.Chain.main_arg10) = m ((c.tc : Thread Cert.Chain.nD Cert.Chain.τ).loc Cert.Chain.main_arg10)
      ∧ r.2.mem ((c.tc : Thread Cert.Chain.nD Cert.Chain.τ).loc Cert.Chain.main_arg11) = m ((c.tc : Thread Cert.Chain.nD Cert.Chain.τ).loc Cert.Chain.main_arg11))
      ∧ r.2.sem = fun _ => 0)

def quiescent_ChainIdeal [hChainIdeal : Cert.ChainIdeal.Facts] : Prop :=
  ∀ (m : (ℓ : Loc Cert.ChainIdeal.nD Cert.ChainIdeal.τ Cert.ChainIdeal.sig) → Buf (Elt Ideal) ℓ) (g : Dev Cert.ChainIdeal.nD → PrngReg), Pre_ChainIdeal m →
    θ_run (Cert.ChainIdeal.defs (F := Ideal)) (onTc (τ := Cert.ChainIdeal.τ) (Cert.ChainIdeal.main (F := Ideal))) ⟨m, fun _ => 0, g⟩ (fun r => (∀ c : Dev Cert.ChainIdeal.nD,
      r.2.mem ((c.tc : Thread Cert.ChainIdeal.nD Cert.ChainIdeal.τ).loc Cert.ChainIdeal.main_arg0) = m ((c.tc : Thread Cert.ChainIdeal.nD Cert.ChainIdeal.τ).loc Cert.ChainIdeal.main_arg0)
      ∧ r.2.mem ((c.tc : Thread Cert.ChainIdeal.nD Cert.ChainIdeal.τ).loc Cert.ChainIdeal.main_arg1) = m ((c.tc : Thread Cert.ChainIdeal.nD Cert.ChainIdeal.τ).loc Cert.ChainIdeal.main_arg1)
      ∧ r.2.mem ((c.tc : Thread Cert.ChainIdeal.nD Cert.ChainIdeal.τ).loc Cert.ChainIdeal.main_arg2) = m ((c.tc : Thread Cert.ChainIdeal.nD Cert.ChainIdeal.τ).loc Cert.ChainIdeal.main_arg2)
      ∧ r.2.mem ((c.tc : Thread Cert.ChainIdeal.nD Cert.ChainIdeal.τ).loc Cert.ChainIdeal.main_arg3) = m ((c.tc : Thread Cert.ChainIdeal.nD Cert.ChainIdeal.τ).loc Cert.ChainIdeal.main_arg3)
      ∧ r.2.mem ((c.tc : Thread Cert.ChainIdeal.nD Cert.ChainIdeal.τ).loc Cert.ChainIdeal.main_arg4) = m ((c.tc : Thread Cert.ChainIdeal.nD Cert.ChainIdeal.τ).loc Cert.ChainIdeal.main_arg4)
      ∧ r.2.mem ((c.tc : Thread Cert.ChainIdeal.nD Cert.ChainIdeal.τ).loc Cert.ChainIdeal.main_arg5) = m ((c.tc : Thread Cert.ChainIdeal.nD Cert.ChainIdeal.τ).loc Cert.ChainIdeal.main_arg5)
      ∧ r.2.mem ((c.tc : Thread Cert.ChainIdeal.nD Cert.ChainIdeal.τ).loc Cert.ChainIdeal.main_arg6) = m ((c.tc : Thread Cert.ChainIdeal.nD Cert.ChainIdeal.τ).loc Cert.ChainIdeal.main_arg6)
      ∧ r.2.mem ((c.tc : Thread Cert.ChainIdeal.nD Cert.ChainIdeal.τ).loc Cert.ChainIdeal.main_arg7) = m ((c.tc : Thread Cert.ChainIdeal.nD Cert.ChainIdeal.τ).loc Cert.ChainIdeal.main_arg7)
      ∧ r.2.mem ((c.tc : Thread Cert.ChainIdeal.nD Cert.ChainIdeal.τ).loc Cert.ChainIdeal.main_arg8) = m ((c.tc : Thread Cert.ChainIdeal.nD Cert.ChainIdeal.τ).loc Cert.ChainIdeal.main_arg8)
      ∧ r.2.mem ((c.tc : Thread Cert.ChainIdeal.nD Cert.ChainIdeal.τ).loc Cert.ChainIdeal.main_arg9) = m ((c.tc : Thread Cert.ChainIdeal.nD Cert.ChainIdeal.τ).loc Cert.ChainIdeal.main_arg9)
      ∧ r.2.mem ((c.tc : Thread Cert.ChainIdeal.nD Cert.ChainIdeal.τ).loc Cert.ChainIdeal.main_arg10) = m ((c.tc : Thread Cert.ChainIdeal.nD Cert.ChainIdeal.τ).loc Cert.ChainIdeal.main_arg10)
      ∧ r.2.mem ((c.tc : Thread Cert.ChainIdeal.nD Cert.ChainIdeal.τ).loc Cert.ChainIdeal.main_arg11) = m ((c.tc : Thread Cert.ChainIdeal.nD Cert.ChainIdeal.τ).loc Cert.ChainIdeal.main_arg11))
      ∧ r.2.sem = fun _ => 0)

def quiescent_ChainRefIdeal [hChainRefIdeal : Cert.ChainRefIdeal.Facts] : Prop :=
  ∀ (m : (ℓ : Loc Cert.ChainRefIdeal.nD Cert.ChainRefIdeal.τ Cert.ChainRefIdeal.sig) → Buf (Elt Ideal) ℓ) (g : Dev Cert.ChainRefIdeal.nD → PrngReg), Pre_ChainRefIdeal m →
    θ_run (Cert.ChainRefIdeal.defs (F := Ideal)) (onTc (τ := Cert.ChainRefIdeal.τ) (Cert.ChainRefIdeal.main (F := Ideal))) ⟨m, fun _ => 0, g⟩ (fun r => (∀ c : Dev Cert.ChainRefIdeal.nD,
      r.2.mem ((c.tc : Thread Cert.ChainRefIdeal.nD Cert.ChainRefIdeal.τ).loc Cert.ChainRefIdeal.main_arg0) = m ((c.tc : Thread Cert.ChainRefIdeal.nD Cert.ChainRefIdeal.τ).loc Cert.ChainRefIdeal.main_arg0)
      ∧ r.2.mem ((c.tc : Thread Cert.ChainRefIdeal.nD Cert.ChainRefIdeal.τ).loc Cert.ChainRefIdeal.main_arg1) = m ((c.tc : Thread Cert.ChainRefIdeal.nD Cert.ChainRefIdeal.τ).loc Cert.ChainRefIdeal.main_arg1)
      ∧ r.2.mem ((c.tc : Thread Cert.ChainRefIdeal.nD Cert.ChainRefIdeal.τ).loc Cert.ChainRefIdeal.main_arg2) = m ((c.tc : Thread Cert.ChainRefIdeal.nD Cert.ChainRefIdeal.τ).loc Cert.ChainRefIdeal.main_arg2)
      ∧ r.2.mem ((c.tc : Thread Cert.ChainRefIdeal.nD Cert.ChainRefIdeal.τ).loc Cert.ChainRefIdeal.main_arg3) = m ((c.tc : Thread Cert.ChainRefIdeal.nD Cert.ChainRefIdeal.τ).loc Cert.ChainRefIdeal.main_arg3)
      ∧ r.2.mem ((c.tc : Thread Cert.ChainRefIdeal.nD Cert.ChainRefIdeal.τ).loc Cert.ChainRefIdeal.main_arg4) = m ((c.tc : Thread Cert.ChainRefIdeal.nD Cert.ChainRefIdeal.τ).loc Cert.ChainRefIdeal.main_arg4)
      ∧ r.2.mem ((c.tc : Thread Cert.ChainRefIdeal.nD Cert.ChainRefIdeal.τ).loc Cert.ChainRefIdeal.main_arg5) = m ((c.tc : Thread Cert.ChainRefIdeal.nD Cert.ChainRefIdeal.τ).loc Cert.ChainRefIdeal.main_arg5)
      ∧ r.2.mem ((c.tc : Thread Cert.ChainRefIdeal.nD Cert.ChainRefIdeal.τ).loc Cert.ChainRefIdeal.main_arg6) = m ((c.tc : Thread Cert.ChainRefIdeal.nD Cert.ChainRefIdeal.τ).loc Cert.ChainRefIdeal.main_arg6)
      ∧ r.2.mem ((c.tc : Thread Cert.ChainRefIdeal.nD Cert.ChainRefIdeal.τ).loc Cert.ChainRefIdeal.main_arg7) = m ((c.tc : Thread Cert.ChainRefIdeal.nD Cert.ChainRefIdeal.τ).loc Cert.ChainRefIdeal.main_arg7)
      ∧ r.2.mem ((c.tc : Thread Cert.ChainRefIdeal.nD Cert.ChainRefIdeal.τ).loc Cert.ChainRefIdeal.main_arg8) = m ((c.tc : Thread Cert.ChainRefIdeal.nD Cert.ChainRefIdeal.τ).loc Cert.ChainRefIdeal.main_arg8)
      ∧ r.2.mem ((c.tc : Thread Cert.ChainRefIdeal.nD Cert.ChainRefIdeal.τ).loc Cert.ChainRefIdeal.main_arg9) = m ((c.tc : Thread Cert.ChainRefIdeal.nD Cert.ChainRefIdeal.τ).loc Cert.ChainRefIdeal.main_arg9)
      ∧ r.2.mem ((c.tc : Thread Cert.ChainRefIdeal.nD Cert.ChainRefIdeal.τ).loc Cert.ChainRefIdeal.main_arg10) = m ((c.tc : Thread Cert.ChainRefIdeal.nD Cert.ChainRefIdeal.τ).loc Cert.ChainRefIdeal.main_arg10)
      ∧ r.2.mem ((c.tc : Thread Cert.ChainRefIdeal.nD Cert.ChainRefIdeal.τ).loc Cert.ChainRefIdeal.main_arg11) = m ((c.tc : Thread Cert.ChainRefIdeal.nD Cert.ChainRefIdeal.τ).loc Cert.ChainRefIdeal.main_arg11))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v8) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v19) = v0 c
          ∧ r.2.mem ((c.tc : Thread Cert.InProjRefIdeal.nD Cert.InProjRefIdeal.τ).loc Cert.InProjRefIdeal.main_v18) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_v18) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v45) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Regroup_RegroupIdeal : Prop :=
  True

def algebraic_RegroupIdeal_RegroupRefIdeal [hRegroupIdeal : Cert.RegroupIdeal.Facts] [hRegroupRefIdeal : Cert.RegroupRefIdeal.Facts] : Prop :=
  ∀ (m : (ℓ : Loc Cert.RegroupIdeal.nD Cert.RegroupIdeal.τ Cert.RegroupIdeal.sig) → Buf (Elt Ideal) ℓ) (g : Dev Cert.RegroupIdeal.nD → PrngReg)
    (m' : (ℓ : Loc Cert.RegroupRefIdeal.nD Cert.RegroupRefIdeal.τ Cert.RegroupRefIdeal.sig) → Buf (Elt Ideal) ℓ) (g' : Dev Cert.RegroupRefIdeal.nD → PrngReg), Pre_RegroupIdeal m →
    (∀ c : Dev Cert.RegroupIdeal.nD,
      m' ((c.tc : Thread Cert.RegroupRefIdeal.nD Cert.RegroupRefIdeal.τ).loc Cert.RegroupRefIdeal.main_arg0) = m ((c.tc : Thread Cert.RegroupIdeal.nD Cert.RegroupIdeal.τ).loc Cert.RegroupIdeal.main_arg0)) →
    ∃ (v0 : (c : Dev Cert.RegroupIdeal.nD) → Buf (Elt Ideal) ((c.tc : Thread Cert.RegroupIdeal.nD Cert.RegroupIdeal.τ).loc Cert.RegroupIdeal.main_v1)),
      θ_run (Cert.RegroupIdeal.defs (F := Ideal)) (onTc (τ := Cert.RegroupIdeal.τ) (Cert.RegroupIdeal.main (F := Ideal))) ⟨m, fun _ => 0, g⟩ (fun r => ∀ c : Dev Cert.RegroupIdeal.nD,
          r.2.mem ((c.tc : Thread Cert.RegroupIdeal.nD Cert.RegroupIdeal.τ).loc Cert.RegroupIdeal.main_v1) = v0 c
          ∧ r.2.mem ((c.tc : Thread Cert.RegroupIdeal.nD Cert.RegroupIdeal.τ).loc Cert.RegroupIdeal.main_arg0) = m ((c.tc : Thread Cert.RegroupIdeal.nD Cert.RegroupIdeal.τ).loc Cert.RegroupIdeal.main_arg0))
      ∧ θ_run (Cert.RegroupRefIdeal.defs (F := Ideal)) (onTc (τ := Cert.RegroupRefIdeal.τ) (Cert.RegroupRefIdeal.main (F := Ideal))) ⟨m', fun _ => 0, g'⟩ (fun r => ∀ c : Dev Cert.RegroupRefIdeal.nD,
          r.2.mem ((c.tc : Thread Cert.RegroupRefIdeal.nD Cert.RegroupRefIdeal.τ).loc Cert.RegroupRefIdeal.main_v6) = v0 c
          ∧ r.2.mem ((c.tc : Thread Cert.RegroupRefIdeal.nD Cert.RegroupRefIdeal.τ).loc Cert.RegroupRefIdeal.main_arg0) = m' ((c.tc : Thread Cert.RegroupRefIdeal.nD Cert.RegroupRefIdeal.τ).loc Cert.RegroupRefIdeal.main_arg0))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)) →
    ∃ (v0 : (c : Dev Cert.TailIdeal.nD) → Buf (Elt Ideal) ((c.tc : Thread Cert.TailIdeal.nD Cert.TailIdeal.τ).loc Cert.TailIdeal.main_v2)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v2) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v25) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7))

def preserves_Chain_ChainIdeal : Prop :=
  True

def algebraic_ChainIdeal_ChainRefIdeal [hChainIdeal : Cert.ChainIdeal.Facts] [hChainRefIdeal : Cert.ChainRefIdeal.Facts] : Prop :=
  ∀ (m : (ℓ : Loc Cert.ChainIdeal.nD Cert.ChainIdeal.τ Cert.ChainIdeal.sig) → Buf (Elt Ideal) ℓ) (g : Dev Cert.ChainIdeal.nD → PrngReg)
    (m' : (ℓ : Loc Cert.ChainRefIdeal.nD Cert.ChainRefIdeal.τ Cert.ChainRefIdeal.sig) → Buf (Elt Ideal) ℓ) (g' : Dev Cert.ChainRefIdeal.nD → PrngReg), Pre_ChainIdeal m →
    (∀ c : Dev Cert.ChainIdeal.nD,
      m' ((c.tc : Thread Cert.ChainRefIdeal.nD Cert.ChainRefIdeal.τ).loc Cert.ChainRefIdeal.main_arg0) = m ((c.tc : Thread Cert.ChainIdeal.nD Cert.ChainIdeal.τ).loc Cert.ChainIdeal.main_arg0)
      ∧ m' ((c.tc : Thread Cert.ChainRefIdeal.nD Cert.ChainRefIdeal.τ).loc Cert.ChainRefIdeal.main_arg1) = m ((c.tc : Thread Cert.ChainIdeal.nD Cert.ChainIdeal.τ).loc Cert.ChainIdeal.main_arg1)
      ∧ m' ((c.tc : Thread Cert.ChainRefIdeal.nD Cert.ChainRefIdeal.τ).loc Cert.ChainRefIdeal.main_arg2) = m ((c.tc : Thread Cert.ChainIdeal.nD Cert.ChainIdeal.τ).loc Cert.ChainIdeal.main_arg2)
      ∧ m' ((c.tc : Thread Cert.ChainRefIdeal.nD Cert.ChainRefIdeal.τ).loc Cert.ChainRefIdeal.main_arg3) = m ((c.tc : Thread Cert.ChainIdeal.nD Cert.ChainIdeal.τ).loc Cert.ChainIdeal.main_arg3)
      ∧ m' ((c.tc : Thread Cert.ChainRefIdeal.nD Cert.ChainRefIdeal.τ).loc Cert.ChainRefIdeal.main_arg4) = m ((c.tc : Thread Cert.ChainIdeal.nD Cert.ChainIdeal.τ).loc Cert.ChainIdeal.main_arg4)
      ∧ m' ((c.tc : Thread Cert.ChainRefIdeal.nD Cert.ChainRefIdeal.τ).loc Cert.ChainRefIdeal.main_arg5) = m ((c.tc : Thread Cert.ChainIdeal.nD Cert.ChainIdeal.τ).loc Cert.ChainIdeal.main_arg5)
      ∧ m' ((c.tc : Thread Cert.ChainRefIdeal.nD Cert.ChainRefIdeal.τ).loc Cert.ChainRefIdeal.main_arg6) = m ((c.tc : Thread Cert.ChainIdeal.nD Cert.ChainIdeal.τ).loc Cert.ChainIdeal.main_arg6)
      ∧ m' ((c.tc : Thread Cert.ChainRefIdeal.nD Cert.ChainRefIdeal.τ).loc Cert.ChainRefIdeal.main_arg7) = m ((c.tc : Thread Cert.ChainIdeal.nD Cert.ChainIdeal.τ).loc Cert.ChainIdeal.main_arg7)
      ∧ m' ((c.tc : Thread Cert.ChainRefIdeal.nD Cert.ChainRefIdeal.τ).loc Cert.ChainRefIdeal.main_arg8) = m ((c.tc : Thread Cert.ChainIdeal.nD Cert.ChainIdeal.τ).loc Cert.ChainIdeal.main_arg8)
      ∧ m' ((c.tc : Thread Cert.ChainRefIdeal.nD Cert.ChainRefIdeal.τ).loc Cert.ChainRefIdeal.main_arg9) = m ((c.tc : Thread Cert.ChainIdeal.nD Cert.ChainIdeal.τ).loc Cert.ChainIdeal.main_arg9)
      ∧ m' ((c.tc : Thread Cert.ChainRefIdeal.nD Cert.ChainRefIdeal.τ).loc Cert.ChainRefIdeal.main_arg10) = m ((c.tc : Thread Cert.ChainIdeal.nD Cert.ChainIdeal.τ).loc Cert.ChainIdeal.main_arg10)
      ∧ m' ((c.tc : Thread Cert.ChainRefIdeal.nD Cert.ChainRefIdeal.τ).loc Cert.ChainRefIdeal.main_arg11) = m ((c.tc : Thread Cert.ChainIdeal.nD Cert.ChainIdeal.τ).loc Cert.ChainIdeal.main_arg11)) →
    ∃ (v0 : (c : Dev Cert.ChainIdeal.nD) → Buf (Elt Ideal) ((c.tc : Thread Cert.ChainIdeal.nD Cert.ChainIdeal.τ).loc Cert.ChainIdeal.main_v8)) (v1 : (c : Dev Cert.ChainIdeal.nD) → Buf (Elt Ideal) ((c.tc : Thread Cert.ChainIdeal.nD Cert.ChainIdeal.τ).loc Cert.ChainIdeal.main_v1_1)),
      θ_run (Cert.ChainIdeal.defs (F := Ideal)) (onTc (τ := Cert.ChainIdeal.τ) (Cert.ChainIdeal.main (F := Ideal))) ⟨m, fun _ => 0, g⟩ (fun r => ∀ c : Dev Cert.ChainIdeal.nD,
          r.2.mem ((c.tc : Thread Cert.ChainIdeal.nD Cert.ChainIdeal.τ).loc Cert.ChainIdeal.main_v8) = v0 c
          ∧ r.2.mem ((c.tc : Thread Cert.ChainIdeal.nD Cert.ChainIdeal.τ).loc Cert.ChainIdeal.main_v1_1) = v1 c
          ∧ r.2.mem ((c.tc : Thread Cert.ChainIdeal.nD Cert.ChainIdeal.τ).loc Cert.ChainIdeal.main_arg0) = m ((c.tc : Thread Cert.ChainIdeal.nD Cert.ChainIdeal.τ).loc Cert.ChainIdeal.main_arg0)
          ∧ r.2.mem ((c.tc : Thread Cert.ChainIdeal.nD Cert.ChainIdeal.τ).loc Cert.ChainIdeal.main_arg1) = m ((c.tc : Thread Cert.ChainIdeal.nD Cert.ChainIdeal.τ).loc Cert.ChainIdeal.main_arg1)
          ∧ r.2.mem ((c.tc : Thread Cert.ChainIdeal.nD Cert.ChainIdeal.τ).loc Cert.ChainIdeal.main_arg2) = m ((c.tc : Thread Cert.ChainIdeal.nD Cert.ChainIdeal.τ).loc Cert.ChainIdeal.main_arg2)
          ∧ r.2.mem ((c.tc : Thread Cert.ChainIdeal.nD Cert.ChainIdeal.τ).loc Cert.ChainIdeal.main_arg3) = m ((c.tc : Thread Cert.ChainIdeal.nD Cert.ChainIdeal.τ).loc Cert.ChainIdeal.main_arg3)
          ∧ r.2.mem ((c.tc : Thread Cert.ChainIdeal.nD Cert.ChainIdeal.τ).loc Cert.ChainIdeal.main_arg4) = m ((c.tc : Thread Cert.ChainIdeal.nD Cert.ChainIdeal.τ).loc Cert.ChainIdeal.main_arg4)
          ∧ r.2.mem ((c.tc : Thread Cert.ChainIdeal.nD Cert.ChainIdeal.τ).loc Cert.ChainIdeal.main_arg5) = m ((c.tc : Thread Cert.ChainIdeal.nD Cert.ChainIdeal.τ).loc Cert.ChainIdeal.main_arg5)
          ∧ r.2.mem ((c.tc : Thread Cert.ChainIdeal.nD Cert.ChainIdeal.τ).loc Cert.ChainIdeal.main_arg6) = m ((c.tc : Thread Cert.ChainIdeal.nD Cert.ChainIdeal.τ).loc Cert.ChainIdeal.main_arg6)
          ∧ r.2.mem ((c.tc : Thread Cert.ChainIdeal.nD Cert.ChainIdeal.τ).loc Cert.ChainIdeal.main_arg7) = m ((c.tc : Thread Cert.ChainIdeal.nD Cert.ChainIdeal.τ).loc Cert.ChainIdeal.main_arg7)
          ∧ r.2.mem ((c.tc : Thread Cert.ChainIdeal.nD Cert.ChainIdeal.τ).loc Cert.ChainIdeal.main_arg8) = m ((c.tc : Thread Cert.ChainIdeal.nD Cert.ChainIdeal.τ).loc Cert.ChainIdeal.main_arg8)
          ∧ r.2.mem ((c.tc : Thread Cert.ChainIdeal.nD Cert.ChainIdeal.τ).loc Cert.ChainIdeal.main_arg9) = m ((c.tc : Thread Cert.ChainIdeal.nD Cert.ChainIdeal.τ).loc Cert.ChainIdeal.main_arg9)
          ∧ r.2.mem ((c.tc : Thread Cert.ChainIdeal.nD Cert.ChainIdeal.τ).loc Cert.ChainIdeal.main_arg10) = m ((c.tc : Thread Cert.ChainIdeal.nD Cert.ChainIdeal.τ).loc Cert.ChainIdeal.main_arg10)
          ∧ r.2.mem ((c.tc : Thread Cert.ChainIdeal.nD Cert.ChainIdeal.τ).loc Cert.ChainIdeal.main_arg11) = m ((c.tc : Thread Cert.ChainIdeal.nD Cert.ChainIdeal.τ).loc Cert.ChainIdeal.main_arg11))
      ∧ θ_run (Cert.ChainRefIdeal.defs (F := Ideal)) (onTc (τ := Cert.ChainRefIdeal.τ) (Cert.ChainRefIdeal.main (F := Ideal))) ⟨m', fun _ => 0, g'⟩ (fun r => ∀ c : Dev Cert.ChainRefIdeal.nD,
          r.2.mem ((c.tc : Thread Cert.ChainRefIdeal.nD Cert.ChainRefIdeal.τ).loc Cert.ChainRefIdeal.main_v88) = v0 c
          ∧ r.2.mem ((c.tc : Thread Cert.ChainRefIdeal.nD Cert.ChainRefIdeal.τ).loc Cert.ChainRefIdeal.main_v16) = v1 c
          ∧ r.2.mem ((c.tc : Thread Cert.ChainRefIdeal.nD Cert.ChainRefIdeal.τ).loc Cert.ChainRefIdeal.main_arg0) = m' ((c.tc : Thread Cert.ChainRefIdeal.nD Cert.ChainRefIdeal.τ).loc Cert.ChainRefIdeal.main_arg0)
          ∧ r.2.mem ((c.tc : Thread Cert.ChainRefIdeal.nD Cert.ChainRefIdeal.τ).loc Cert.ChainRefIdeal.main_arg1) = m' ((c.tc : Thread Cert.ChainRefIdeal.nD Cert.ChainRefIdeal.τ).loc Cert.ChainRefIdeal.main_arg1)
          ∧ r.2.mem ((c.tc : Thread Cert.ChainRefIdeal.nD Cert.ChainRefIdeal.τ).loc Cert.ChainRefIdeal.main_arg2) = m' ((c.tc : Thread Cert.ChainRefIdeal.nD Cert.ChainRefIdeal.τ).loc Cert.ChainRefIdeal.main_arg2)
          ∧ r.2.mem ((c.tc : Thread Cert.ChainRefIdeal.nD Cert.ChainRefIdeal.τ).loc Cert.ChainRefIdeal.main_arg3) = m' ((c.tc : Thread Cert.ChainRefIdeal.nD Cert.ChainRefIdeal.τ).loc Cert.ChainRefIdeal.main_arg3)
          ∧ r.2.mem ((c.tc : Thread Cert.ChainRefIdeal.nD Cert.ChainRefIdeal.τ).loc Cert.ChainRefIdeal.main_arg4) = m' ((c.tc : Thread Cert.ChainRefIdeal.nD Cert.ChainRefIdeal.τ).loc Cert.ChainRefIdeal.main_arg4)
          ∧ r.2.mem ((c.tc : Thread Cert.ChainRefIdeal.nD Cert.ChainRefIdeal.τ).loc Cert.ChainRefIdeal.main_arg5) = m' ((c.tc : Thread Cert.ChainRefIdeal.nD Cert.ChainRefIdeal.τ).loc Cert.ChainRefIdeal.main_arg5)
          ∧ r.2.mem ((c.tc : Thread Cert.ChainRefIdeal.nD Cert.ChainRefIdeal.τ).loc Cert.ChainRefIdeal.main_arg6) = m' ((c.tc : Thread Cert.ChainRefIdeal.nD Cert.ChainRefIdeal.τ).loc Cert.ChainRefIdeal.main_arg6)
          ∧ r.2.mem ((c.tc : Thread Cert.ChainRefIdeal.nD Cert.ChainRefIdeal.τ).loc Cert.ChainRefIdeal.main_arg7) = m' ((c.tc : Thread Cert.ChainRefIdeal.nD Cert.ChainRefIdeal.τ).loc Cert.ChainRefIdeal.main_arg7)
          ∧ r.2.mem ((c.tc : Thread Cert.ChainRefIdeal.nD Cert.ChainRefIdeal.τ).loc Cert.ChainRefIdeal.main_arg8) = m' ((c.tc : Thread Cert.ChainRefIdeal.nD Cert.ChainRefIdeal.τ).loc Cert.ChainRefIdeal.main_arg8)
          ∧ r.2.mem ((c.tc : Thread Cert.ChainRefIdeal.nD Cert.ChainRefIdeal.τ).loc Cert.ChainRefIdeal.main_arg9) = m' ((c.tc : Thread Cert.ChainRefIdeal.nD Cert.ChainRefIdeal.τ).loc Cert.ChainRefIdeal.main_arg9)
          ∧ r.2.mem ((c.tc : Thread Cert.ChainRefIdeal.nD Cert.ChainRefIdeal.τ).loc Cert.ChainRefIdeal.main_arg10) = m' ((c.tc : Thread Cert.ChainRefIdeal.nD Cert.ChainRefIdeal.τ).loc Cert.ChainRefIdeal.main_arg10)
          ∧ r.2.mem ((c.tc : Thread Cert.ChainRefIdeal.nD Cert.ChainRefIdeal.τ).loc Cert.ChainRefIdeal.main_arg11) = m' ((c.tc : Thread Cert.ChainRefIdeal.nD Cert.ChainRefIdeal.τ).loc Cert.ChainRefIdeal.main_arg11))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hConv : Cert.Conv.Facts) (hConvIdeal : Cert.ConvIdeal.Facts) (hConvRefIdeal : Cert.ConvRefIdeal.Facts) (hRegroup : Cert.Regroup.Facts) (hRegroupIdeal : Cert.RegroupIdeal.Facts) (hRegroupRefIdeal : Cert.RegroupRefIdeal.Facts) (hTail : Cert.Tail.Facts) (hTailIdeal : Cert.TailIdeal.Facts) (hTailRefIdeal : Cert.TailRefIdeal.Facts) (hChain : Cert.Chain.Facts) (hChainIdeal : Cert.ChainIdeal.Facts) (hChainRefIdeal : Cert.ChainRefIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Mlp (hMlp := hMlp)
    ∧ quiescent_MlpIdeal (hMlpIdeal := hMlpIdeal)
    ∧ quiescent_MlpRefIdeal (hMlpRefIdeal := hMlpRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Conv (hConv := hConv)
    ∧ quiescent_ConvIdeal (hConvIdeal := hConvIdeal)
    ∧ quiescent_ConvRefIdeal (hConvRefIdeal := hConvRefIdeal)
    ∧ quiescent_Regroup (hRegroup := hRegroup)
    ∧ quiescent_RegroupIdeal (hRegroupIdeal := hRegroupIdeal)
    ∧ quiescent_RegroupRefIdeal (hRegroupRefIdeal := hRegroupRefIdeal)
    ∧ quiescent_Tail (hTail := hTail)
    ∧ quiescent_TailIdeal (hTailIdeal := hTailIdeal)
    ∧ quiescent_TailRefIdeal (hTailRefIdeal := hTailRefIdeal)
    ∧ quiescent_Chain (hChain := hChain)
    ∧ quiescent_ChainIdeal (hChainIdeal := hChainIdeal)
    ∧ quiescent_ChainRefIdeal (hChainRefIdeal := hChainRefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Mlp_MlpIdeal
    ∧ algebraic_MlpIdeal_MlpRefIdeal (hMlpIdeal := hMlpIdeal) (hMlpRefIdeal := hMlpRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Conv_ConvIdeal
    ∧ algebraic_ConvIdeal_ConvRefIdeal (hConvIdeal := hConvIdeal) (hConvRefIdeal := hConvRefIdeal)
    ∧ preserves_Regroup_RegroupIdeal
    ∧ algebraic_RegroupIdeal_RegroupRefIdeal (hRegroupIdeal := hRegroupIdeal) (hRegroupRefIdeal := hRegroupRefIdeal)
    ∧ preserves_Tail_TailIdeal
    ∧ algebraic_TailIdeal_TailRefIdeal (hTailIdeal := hTailIdeal) (hTailRefIdeal := hTailRefIdeal)
    ∧ preserves_Chain_ChainIdeal
    ∧ algebraic_ChainIdeal_ChainRefIdeal (hChainIdeal := hChainIdeal) (hChainRefIdeal := hChainRefIdeal)
-- ==== Pre_finite_inputs.lean ====
abbrev S8x2048x6400 : Shape := ⟨3, ![8, 2048, 6400]⟩
abbrev S64 : Shape := ⟨1, ![64]⟩
abbrev S8 : Shape := ⟨1, ![8]⟩
abbrev S512 : Shape := ⟨1, ![512]⟩
abbrev S_ : Shape := ⟨0, ![]⟩

class Facts : Prop where
  bitsLt_bf16_f32 : FTy.bits .bf16 < FTy.bits .f32
  bcast_S_S8x2048x6400 : S_.BroadcastsInDim S8x2048x6400 (![] : Fin 0 → Fin S8x2048x6400.rank)
  bcast_S_S64 : S_.BroadcastsInDim S64 (![] : Fin 0 → Fin S64.rank)
  bcast_S_S8 : S_.BroadcastsInDim S8 (![] : Fin 0 → Fin S8.rank)
  bcast_S_S512 : S_.BroadcastsInDim S512 (![] : Fin 0 → Fin S512.rank)

variable [Facts]

def fn {F : FTy → Type} [FloatOps F] (main_arg0 : FVec F S8x2048x6400 .bf16) (main_arg1 : FVec F S64 .f32) (main_arg2 : FVec F S64 .f32) (main_arg3 : FVec F S8 .f32) (main_arg4 : FVec F S512 .f32) : IVec S8x2048x6400 1 × IVec S64 1 × IVec S64 1 × IVec S8 1 × IVec S512 1 :=
  let main_v0 : FVec F S8x2048x6400 .f32 := (extf .f32 · bitsLt_bf16_f32) main_arg0
  let main_v1 : FVec F S8x2048x6400 .f32 := Host.absf main_v0
  let main_cst : FVec F S_ .f32 := constant S_ .f32 0x7F800000#32
  let main_v2 : FVec F S8x2048x6400 .f32 := broadcastInDim S8x2048x6400 ![] bcast_S_S8x2048x6400 main_cst
  let main_v3 : IVec S8x2048x6400 1 := cmpf .olt main_v1 main_v2
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_v7 : FVec F S64 .f32 := Host.absf main_arg2
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  let main_v10 : FVec F S8 .f32 := Host.absf main_arg3
  let main_cst_2 : FVec F S_ .f32 := constant S_ .f32 0x7F800000#32
  let main_v11 : FVec F S8 .f32 := broadcastInDim S8 ![] bcast_S_S8 main_cst_2
  let main_v12 : IVec S8 1 := cmpf .olt main_v10 main_v11
  let main_v13 : FVec F S512 .f32 := Host.absf main_arg4
  let main_cst_3 : FVec F S_ .f32 := constant S_ .f32 0x7F800000#32
  let main_v14 : FVec F S512 .f32 := broadcastInDim S512 ![] bcast_S_S512 main_cst_3
  let main_v15 : IVec S512 1 := cmpf .olt main_v13 main_v14
  (main_v3, main_v6, main_v9, main_v12, main_v15)
-- ==== Kernel.lean ====
abbrev S8x2048x6400 : Shape := ⟨3, ![8, 2048, 6400]⟩
abbrev S64 : Shape := ⟨1, ![64]⟩
abbrev S8 : Shape := ⟨1, ![8]⟩
abbrev S512 : Shape := ⟨1, ![512]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x512 : Shape := ⟨2, ![1, 512]⟩
abbrev S8x2048x512 : Shape := ⟨3, ![8, 2048, 512]⟩
abbrev S2x2048x512 : Shape := ⟨3, ![2, 2048, 512]⟩
abbrev S2x2048x128 : Shape := ⟨3, ![2, 2048, 128]⟩
abbrev S2x2x2176x128 : Shape := ⟨4, ![2, 2, 2176, 128]⟩
abbrev S128x128 : Shape := ⟨2, ![128, 128]⟩
abbrev S1x2048x128 : Shape := ⟨3, ![1, 2048, 128]⟩
abbrev S2048x128 : Shape := ⟨2, ![2048, 128]⟩
abbrev S1x1x128x128 : Shape := ⟨4, ![1, 1, 128, 128]⟩
abbrev S1x1x2048x128 : Shape := ⟨4, ![1, 1, 2048, 128]⟩
abbrev S128x256 : Shape := ⟨2, ![128, 256]⟩
abbrev S1x128x128 : Shape := ⟨3, ![1, 128, 128]⟩
abbrev S1x1x256x128 : Shape := ⟨4, ![1, 1, 256, 128]⟩
abbrev S256x128 : Shape := ⟨2, ![256, 128]⟩
abbrev S1 : Shape := ⟨1, ![1]⟩
abbrev S128x1 : Shape := ⟨2, ![128, 1]⟩
abbrev S128x512 : Shape := ⟨2, ![128, 512]⟩
abbrev S1x128x512 : Shape := ⟨3, ![1, 128, 512]⟩

abbrev nBuf : Space → Nat
  | .hbm => 15
  | .vmem => 13
  | .smem => 1
  | _ => 0

abbrev bufTy : (tb : Table) → Fin (tcTables nBuf tb) → BufTy
  | .hbm, ⟨0, _⟩ => ⟨S8x2048x6400, .bf16⟩
  | .hbm, ⟨1, _⟩ => ⟨S64, .f32⟩
  | .hbm, ⟨2, _⟩ => ⟨S64, .f32⟩
  | .hbm, ⟨3, _⟩ => ⟨S8, .f32⟩
  | .hbm, ⟨4, _⟩ => ⟨S512, .f32⟩
  | .hbm, ⟨5, _⟩ => ⟨S1x64, .f32⟩
  | .hbm, ⟨6, _⟩ => ⟨S2x64, .f32⟩
  | .hbm, ⟨7, _⟩ => ⟨S128, .f32⟩
  | .hbm, ⟨8, _⟩ => ⟨S1x128, .f32⟩
  | .hbm, ⟨9, _⟩ => ⟨S1x64, .f32⟩
  | .hbm, ⟨10, _⟩ => ⟨S2x64, .f32⟩
  | .hbm, ⟨11, _⟩ => ⟨S128, .f32⟩
  | .hbm, ⟨12, _⟩ => ⟨S1x128, .f32⟩
  | .hbm, ⟨13, _⟩ => ⟨S1x512, .f32⟩
  | .hbm, ⟨14, _⟩ => ⟨S8x2048x512, .bf16⟩
  | .local _ .vmem, ⟨0, _⟩ => ⟨S2x2048x512, .bf16⟩
  | .local _ .vmem, ⟨1, _⟩ => ⟨S2x2048x512, .bf16⟩
  | .local _ .vmem, ⟨2, _⟩ => ⟨S2x2048x128, .bf16⟩
  | .local _ .vmem, ⟨3, _⟩ => ⟨S2x2048x128, .bf16⟩
  | .local _ .vmem, ⟨4, _⟩ => ⟨S2x2048x128, .bf16⟩
  | .local _ .vmem, ⟨5, _⟩ => ⟨S2x2048x128, .bf16⟩
  | .local _ .vmem, ⟨6, _⟩ => ⟨S1x128, .f32⟩
  | .local _ .vmem, ⟨7, _⟩ => ⟨S1x128, .f32⟩
  | .local _ .vmem, ⟨8, _⟩ => ⟨S1x512, .f32⟩
  | .local _ .vmem, ⟨9, _⟩ => ⟨S2x2048x512, .bf16⟩
  | .local _ .vmem, ⟨10, _⟩ => ⟨S2x2048x512, .bf16⟩
  | .local _ .vmem, ⟨11, _⟩ => ⟨S2x2x2176x128, .bf16⟩
  | .local _ .vmem, ⟨12, _⟩ => ⟨S2x2x2176x128, .bf16⟩
  | .local _ .smem, ⟨0, _⟩ => ⟨S8, .f32⟩
  | _, _ => ⟨S8x2048x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_111 : BitVec 32 := 0#32
  let c16_i32 : BitVec 32 := 16#32
  let v215 : BitVec 32 := Scalar.addi c0_i32_111 c16_i32
  let c1_i32_112 : BitVec 32 := 1#32
  ⟨c0_i32_111, v215, c1_i32_112⟩
def k0_mult1 (k0_t1 : Fin k0_t1_loop.trips) : BitVec 32 :=
  let c0_i32_111 : BitVec 32 := 0#32
  let c1_i32_112 : BitVec 32 := 1#32
  let arg11 : BitVec 32 := Scf.iv c0_i32_111 c1_i32_112 k0_t1
  let c128_i32_114 : BitVec 32 := 128#32
  let v216 : BitVec 32 := Scalar.muli arg11 c128_i32_114
  v216
def k0_off1 (k0_t1 : Fin k0_t1_loop.trips) : Fin 3 → Nat :=
  let c0_116 : Index := 0#32
  let c0_i32_111 : BitVec 32 := 0#32
  let c1_i32_112 : BitVec 32 := 1#32
  let arg11 : BitVec 32 := Scf.iv c0_i32_111 c1_i32_112 k0_t1
  let c128_i32_114 : BitVec 32 := 128#32
  let v216 : BitVec 32 := Scalar.muli arg11 c128_i32_114
  let v217 : BitVec 32 := v216
  let v222 : Index := Scalar.indexCast v217
  let c0_117 : Index := 0#32
  ![0, v222.toNat, 0]
def k0_off2 (k0_t1 : Fin k0_t1_loop.trips) : Fin 3 → Nat :=
  let c0_121 : Index := 0#32
  let c0_i32_111 : BitVec 32 := 0#32
  let c1_i32_112 : BitVec 32 := 1#32
  let arg11 : BitVec 32 := Scf.iv c0_i32_111 c1_i32_112 k0_t1
  let c128_i32_114 : BitVec 32 := 128#32
  let v216 : BitVec 32 := Scalar.muli arg11 c128_i32_114
  let v217 : BitVec 32 := v216
  let v244 : Index := Scalar.indexCast v217
  let c128_122 : Index := 128#32
  ![0, v244.toNat, 128]
def k0_off3 (k0_t1 : Fin k0_t1_loop.trips) : Fin 3 → Nat :=
  let c0_126 : Index := 0#32
  let c0_i32_111 : BitVec 32 := 0#32
  let c1_i32_112 : BitVec 32 := 1#32
  let arg11 : BitVec 32 := Scf.iv c0_i32_111 c1_i32_112 k0_t1
  let c128_i32_114 : BitVec 32 := 128#32
  let v216 : BitVec 32 := Scalar.muli arg11 c128_i32_114
  let v217 : BitVec 32 := v216
  let v266 : Index := Scalar.indexCast v217
  let c256 : Index := 256#32
  ![0, v266.toNat, 256]
def k0_off4 (k0_t1 : Fin k0_t1_loop.trips) : Fin 3 → Nat :=
  let c0_130 : Index := 0#32
  let c0_i32_111 : BitVec 32 := 0#32
  let c1_i32_112 : BitVec 32 := 1#32
  let arg11 : BitVec 32 := Scf.iv c0_i32_111 c1_i32_112 k0_t1
  let c128_i32_114 : BitVec 32 := 128#32
  let v216 : BitVec 32 := Scalar.muli arg11 c128_i32_114
  let v217 : BitVec 32 := v216
  let v288 : Index := Scalar.indexCast v217
  let c384 : Index := 384#32
  ![0, v288.toNat, 384]
def k0_off5 (k0_t1 : Fin k0_t1_loop.trips) : Fin 3 → Nat :=
  let c1_134 : Index := 1#32
  let c0_i32_111 : BitVec 32 := 0#32
  let c1_i32_112 : BitVec 32 := 1#32
  let arg11 : BitVec 32 := Scf.iv c0_i32_111 c1_i32_112 k0_t1
  let c128_i32_114 : BitVec 32 := 128#32
  let v216 : BitVec 32 := Scalar.muli arg11 c128_i32_114
  let v217 : BitVec 32 := v216
  let v310 : Index := Scalar.indexCast v217
  let c0_135 : Index := 0#32
  ![1, v310.toNat, 0]
def k0_off6 (k0_t1 : Fin k0_t1_loop.trips) : Fin 3 → Nat :=
  let c1_139 : Index := 1#32
  let c0_i32_111 : BitVec 32 := 0#32
  let c1_i32_112 : BitVec 32 := 1#32
  let arg11 : BitVec 32 := Scf.iv c0_i32_111 c1_i32_112 k0_t1
  let c128_i32_114 : BitVec 32 := 128#32
  let v216 : BitVec 32 := Scalar.muli arg11 c128_i32_114
  let v217 : BitVec 32 := v216
  let v332 : Index := Scalar.indexCast v217
  let c128_140 : Index := 128#32
  ![1, v332.toNat, 128]
def k0_off7 (k0_t1 : Fin k0_t1_loop.trips) : Fin 3 → Nat :=
  let c1_144 : Index := 1#32
  let c0_i32_111 : BitVec 32 := 0#32
  let c1_i32_112 : BitVec 32 := 1#32
  let arg11 : BitVec 32 := Scf.iv c0_i32_111 c1_i32_112 k0_t1
  let c128_i32_114 : BitVec 32 := 128#32
  let v216 : BitVec 32 := Scalar.muli arg11 c128_i32_114
  let v217 : BitVec 32 := v216
  let v354 : Index := Scalar.indexCast v217
  let c256_145 : Index := 256#32
  ![1, v354.toNat, 256]
def k0_off8 (k0_t1 : Fin k0_t1_loop.trips) : Fin 3 → Nat :=
  let c1_149 : Index := 1#32
  let c0_i32_111 : BitVec 32 := 0#32
  let c1_i32_112 : BitVec 32 := 1#32
  let arg11 : BitVec 32 := Scf.iv c0_i32_111 c1_i32_112 k0_t1
  let c128_i32_114 : BitVec 32 := 128#32
  let v216 : BitVec 32 := Scalar.muli arg11 c128_i32_114
  let v217 : BitVec 32 := v216
  let v376 : Index := Scalar.indexCast v217
  let c384_150 : Index := 384#32
  ![1, v376.toNat, 384]
def k0_off9 (k0_t1 : Fin k0_t1_loop.trips) : Fin 4 → Nat :=
  let c0_154 : Index := 0#32
  let c0_155 : Index := 0#32
  let c0_i32_111 : BitVec 32 := 0#32
  let c1_i32_112 : BitVec 32 := 1#32
  let arg11 : BitVec 32 := Scf.iv c0_i32_111 c1_i32_112 k0_t1
  let c128_i32_114 : BitVec 32 := 128#32
  let v216 : BitVec 32 := Scalar.muli arg11 c128_i32_114
  let v217 : BitVec 32 := v216
  let v398 : Index := Scalar.indexCast v217
  let c0_156 : Index := 0#32
  ![0, 0, v398.toNat, 0]
def k0_off10 (k0_t1 : Fin k0_t1_loop.trips) : Fin 4 → Nat :=
  let c0_174 : Index := 0#32
  let c1_175 : Index := 1#32
  let c0_i32_111 : BitVec 32 := 0#32
  let c1_i32_112 : BitVec 32 := 1#32
  let arg11 : BitVec 32 := Scf.iv c0_i32_111 c1_i32_112 k0_t1
  let c128_i32_114 : BitVec 32 := 128#32
  let v216 : BitVec 32 := Scalar.muli arg11 c128_i32_114
  let v217 : BitVec 32 := v216
  let v422 : Index := Scalar.indexCast v217
  let c0_176 : Index := 0#32
  ![0, 1, v422.toNat, 0]
def k0_off11 (k0_t1 : Fin k0_t1_loop.trips) : Fin 4 → Nat :=
  let c1_194 : Index := 1#32
  let c0_195 : Index := 0#32
  let c0_i32_111 : BitVec 32 := 0#32
  let c1_i32_112 : BitVec 32 := 1#32
  let arg11 : BitVec 32 := Scf.iv c0_i32_111 c1_i32_112 k0_t1
  let c128_i32_114 : BitVec 32 := 128#32
  let v216 : BitVec 32 := Scalar.muli arg11 c128_i32_114
  let v217 : BitVec 32 := v216
  let v446 : Index := Scalar.indexCast v217
  let c0_196 : Index := 0#32
  ![1, 0, v446.toNat, 0]
def k0_off12 (k0_t1 : Fin k0_t1_loop.trips) : Fin 4 → Nat :=
  let c1_214 : Index := 1#32
  let c1_215 : Index := 1#32
  let c0_i32_111 : BitVec 32 := 0#32
  let c1_i32_112 : BitVec 32 := 1#32
  let arg11 : BitVec 32 := Scf.iv c0_i32_111 c1_i32_112 k0_t1
  let c128_i32_114 : BitVec 32 := 128#32
  let v216 : BitVec 32 := Scalar.muli arg11 c128_i32_114
  let v217 : BitVec 32 := v216
  let v470 : Index := Scalar.indexCast v217
  let c0_216 : Index := 0#32
  ![1, 1, v470.toNat, 0]
def k0_off13 (k0_t1 : Fin k0_t1_loop.trips) : Fin 3 → Nat :=
  let c0_392 : Index := 0#32
  let c0_i32_111 : BitVec 32 := 0#32
  let c1_i32_112 : BitVec 32 := 1#32
  let arg11 : BitVec 32 := Scf.iv c0_i32_111 c1_i32_112 k0_t1
  let c128_i32_114 : BitVec 32 := 128#32
  let v216 : BitVec 32 := Scalar.muli arg11 c128_i32_114
  let v217 : BitVec 32 := v216
  let v956 : Index := Scalar.indexCast v217
  let c0_393 : Index := 0#32
  ![0, v956.toNat, 0]
def k0_off14 (k0_t1 : Fin k0_t1_loop.trips) : Fin 3 → Nat :=
  let c1_414 : Index := 1#32
  let c0_i32_111 : BitVec 32 := 0#32
  let c1_i32_112 : BitVec 32 := 1#32
  let arg11 : BitVec 32 := Scf.iv c0_i32_111 c1_i32_112 k0_t1
  let c128_i32_114 : BitVec 32 := 128#32
  let v216 : BitVec 32 := Scalar.muli arg11 c128_i32_114
  let v217 : BitVec 32 := v216
  let v1038 : Index := Scalar.indexCast v217
  let c0_415 : Index := 0#32
  ![1, v1038.toNat, 0]
def cc0_transform_0 (i : grid0.Coords) : Fin 3 → Nat :=
  let arg0 : BitVec 32 := BitVec.ofNat 32 (i 0).val
  let c0_i32 : BitVec 32 := 0#32
  let c11_i32 : BitVec 32 := 11#32
  let c0_i32_0 : BitVec 32 := 0#32
  ![arg0.toNat, c0_i32.toNat, c11_i32.toNat]

def cc0_transform_1 (i : grid0.Coords) : Fin 3 → Nat :=
  let arg0 : BitVec 32 := BitVec.ofNat 32 (i 0).val
  let c0_i32 : BitVec 32 := 0#32
  let c48_i32 : BitVec 32 := 48#32
  let c0_i32_0 : BitVec 32 := 0#32
  ![arg0.toNat, c0_i32.toNat, c48_i32.toNat]

def cc0_transform_2 (i : grid0.Coords) : Fin 3 → Nat :=
  let arg0 : BitVec 32 := BitVec.ofNat 32 (i 0).val
  let c0_i32 : BitVec 32 := 0#32
  let c49_i32 : BitVec 32 := 49#32
  let c0_i32_0 : BitVec 32 := 0#32
  ![arg0.toNat, c0_i32.toNat, c49_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "log2e" => some (((Real.log 2)⁻¹ : ℝ) : EReal)
  | "qscale" => some (((8 * (Real.log 2))⁻¹ : ℝ) : EReal)
  | _ => none
-- ==== ReferenceIdeal.lean ====
abbrev S8x2048x6400 : Shape := ⟨3, ![8, 2048, 6400]⟩
abbrev S64 : Shape := ⟨1, ![64]⟩
abbrev S8 : Shape := ⟨1, ![8]⟩
abbrev S512 : Shape := ⟨1, ![512]⟩
abbrev S8x2048x512 : Shape := ⟨3, ![8, 2048, 512]⟩
abbrev S8x2048x8x64 : Shape := ⟨4, ![8, 2048, 8, 64]⟩
abbrev S8x2048x128 : Shape := ⟨3, ![8, 2048, 128]⟩
abbrev S8x2048x2x64 : Shape := ⟨4, ![8, 2048, 2, 64]⟩
abbrev S_ : Shape := ⟨0, ![]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2048x2 : Shape := ⟨3, ![8, 2048, 2]⟩
abbrev S8x2048x2x1 : Shape := ⟨4, ![8, 2048, 2, 1]⟩
abbrev S8x16x128x2x4x64 : Shape := ⟨6, ![8, 16, 128, 2, 4, 64]⟩
abbrev S8x2176x2x64 : Shape := ⟨4, ![8, 2176, 2, 64]⟩
abbrev S8x17x128x2x64 : Shape := ⟨5, ![8, 17, 128, 2, 64]⟩
abbrev S8x16x128x2x64 : Shape := ⟨5, ![8, 16, 128, 2, 64]⟩
abbrev S8x16x256x2x64 : Shape := ⟨5, ![8, 16, 256, 2, 64]⟩
abbrev S8x16x2x256x128x4 : Shape := ⟨6, ![8, 16, 2, 256, 128, 4]⟩
abbrev S8x16x2x4x128x256 : Shape := ⟨6, ![8, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x4 : Shape := ⟨2, ![2, 4]⟩
abbrev S1x1x2x4x1x1 : Shape := ⟨6, ![1, 1, 2, 4, 1, 1]⟩
abbrev S8x16x2x4x128 : Shape := ⟨5, ![8, 16, 2, 4, 128]⟩
abbrev S8x16x2x4x128x1 : Shape := ⟨6, ![8, 16, 2, 4, 128, 1]⟩
abbrev S8x16x2x64x4x128 : Shape := ⟨6, ![8, 16, 2, 64, 4, 128]⟩
abbrev S8x64 : Shape := ⟨2, ![8, 64]⟩
abbrev S1x1x8x64 : Shape := ⟨4, ![1, 1, 8, 64]⟩

abbrev nBuf : Space → Nat
  | .hbm => 146
  | .vmem => 0
  | .smem => 0
  | _ => 0

abbrev hbmTy0_0 (i : Nat) : BufTy := match i % 128 with
  | 0 => ⟨S8x2048x6400, .bf16⟩
  | 1 => ⟨S64, .f32⟩
  | 2 => ⟨S64, .f32⟩
  | 3 => ⟨S8, .f32⟩
  | 4 => ⟨S512, .f32⟩
  | 5 => ⟨S8x2048x512, .bf16⟩
  | 6 => ⟨S8x2048x512, .f32⟩
  | 7 => ⟨S8x2048x8x64, .f32⟩
  | 8 => ⟨S8x2048x128, .bf16⟩
  | 9 => ⟨S8x2048x128, .f32⟩
  | 10 => ⟨S8x2048x2x64, .f32⟩
  | 11 => ⟨S8x2048x128, .bf16⟩
  | 12 => ⟨S8x2048x128, .f32⟩
  | 13 => ⟨S8x2048x2x64, .f32⟩
  | 14 => ⟨S8x2048x8x64, .f32⟩
  | 15 => ⟨S_, .f32⟩
  | 16 => ⟨S8x2048x8, .f32⟩
  | 17 => ⟨S8x2048x8x1, .f32⟩
  | 18 => ⟨S_, .f32⟩
  | 19 => ⟨S8x2048x8x1, .f32⟩
  | 20 => ⟨S8x2048x8x1, .f32⟩
  | 21 => ⟨S_, .f32⟩
  | 22 => ⟨S8x2048x8x1, .f32⟩
  | 23 => ⟨S8x2048x8x1, .f32⟩
  | 24 => ⟨S8x2048x8x1, .f32⟩
  | 25 => ⟨S8x2048x8x64, .f32⟩
  | 26 => ⟨S8x2048x8x64, .f32⟩
  | 27 => ⟨S1x1x1x64, .f32⟩
  | 28 => ⟨S8x2048x8x64, .f32⟩
  | 29 => ⟨S8x2048x8x64, .f32⟩
  | 30 => ⟨S8x2048x2x64, .f32⟩
  | 31 => ⟨S_, .f32⟩
  | 32 => ⟨S8x2048x2, .f32⟩
  | 33 => ⟨S8x2048x2x1, .f32⟩
  | 34 => ⟨S_, .f32⟩
  | 35 => ⟨S8x2048x2x1, .f32⟩
  | 36 => ⟨S8x2048x2x1, .f32⟩
  | 37 => ⟨S_, .f32⟩
  | 38 => ⟨S8x2048x2x1, .f32⟩
  | 39 => ⟨S8x2048x2x1, .f32⟩
  | 40 => ⟨S8x2048x2x1, .f32⟩
  | 41 => ⟨S8x2048x2x64, .f32⟩
  | 42 => ⟨S8x2048x2x64, .f32⟩
  | 43 => ⟨S1x1x1x64, .f32⟩
  | 44 => ⟨S8x2048x2x64, .f32⟩
  | 45 => ⟨S8x2048x2x64, .f32⟩
  | 46 => ⟨S8x16x128x2x4x64, .f32⟩
  | 47 => ⟨S_, .i32⟩
  | 48 => ⟨S_, .f32⟩
  | 49 => ⟨S8x2176x2x64, .f32⟩
  | 50 => ⟨S8x17x128x2x64, .f32⟩
  | 51 => ⟨S_, .i32⟩
  | 52 => ⟨S_, .f32⟩
  | 53 => ⟨S8x2176x2x64, .f32⟩
  | 54 => ⟨S8x17x128x2x64, .f32⟩
  | 55 => ⟨S8x16x128x2x64, .f32⟩
  | 56 => ⟨S8x16x128x2x64, .f32⟩
  | 57 => ⟨S8x16x256x2x64, .f32⟩
  | 58 => ⟨S8x16x128x2x64, .f32⟩
  | 59 => ⟨S8x16x128x2x64, .f32⟩
  | 60 => ⟨S8x16x256x2x64, .f32⟩
  | 61 => ⟨S8x16x2x256x128x4, .f32⟩
  | 62 => ⟨S8x16x2x4x128x256, .f32⟩
  | 63 => ⟨S_, .f32⟩
  | 64 => ⟨S8x16x2x4x128x256, .f32⟩
  | 65 => ⟨S8x16x2x4x128x256, .f32⟩
  | 66 => ⟨S128, .i32⟩
  | 67 => ⟨S128x1, .i32⟩
  | 68 => ⟨S256, .i32⟩
  | 69 => ⟨S1x256, .i32⟩
  | 70 => ⟨S_, .i32⟩
  | 71 => ⟨S128x1, .i32⟩
  | 72 => ⟨S128x1, .i32⟩
  | 73 => ⟨S128x256, .i32⟩
  | 74 => ⟨S128x256, .i32⟩
  | 75 => ⟨S128x256, .i32⟩
  | 76 => ⟨S_, .i32⟩
  | 77 => ⟨S128x256, .i32⟩
  | 78 => ⟨S128x256, .i1⟩
  | 79 => ⟨S_, .i32⟩
  | 80 => ⟨S128x256, .i32⟩
  | 81 => ⟨S128x256, .i1⟩
  | 82 => ⟨S128x256, .i1⟩
  | 83 => ⟨S16, .i32⟩
  | 84 => ⟨S_, .i32⟩
  | 85 => ⟨S16, .i32⟩
  | 86 => ⟨S16, .i1⟩
  | 87 => ⟨S16x1x1, .i1⟩
  | 88 => ⟨S1x128x256, .i1⟩
  | 89 => ⟨S_, .i32⟩
  | 90 => ⟨S1x256, .i32⟩
  | 91 => ⟨S1x256, .i1⟩
  | 92 => ⟨S1x1x256, .i1⟩
  | 93 => ⟨S16x1x256, .i1⟩
  | 94 => ⟨S16x1x256, .i1⟩
  | 95 => ⟨S16x1x256, .i1⟩
  | 96 => ⟨S16x128x256, .i1⟩
  | 97 => ⟨S16x128x256, .i1⟩
  | 98 => ⟨S16x128x256, .i1⟩
  | 99 => ⟨S1x16x1x1x128x256, .i1⟩
  | 100 => ⟨S_, .f32⟩
  | 101 => ⟨S_, .f32⟩
  | 102 => ⟨S8x16x2x4x128x256, .i1⟩
  | 103 => ⟨S8x16x2x4x128x256, .f32⟩
  | 104 => ⟨S8x16x2x4x128x256, .f32⟩
  | 105 => ⟨S2x4, .f32⟩
  | 106 => ⟨S1x1x2x4x1x1, .f32⟩
  | 107 => ⟨S_, .f32⟩
  | 108 => ⟨S8x16x2x4x128, .f32⟩
  | 109 => ⟨S8x16x2x4x128x1, .f32⟩
  | 110 => ⟨S8x16x2x4x128x1, .f32⟩
  | 111 => ⟨S8x16x2x4x128x1, .f32⟩
  | 112 => ⟨S8x16x2x4x128x256, .f32⟩
  | 113 => ⟨S8x16x2x4x128x256, .f32⟩
  | 114 => ⟨S8x16x2x4x128x256, .f32⟩
  | 115 => ⟨S_, .f32⟩
  | 116 => ⟨S8x16x2x4x128, .f32⟩
  | 117 => ⟨S8x16x2x4x128x1, .f32⟩
  | 118 => ⟨S8x16x2x4x128x1, .f32⟩
  | 119 => ⟨S8x16x2x4x128x1, .f32⟩
  | 120 => ⟨S8x16x2x4x128x1, .f32⟩
  | 121 => ⟨S8x16x2x4x128x1, .f32⟩
  | 122 => ⟨S8x16x2x4x128x256, .f32⟩
  | 123 => ⟨S8x16x2x4x128x256, .f32⟩
  | 124 => ⟨S8x16x2x64x4x128, .f32⟩
  | 125 => ⟨S8x16x128x2x4x64, .f32⟩
  | 126 => ⟨S8x2048x8x64, .f32⟩
  | 127 => ⟨S8x64, .f32⟩
  | _ => ⟨S8x2048x6400, .bf16⟩

abbrev hbmTy0_1 (i : Nat) : BufTy := match i % 128 with
  | 0 => ⟨S8x2048x8x64, .f32⟩
  | 1 => ⟨S_, .f32⟩
  | 2 => ⟨S8x2048x8, .f32⟩
  | 3 => ⟨S8x2048x8x1, .f32⟩
  | 4 => ⟨S_, .f32⟩
  | 5 => ⟨S8x2048x8x1, .f32⟩
  | 6 => ⟨S8x2048x8x1, .f32⟩
  | 7 => ⟨S_, .f32⟩
  | 8 => ⟨S8x2048x8x1, .f32⟩
  | 9 => ⟨S8x2048x8x1, .f32⟩
  | 10 => ⟨S8x2048x8x1, .f32⟩
  | 11 => ⟨S8x2048x8x64, .f32⟩
  | 12 => ⟨S8x2048x8x64, .f32⟩
  | 13 => ⟨S1x1x8x64, .f32⟩
  | 14 => ⟨S8x2048x8x64, .f32⟩
  | 15 => ⟨S8x2048x8x64, .f32⟩
  | 16 => ⟨S8x2048x512, .f32⟩
  | 17 => ⟨S8x2048x512, .bf16⟩
  | _ => ⟨S8x2048x6400, .bf16⟩

abbrev hbmTy (i : Nat) : BufTy := match i / 128 with
  | 0 => hbmTy0_0 i
  | 1 => hbmTy0_1 i
  | _ => ⟨S8x2048x6400, .bf16⟩

abbrev bufTy : (tb : Table) → Fin (tcTables nBuf tb) → BufTy
  | .hbm, ⟨i, _⟩ => hbmTy i
  | _, _ => ⟨S8x2048x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_call0_v0 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_call1_v0 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_7 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_8 : Ref sig .tc := ⟨.hbm, 76, rfl⟩
abbrev main_v59 : Ref sig .tc := ⟨.hbm, 77, rfl⟩
abbrev main_v60 : Ref sig .tc := ⟨.hbm, 78, rfl⟩
abbrev main_c_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_10 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_13 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_14 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_15 : Ref sig .tc := ⟨.hbm, 129, rfl⟩
abbrev main_v102 : Ref sig .tc := ⟨.hbm, 130, rfl⟩
abbrev main_v103 : Ref sig .tc := ⟨.hbm, 131, rfl⟩
abbrev main_cst_16 : Ref sig .tc := ⟨.hbm, 132, rfl⟩
abbrev main_v104 : Ref sig .tc := ⟨.hbm, 133, rfl⟩
abbrev main_v105 : Ref sig .tc := ⟨.hbm, 134, rfl⟩
abbrev main_cst_17 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩

abbrev nD : Nat := 1
abbrev τ : Topo := Topo.v7x

variable {F : FTy → Type} [FloatOps F]
-- ==== Mlp.lean ====
abbrev S16384x2048 : Shape := ⟨2, ![16384, 2048]⟩
abbrev S2048x8192 : Shape := ⟨2, ![2048, 8192]⟩
abbrev S8192x2048 : Shape := ⟨2, ![8192, 2048]⟩
abbrev S512x2048 : Shape := ⟨2, ![512, 2048]⟩
abbrev S2048x2048 : Shape := ⟨2, ![2048, 2048]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x8192, .bf16⟩
  | .hbm, ⟨3, _⟩ => ⟨S8192x2048, .bf16⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpRefIdeal.lean ====
abbrev S16384x2048 : Shape := ⟨2, ![16384, 2048]⟩
abbrev S2048x8192 : Shape := ⟨2, ![2048, 8192]⟩
abbrev S8192x2048 : Shape := ⟨2, ![8192, 2048]⟩
abbrev S16384x8192 : Shape := ⟨2, ![16384, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x8192, .bf16⟩
  | .hbm, ⟨3, _⟩ => ⟨S8192x2048, .bf16⟩
  | .hbm, ⟨4, _⟩ => ⟨S16384x2048, .f32⟩
  | .hbm, ⟨5, _⟩ => ⟨S2048x8192, .f32⟩
  | .hbm, ⟨6, _⟩ => ⟨S16384x8192, .f32⟩
  | .hbm, ⟨7, _⟩ => ⟨S_, .f32⟩
  | .hbm, ⟨8, _⟩ => ⟨S16384x8192, .f32⟩
  | .hbm, ⟨9, _⟩ => ⟨S16384x8192, .f32⟩
  | .hbm, ⟨10, _⟩ => ⟨S16384x8192, .f32⟩
  | .hbm, ⟨11, _⟩ => ⟨S8192x2048, .f32⟩
  | .hbm, ⟨12, _⟩ => ⟨S16384x2048, .f32⟩
  | .hbm, ⟨13, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== InProj.lean ====
abbrev S16384x2048 : Shape := ⟨2, ![16384, 2048]⟩
abbrev S2048 : Shape := ⟨1, ![2048]⟩
abbrev S6400x2048 : Shape := ⟨2, ![6400, 2048]⟩
abbrev S2x2048x128 : Shape := ⟨3, ![2, 2048, 128]⟩
abbrev S1x2048 : Shape := ⟨2, ![1, 2048]⟩
abbrev S16384x6400 : Shape := ⟨2, ![16384, 6400]⟩
abbrev S16384x128 : Shape := ⟨2, ![16384, 128]⟩
abbrev S512x2048 : Shape := ⟨2, ![512, 2048]⟩
abbrev S1x2048x128 : Shape := ⟨3, ![1, 2048, 128]⟩
abbrev S512x6400 : Shape := ⟨2, ![512, 6400]⟩
abbrev S512x128 : Shape := ⟨2, ![512, 128]⟩
abbrev S512 : Shape := ⟨1, ![512]⟩
abbrev S512x1 : Shape := ⟨2, ![512, 1]⟩
abbrev S2048x128 : Shape := ⟨2, ![2048, 128]⟩
abbrev S1280x2048 : Shape := ⟨2, ![1280, 2048]⟩
abbrev S512x1280 : Shape := ⟨2, ![512, 1280]⟩

abbrev nBuf : Space → Nat
  | .hbm => 7
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S6400x2048, .bf16⟩
  | .hbm, ⟨3, _⟩ => ⟨S2x2048x128, .bf16⟩
  | .hbm, ⟨4, _⟩ => ⟨S1x2048, .f32⟩
  | .hbm, ⟨5, _⟩ => ⟨S16384x6400, .bf16⟩
  | .hbm, ⟨6, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S6400x2048, .bf16⟩
  | .local _ .vmem, ⟨4, _⟩ => ⟨S1x2048x128, .bf16⟩
  | .local _ .vmem, ⟨5, _⟩ => ⟨S512x6400, .bf16⟩
  | .local _ .vmem, ⟨6, _⟩ => ⟨S512x6400, .bf16⟩
  | .local _ .vmem, ⟨7, _⟩ => ⟨S512x128, .f32⟩
  | .local _ .vmem, ⟨8, _⟩ => ⟨S512x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6400x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x6400 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InProjRefIdeal.lean ====
abbrev S16384x2048 : Shape := ⟨2, ![16384, 2048]⟩
abbrev S2048 : Shape := ⟨1, ![2048]⟩
abbrev S6400x2048 : Shape := ⟨2, ![6400, 2048]⟩
abbrev S2x2048x128 : Shape := ⟨3, ![2, 2048, 128]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6400 : Shape := ⟨2, ![16384, 6400]⟩
abbrev S1x2048x128 : Shape := ⟨3, ![1, 2048, 128]⟩
abbrev S2048x128 : Shape := ⟨2, ![2048, 128]⟩
abbrev S16384x128 : Shape := ⟨2, ![16384, 128]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S6400x2048, .bf16⟩
  | .hbm, ⟨3, _⟩ => ⟨S2x2048x128, .bf16⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S6400x2048, .f32⟩
  | .hbm, ⟨21, _⟩ => ⟨S16384x6400, .f32⟩
  | .hbm, ⟨22, _⟩ => ⟨S1x2048x128, .bf16⟩
  | .hbm, ⟨23, _⟩ => ⟨S2048x128, .bf16⟩
  | .hbm, ⟨24, _⟩ => ⟨S2048x128, .f32⟩
  | .hbm, ⟨25, _⟩ => ⟨S16384x128, .f32⟩
  | .hbm, ⟨26, _⟩ => ⟨S16384x6400, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== OutProj.lean ====
abbrev S16384x2048 : Shape := ⟨2, ![16384, 2048]⟩
abbrev S16384x512 : Shape := ⟨2, ![16384, 512]⟩
abbrev S16384x1024 : Shape := ⟨2, ![16384, 1024]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x512 : Shape := ⟨2, ![512, 512]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S2048x2048, .bf16⟩
  | .hbm, ⟨5, _⟩ => ⟨S2048, .f32⟩
  | .hbm, ⟨6, _⟩ => ⟨S1x2048, .f32⟩
  | .hbm, ⟨7, _⟩ => ⟨S16384x2048, .f32⟩
  | .hbm, ⟨8, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjRefIdeal.lean ====
abbrev S16384x2048 : Shape := ⟨2, ![16384, 2048]⟩
abbrev S16384x512 : Shape := ⟨2, ![16384, 512]⟩
abbrev S16384x1024 : Shape := ⟨2, ![16384, 1024]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S2048x2048, .bf16⟩
  | .hbm, ⟨5, _⟩ => ⟨S2048, .f32⟩
  | .hbm, ⟨6, _⟩ => ⟨S16384x2048, .bf16⟩
  | .hbm, ⟨7, _⟩ => ⟨S16384x2048, .f32⟩
  | .hbm, ⟨8, _⟩ => ⟨S2048x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x2048, .f32⟩
  | .hbm, ⟨23, _⟩ => ⟨S16384x2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Conv.lean ====
abbrev S8x2048x6400 : Shape := ⟨3, ![8, 2048, 6400]⟩
abbrev S3x512 : Shape := ⟨2, ![3, 512]⟩
abbrev S512 : Shape := ⟨1, ![512]⟩
abbrev S1x512 : Shape := ⟨2, ![1, 512]⟩
abbrev S8x2048x512 : Shape := ⟨3, ![8, 2048, 512]⟩
abbrev S2x2048x128 : Shape := ⟨3, ![2, 2048, 128]⟩
abbrev S3x128 : Shape := ⟨2, ![3, 128]⟩
abbrev S1x128 : Shape := ⟨2, ![1, 128]⟩
abbrev S2x2056x128 : Shape := ⟨3, ![2, 2056, 128]⟩
abbrev S8x128 : Shape := ⟨2, ![8, 128]⟩
abbrev S1x8x128 : Shape := ⟨3, ![1, 8, 128]⟩
abbrev S1x2048x128 : Shape := ⟨3, ![1, 2048, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 5
  | .vmem => 13
  | .smem => 0
  | _ => 0

abbrev bufTy : (tb : Table) → Fin (tcTables nBuf tb) → BufTy
  | .hbm, ⟨0, _⟩ => ⟨S8x2048x6400, .bf16⟩
  | .hbm, ⟨1, _⟩ => ⟨S3x512, .f32⟩
  | .hbm, ⟨2, _⟩ => ⟨S512, .f32⟩
  | .hbm, ⟨3, _⟩ => ⟨S1x512, .f32⟩
  | .hbm, ⟨4, _⟩ => ⟨S8x2048x512, .bf16⟩
  | .local _ .vmem, ⟨0, _⟩ => ⟨S2x2048x128, .bf16⟩
  | .local _ .vmem, ⟨1, _⟩ => ⟨S2x2048x128, .bf16⟩
  | .local _ .vmem, ⟨2, _⟩ => ⟨S2x2048x128, .bf16⟩
  | .local _ .vmem, ⟨3, _⟩ => ⟨S2x2048x128, .bf16⟩
  | .local _ .vmem, ⟨4, _⟩ => ⟨S2x2048x128, .bf16⟩
  | .local _ .vmem, ⟨5, _⟩ => ⟨S2x2048x128, .bf16⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S2x2048x128, .bf16⟩
  | .local _ .vmem, ⟨11, _⟩ => ⟨S2x2048x128, .bf16⟩
  | .local _ .vmem, ⟨12, _⟩ => ⟨S2x2056x128, .f32⟩
  | _, _ => ⟨S8x2048x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvRefIdeal.lean ====
abbrev S8x2048x6400 : Shape := ⟨3, ![8, 2048, 6400]⟩
abbrev S3x512 : Shape := ⟨2, ![3, 512]⟩
abbrev S512 : Shape := ⟨1, ![512]⟩
abbrev S8x2048x512 : Shape := ⟨3, ![8, 2048, 512]⟩
abbrev S_ : Shape := ⟨0, ![]⟩
abbrev S8x2050x512 : Shape := ⟨3, ![8, 2050, 512]⟩
abbrev S1x512 : Shape := ⟨2, ![1, 512]⟩
abbrev S1x1x512 : Shape := ⟨3, ![1, 1, 512]⟩
abbrev S8x2048x4x128 : Shape := ⟨4, ![8, 2048, 4, 128]⟩
abbrev S4x128 : Shape := ⟨2, ![4, 128]⟩
abbrev S8x2048x4 : Shape := ⟨3, ![8, 2048, 4]⟩
abbrev S8x2048x4x1 : Shape := ⟨4, ![8, 2048, 4, 1]⟩
abbrev S1x1x4x128 : Shape := ⟨4, ![1, 1, 4, 128]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x6400, .bf16⟩
  | .hbm, ⟨1, _⟩ => ⟨S3x512, .f32⟩
  | .hbm, ⟨2, _⟩ => ⟨S512, .f32⟩
  | .hbm, ⟨3, _⟩ => ⟨S8x2048x512, .bf16⟩
  | .hbm, ⟨4, _⟩ => ⟨S8x2048x512, .f32⟩
  | .hbm, ⟨5, _⟩ => ⟨S8x2048x512, .bf16⟩
  | .hbm, ⟨6, _⟩ => ⟨S8x2048x512, .f32⟩
  | .hbm, ⟨7, _⟩ => ⟨S8x2048x512, .bf16⟩
  | .hbm, ⟨8, _⟩ => ⟨S8x2048x512, .f32⟩
  | .hbm, ⟨9, _⟩ => ⟨S8x2048x512, .f32⟩
  | .hbm, ⟨10, _⟩ => ⟨S_, .i32⟩
  | .hbm, ⟨11, _⟩ => ⟨S_, .f32⟩
  | .hbm, ⟨12, _⟩ => ⟨S8x2050x512, .f32⟩
  | .hbm, ⟨13, _⟩ => ⟨S1x512, .f32⟩
  | .hbm, ⟨14, _⟩ => ⟨S512, .f32⟩
  | .hbm, ⟨15, _⟩ => ⟨S8x2048x512, .f32⟩
  | .hbm, ⟨16, _⟩ => ⟨S1x1x512, .f32⟩
  | .hbm, ⟨17, _⟩ => ⟨S8x2048x512, .f32⟩
  | .hbm, ⟨18, _⟩ => ⟨S8x2048x512, .f32⟩
  | .hbm, ⟨19, _⟩ => ⟨S1x512, .f32⟩
  | .hbm, ⟨20, _⟩ => ⟨S512, .f32⟩
  | .hbm, ⟨21, _⟩ => ⟨S8x2048x512, .f32⟩
  | .hbm, ⟨22, _⟩ => ⟨S1x1x512, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S1x512, .f32⟩
  | .hbm, ⟨27, _⟩ => ⟨S512, .f32⟩
  | .hbm, ⟨28, _⟩ => ⟨S8x2048x512, .f32⟩
  | .hbm, ⟨29, _⟩ => ⟨S1x1x512, .f32⟩
  | .hbm, ⟨30, _⟩ => ⟨S8x2048x512, .f32⟩
  | .hbm, ⟨31, _⟩ => ⟨S8x2048x512, .f32⟩
  | .hbm, ⟨32, _⟩ => ⟨S8x2048x512, .f32⟩
  | .hbm, ⟨33, _⟩ => ⟨S8x2048x512, .f32⟩
  | .hbm, ⟨34, _⟩ => ⟨S8x2048x4x128, .f32⟩
  | .hbm, ⟨35, _⟩ => ⟨S4x128, .f32⟩
  | .hbm, ⟨36, _⟩ => ⟨S8x2048x4x128, .f32⟩
  | .hbm, ⟨37, _⟩ => ⟨S_, .f32⟩
  | .hbm, ⟨38, _⟩ => ⟨S8x2048x4, .f32⟩
  | .hbm, ⟨39, _⟩ => ⟨S8x2048x4x1, .f32⟩
  | .hbm, ⟨40, _⟩ => ⟨S_, .f32⟩
  | .hbm, ⟨41, _⟩ => ⟨S8x2048x4x1, .f32⟩
  | .hbm, ⟨42, _⟩ => ⟨S8x2048x4x1, .f32⟩
  | .hbm, ⟨43, _⟩ => ⟨S_, .f32⟩
  | .hbm, ⟨44, _⟩ => ⟨S8x2048x4x1, .f32⟩
  | .hbm, ⟨45, _⟩ => ⟨S8x2048x4x1, .f32⟩
  | .hbm, ⟨46, _⟩ => ⟨S8x2048x4x1, .f32⟩
  | .hbm, ⟨47, _⟩ => ⟨S8x2048x4x128, .f32⟩
  | .hbm, ⟨48, _⟩ => ⟨S8x2048x4x128, .f32⟩
  | .hbm, ⟨49, _⟩ => ⟨S1x1x4x128, .f32⟩
  | .hbm, ⟨50, _⟩ => ⟨S8x2048x4x128, .f32⟩
  | .hbm, ⟨51, _⟩ => ⟨S8x2048x4x128, .f32⟩
  | .hbm, ⟨52, _⟩ => ⟨S8x2048x512, .f32⟩
  | .hbm, ⟨53, _⟩ => ⟨S8x2048x512, .bf16⟩
  | _, _ => ⟨S8x2048x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst : Ref sig .tc := ⟨.hbm, 37, rfl⟩
abbrev main_v32 : Ref sig .tc := ⟨.hbm, 38, rfl⟩
abbrev main_v33 : Ref sig .tc := ⟨.hbm, 39, rfl⟩
abbrev main_cst_0 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩

abbrev nD : Nat := 1
abbrev τ : Topo := Topo.v7x

variable {F : FTy → Type} [FloatOps F]
-- ==== Regroup.lean ====
abbrev S2x2048x6416 : Shape := ⟨3, ![2, 2048, 6416]⟩
abbrev S2x6416x2048 : Shape := ⟨3, ![2, 6416, 2048]⟩
abbrev S6400x2048 : Shape := ⟨2, ![6400, 2048]⟩
abbrev S1x256x2048 : Shape := ⟨3, ![1, 256, 2048]⟩
abbrev S256x2048 : Shape := ⟨2, ![256, 2048]⟩

abbrev nBuf : Space → Nat
  | .hbm => 3
  | .vmem => 4
  | .smem => 0
  | _ => 0

abbrev bufTy : (tb : Table) → Fin (tcTables nBuf tb) → BufTy
  | .hbm, ⟨0, _⟩ => ⟨S2x2048x6416, .f32⟩
  | .hbm, ⟨1, _⟩ => ⟨S2x6416x2048, .f32⟩
  | .hbm, ⟨2, _⟩ => ⟨S6400x2048, .bf16⟩
  | .local _ .vmem, ⟨0, _⟩ => ⟨S1x256x2048, .f32⟩
  | .local _ .vmem, ⟨1, _⟩ => ⟨S1x256x2048, .f32⟩
  | .local _ .vmem, ⟨2, _⟩ => ⟨S256x2048, .bf16⟩
  | .local _ .vmem, ⟨3, _⟩ => ⟨S256x2048, .bf16⟩
  | _, _ => ⟨S2x2048x6416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c16_i32 : BitVec 32 := 16#32
  let v0 : BitVec 1 := Scalar.cmpi .slt arg0 c16_i32
  let c9_i32 : BitVec 32 := 9#32
  let v1 : BitVec 32 := Scalar.addi arg0 c9_i32
  let c16_i32_0 : BitVec 32 := 16#32
  let v2 : BitVec 32 := Scalar.subi arg0 c16_i32_0
  let v3 : BitVec 32 := Scalar.select v0 v1 v2
  let c0_i32 : BitVec 32 := 0#32
  let c0_i32_1 : BitVec 32 := 0#32
  let c0_i32_2 : BitVec 32 := 0#32
  ![c0_i32.toNat, v3.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RegroupRefIdeal.lean ====
abbrev S2x2048x6416 : Shape := ⟨3, ![2, 2048, 6416]⟩
abbrev S1x2048x6416 : Shape := ⟨3, ![1, 2048, 6416]⟩
abbrev S2048x6416 : Shape := ⟨2, ![2048, 6416]⟩
abbrev S2048x4096 : Shape := ⟨2, ![2048, 4096]⟩
abbrev S2048x2304 : Shape := ⟨2, ![2048, 2304]⟩
abbrev S2048x6400 : Shape := ⟨2, ![2048, 6400]⟩
abbrev S6400x2048 : Shape := ⟨2, ![6400, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x6416, .f32⟩
  | .hbm, ⟨1, _⟩ => ⟨S1x2048x6416, .f32⟩
  | .hbm, ⟨2, _⟩ => ⟨S2048x6416, .f32⟩
  | .hbm, ⟨3, _⟩ => ⟨S2048x4096, .f32⟩
  | .hbm, ⟨4, _⟩ => ⟨S2048x2304, .f32⟩
  | .hbm, ⟨5, _⟩ => ⟨S2048x6400, .f32⟩
  | .hbm, ⟨6, _⟩ => ⟨S6400x2048, .f32⟩
  | .hbm, ⟨7, _⟩ => ⟨S6400x2048, .bf16⟩
  | _, _ => ⟨S2x2048x6416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]
-- ==== Tail.lean ====
abbrev S16384x2048 : Shape := ⟨2, ![16384, 2048]⟩
abbrev S16384x512 : Shape := ⟨2, ![16384, 512]⟩
abbrev S16384x1024 : Shape := ⟨2, ![16384, 1024]⟩
abbrev S2048x2048 : Shape := ⟨2, ![2048, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S512x512 : Shape := ⟨2, ![512, 512]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 12
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S2048x2048, .bf16⟩
  | .hbm, ⟨5, _⟩ => ⟨S2048, .f32⟩
  | .hbm, ⟨6, _⟩ => ⟨S2048x8192, .bf16⟩
  | .hbm, ⟨7, _⟩ => ⟨S8192x2048, .bf16⟩
  | .hbm, ⟨8, _⟩ => ⟨S1x2048, .f32⟩
  | .hbm, ⟨9, _⟩ => ⟨S16384x2048, .f32⟩
  | .hbm, ⟨10, _⟩ => ⟨S16384x2048, .bf16⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | .local _ .vmem, ⟨18, _⟩ => ⟨S2048x2048, .bf16⟩
  | .local _ .vmem, ⟨19, _⟩ => ⟨S2048x2048, .bf16⟩
  | .local _ .vmem, ⟨20, _⟩ => ⟨S2048x2048, .bf16⟩
  | .local _ .vmem, ⟨21, _⟩ => ⟨S2048x2048, .bf16⟩
  | .local _ .vmem, ⟨22, _⟩ => ⟨S512x2048, .f32⟩
  | .local _ .vmem, ⟨23, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== TailRefIdeal.lean ====
abbrev S16384x2048 : Shape := ⟨2, ![16384, 2048]⟩
abbrev S16384x512 : Shape := ⟨2, ![16384, 512]⟩
abbrev S16384x1024 : Shape := ⟨2, ![16384, 1024]⟩
abbrev S2048x2048 : Shape := ⟨2, ![2048, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S2048x2048, .bf16⟩
  | .hbm, ⟨5, _⟩ => ⟨S2048, .f32⟩
  | .hbm, ⟨6, _⟩ => ⟨S2048x8192, .bf16⟩
  | .hbm, ⟨7, _⟩ => ⟨S8192x2048, .bf16⟩
  | .hbm, ⟨8, _⟩ => ⟨S16384x2048, .bf16⟩
  | .hbm, ⟨9, _⟩ => ⟨S16384x2048, .f32⟩
  | .hbm, ⟨10, _⟩ => ⟨S2048x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S2048x8192, .f32⟩
  | .hbm, ⟨30, _⟩ => ⟨S16384x8192, .f32⟩
  | .hbm, ⟨31, _⟩ => ⟨S_, .f32⟩
  | .hbm, ⟨32, _⟩ => ⟨S16384x8192, .f32⟩
  | .hbm, ⟨33, _⟩ => ⟨S16384x8192, .f32⟩
  | .hbm, ⟨34, _⟩ => ⟨S16384x8192, .f32⟩
  | .hbm, ⟨35, _⟩ => ⟨S8192x2048, .f32⟩
  | .hbm, ⟨36, _⟩ => ⟨S16384x2048, .f32⟩
  | .hbm, ⟨37, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Chain.lean ====
abbrev S16384x2048 : Shape := ⟨2, ![16384, 2048]⟩
abbrev S2048 : Shape := ⟨1, ![2048]⟩
abbrev S6400x2048 : Shape := ⟨2, ![6400, 2048]⟩
abbrev S2x2048x128 : Shape := ⟨3, ![2, 2048, 128]⟩
abbrev S3x512 : Shape := ⟨2, ![3, 512]⟩
abbrev S512 : Shape := ⟨1, ![512]⟩
abbrev S16384x512 : Shape := ⟨2, ![16384, 512]⟩
abbrev S16384x1024 : Shape := ⟨2, ![16384, 1024]⟩
abbrev S2048x2048 : Shape := ⟨2, ![2048, 2048]⟩
abbrev S2048x8192 : Shape := ⟨2, ![2048, 8192]⟩
abbrev S8192x2048 : Shape := ⟨2, ![8192, 2048]⟩
abbrev S1x2048 : Shape := ⟨2, ![1, 2048]⟩
abbrev S16384x6400 : Shape := ⟨2, ![16384, 6400]⟩
abbrev S16384x128 : Shape := ⟨2, ![16384, 128]⟩
abbrev S512x2048 : Shape := ⟨2, ![512, 2048]⟩
abbrev S1x2048x128 : Shape := ⟨3, ![1, 2048, 128]⟩
abbrev S512x6400 : Shape := ⟨2, ![512, 6400]⟩
abbrev S512x128 : Shape := ⟨2, ![512, 128]⟩
abbrev S512x1 : Shape := ⟨2, ![512, 1]⟩
abbrev S2048x128 : Shape := ⟨2, ![2048, 128]⟩
abbrev S1280x2048 : Shape := ⟨2, ![1280, 2048]⟩
abbrev S512x1280 : Shape := ⟨2, ![512, 1280]⟩
abbrev S8x2048x6400 : Shape := ⟨3, ![8, 2048, 6400]⟩
abbrev S1x512 : Shape := ⟨2, ![1, 512]⟩
abbrev S8x2048x512 : Shape := ⟨3, ![8, 2048, 512]⟩
abbrev S3x128 : Shape := ⟨2, ![3, 128]⟩
abbrev S1x128 : Shape := ⟨2, ![1, 128]⟩
abbrev S2x2056x128 : Shape := ⟨3, ![2, 2056, 128]⟩
abbrev S8x128 : Shape := ⟨2, ![8, 128]⟩
abbrev S1x8x128 : Shape := ⟨3, ![1, 8, 128]⟩
abbrev S2048x1 : Shape := ⟨2, ![2048, 1]⟩
abbrev S512x512 : Shape := ⟨2, ![512, 512]⟩
abbrev S512x1024 : Shape := ⟨2, ![512, 1024]⟩
abbrev S1024x2048 : Shape := ⟨2, ![1024, 2048]⟩

abbrev nBuf : Space → Nat
  | .hbm => 23
  | .vmem => 46
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S6400x2048, .bf16⟩
  | .hbm, ⟨3, _⟩ => ⟨S2x2048x128, .bf16⟩
  | .hbm, ⟨4, _⟩ => ⟨S3x512, .f32⟩
  | .hbm, ⟨5, _⟩ => ⟨S512, .f32⟩
  | .hbm, ⟨6, _⟩ => ⟨S16384x512, .bf16⟩
  | .hbm, ⟨7, _⟩ => ⟨S16384x1024, .bf16⟩
  | .hbm, ⟨8, _⟩ => ⟨S2048x2048, .bf16⟩
  | .hbm, ⟨9, _⟩ => ⟨S2048, .f32⟩
  | .hbm, ⟨10, _⟩ => ⟨S2048x8192, .bf16⟩
  | .hbm, ⟨11, _⟩ => ⟨S8192x2048, .bf16⟩
  | .hbm, ⟨12, _⟩ => ⟨S1x2048, .f32⟩
  | .hbm, ⟨13, _⟩ => ⟨S16384x6400, .bf16⟩
  | .hbm, ⟨14, _⟩ => ⟨S16384x128, .f32⟩
  | .hbm, ⟨15, _⟩ => ⟨S8x2048x6400, .bf16⟩
  | .hbm, ⟨16, _⟩ => ⟨S1x512, .f32⟩
  | .hbm, ⟨17, _⟩ => ⟨S8x2048x512, .bf16⟩
  | .hbm, ⟨18, _⟩ => ⟨S16384x512, .bf16⟩
  | .hbm, ⟨19, _⟩ => ⟨S1x2048, .f32⟩
  | .hbm, ⟨20, _⟩ => ⟨S16384x2048, .f32⟩
  | .hbm, ⟨21, _⟩ => ⟨S16384x2048, .bf16⟩
  | .hbm, ⟨22, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S6400x2048, .bf16⟩
  | .local _ .vmem, ⟨4, _⟩ => ⟨S1x2048x128, .bf16⟩
  | .local _ .vmem, ⟨5, _⟩ => ⟨S512x6400, .bf16⟩
  | .local _ .vmem, ⟨6, _⟩ => ⟨S512x6400, .bf16⟩
  | .local _ .vmem, ⟨7, _⟩ => ⟨S512x128, .f32⟩
  | .local _ .vmem, ⟨8, _⟩ => ⟨S512x128, .f32⟩
  | .local _ .vmem, ⟨9, _⟩ => ⟨S2x2048x128, .bf16⟩
  | .local _ .vmem, ⟨10, _⟩ => ⟨S2x2048x128, .bf16⟩
  | .local _ .vmem, ⟨11, _⟩ => ⟨S2x2048x128, .bf16⟩
  | .local _ .vmem, ⟨12, _⟩ => ⟨S2x2048x128, .bf16⟩
  | .local _ .vmem, ⟨13, _⟩ => ⟨S2x2048x128, .bf16⟩
  | .local _ .vmem, ⟨14, _⟩ => ⟨S2x2048x128, .bf16⟩
  | .local _ .vmem, ⟨15, _⟩ => ⟨S3x128, .f32⟩
  | .local _ .vmem, ⟨16, _⟩ => ⟨S3x128, .f32⟩
  | .local _ .vmem, ⟨17, _⟩ => ⟨S1x128, .f32⟩
  | .local _ .vmem, ⟨18, _⟩ => ⟨S1x128, .f32⟩
  | .local _ .vmem, ⟨19, _⟩ => ⟨S2x2048x128, .bf16⟩
  | .local _ .vmem, ⟨20, _⟩ => ⟨S2x2048x128, .bf16⟩
  | .local _ .vmem, ⟨21, _⟩ => ⟨S2x2056x128, .f32⟩
  | .local _ .vmem, ⟨22, _⟩ => ⟨S512x2048, .f32⟩
  | .local _ .vmem, ⟨23, _⟩ => ⟨S512x2048, .f32⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x1024, .bf16⟩
  | .local _ .vmem, ⟨29, _⟩ => ⟨S512x1024, .bf16⟩
  | .local _ .vmem, ⟨30, _⟩ => ⟨S2048x2048, .bf16⟩
  | .local _ .vmem, ⟨31, _⟩ => ⟨S1x2048, .f32⟩
  | .local _ .vmem, ⟨32, _⟩ => ⟨S512x2048, .f32⟩
  | .local _ .vmem, ⟨33, _⟩ => ⟨S512x2048, .f32⟩
  | .local _ .vmem, ⟨34, _⟩ => ⟨S512x2048, .bf16⟩
  | .local _ .vmem, ⟨35, _⟩ => ⟨S512x2048, .bf16⟩
  | .local _ .vmem, ⟨36, _⟩ => ⟨S512x2048, .f32⟩
  | .local _ .vmem, ⟨37, _⟩ => ⟨S512x2048, .f32⟩
  | .local _ .vmem, ⟨38, _⟩ => ⟨S512x2048, .bf16⟩
  | .local _ .vmem, ⟨39, _⟩ => ⟨S512x2048, .bf16⟩
  | .local _ .vmem, ⟨40, _⟩ => ⟨S2048x2048, .bf16⟩
  | .local _ .vmem, ⟨41, _⟩ => ⟨S2048x2048, .bf16⟩
  | .local _ .vmem, ⟨42, _⟩ => ⟨S2048x2048, .bf16⟩
  | .local _ .vmem, ⟨43, _⟩ => ⟨S2048x2048, .bf16⟩
  | .local _ .vmem, ⟨44, _⟩ => ⟨S512x2048, .f32⟩
  | .local _ .vmem, ⟨45, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem5_0 : DmaSem sig := 30
abbrev cc2_sem6_0 : DmaSem sig := 31
abbrev cc2_sem6_1 : DmaSem sig := 32
abbrev cc2_sem7_0 : DmaSem sig := 33
abbrev cc2_sem7_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem4_1 : DmaSem sig := 44

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6400x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x6400 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc1_transform_1 (i : grid1.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S2x2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S3x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S2x2048x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S2048x2048 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x2048 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨2, ![32, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2048x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2048x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S512x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]
-- ==== ChainRefIdeal.lean ====
abbrev S16384x2048 : Shape := ⟨2, ![16384, 2048]⟩
abbrev S2048 : Shape := ⟨1, ![2048]⟩
abbrev S6400x2048 : Shape := ⟨2, ![6400, 2048]⟩
abbrev S2x2048x128 : Shape := ⟨3, ![2, 2048, 128]⟩
abbrev S3x512 : Shape := ⟨2, ![3, 512]⟩
abbrev S512 : Shape := ⟨1, ![512]⟩
abbrev S16384x512 : Shape := ⟨2, ![16384, 512]⟩
abbrev S16384x1024 : Shape := ⟨2, ![16384, 1024]⟩
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x128 : Shape := ⟨3, ![1, 2048, 128]⟩
abbrev S2048x128 : Shape := ⟨2, ![2048, 128]⟩
abbrev S16384x128 : Shape := ⟨2, ![16384, 128]⟩
abbrev S16384x6400 : Shape := ⟨2, ![16384, 6400]⟩
abbrev S8x2048x6400 : Shape := ⟨3, ![8, 2048, 6400]⟩
abbrev S8x2048x512 : Shape := ⟨3, ![8, 2048, 512]⟩
abbrev S8x2050x512 : Shape := ⟨3, ![8, 2050, 512]⟩
abbrev S1x512 : Shape := ⟨2, ![1, 512]⟩
abbrev S1x1x512 : Shape := ⟨3, ![1, 1, 512]⟩
abbrev S8x2048x4x128 : Shape := ⟨4, ![8, 2048, 4, 128]⟩
abbrev S4x128 : Shape := ⟨2, ![4, 128]⟩
abbrev S8x2048x4 : Shape := ⟨3, ![8, 2048, 4]⟩
abbrev S8x2048x4x1 : Shape := ⟨4, ![8, 2048, 4, 1]⟩
abbrev S1x1x4x128 : Shape := ⟨4, ![1, 1, 4, 128]⟩
abbrev S16384x8192 : Shape := ⟨2, ![16384, 8192]⟩

abbrev nBuf : Space → Nat
  | .hbm => 113
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S6400x2048, .bf16⟩
  | .hbm, ⟨3, _⟩ => ⟨S2x2048x128, .bf16⟩
  | .hbm, ⟨4, _⟩ => ⟨S3x512, .f32⟩
  | .hbm, ⟨5, _⟩ => ⟨S512, .f32⟩
  | .hbm, ⟨6, _⟩ => ⟨S16384x512, .bf16⟩
  | .hbm, ⟨7, _⟩ => ⟨S16384x1024, .bf16⟩
  | .hbm, ⟨8, _⟩ => ⟨S2048x2048, .bf16⟩
  | .hbm, ⟨9, _⟩ => ⟨S2048, .f32⟩
  | .hbm, ⟨10, _⟩ => ⟨S2048x8192, .bf16⟩
  | .hbm, ⟨11, _⟩ => ⟨S8192x2048, .bf16⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S1x2048x128, .bf16⟩
  | .hbm, ⟨29, _⟩ => ⟨S2048x128, .bf16⟩
  | .hbm, ⟨30, _⟩ => ⟨S2048x128, .f32⟩
  | .hbm, ⟨31, _⟩ => ⟨S16384x128, .f32⟩
  | .hbm, ⟨32, _⟩ => ⟨S6400x2048, .f32⟩
  | .hbm, ⟨33, _⟩ => ⟨S16384x6400, .f32⟩
  | .hbm, ⟨34, _⟩ => ⟨S8x2048x6400, .f32⟩
  | .hbm, ⟨35, _⟩ => ⟨S8x2048x512, .f32⟩
  | .hbm, ⟨36, _⟩ => ⟨S8x2048x512, .f32⟩
  | .hbm, ⟨37, _⟩ => ⟨S8x2048x512, .f32⟩
  | .hbm, ⟨38, _⟩ => ⟨S8x2048x512, .f32⟩
  | .hbm, ⟨39, _⟩ => ⟨S_, .i32⟩
  | .hbm, ⟨40, _⟩ => ⟨S_, .f32⟩
  | .hbm, ⟨41, _⟩ => ⟨S8x2050x512, .f32⟩
  | .hbm, ⟨42, _⟩ => ⟨S1x512, .f32⟩
  | .hbm, ⟨43, _⟩ => ⟨S512, .f32⟩
  | .hbm, ⟨44, _⟩ => ⟨S8x2048x512, .f32⟩
  | .hbm, ⟨45, _⟩ => ⟨S1x1x512, .f32⟩
  | .hbm, ⟨46, _⟩ => ⟨S8x2048x512, .f32⟩
  | .hbm, ⟨47, _⟩ => ⟨S8x2048x512, .f32⟩
  | .hbm, ⟨48, _⟩ => ⟨S1x512, .f32⟩
  | .hbm, ⟨49, _⟩ => ⟨S512, .f32⟩
  | .hbm, ⟨50, _⟩ => ⟨S8x2048x512, .f32⟩
  | .hbm, ⟨51, _⟩ => ⟨S1x1x512, .f32⟩
  | .hbm, ⟨52, _⟩ => ⟨S8x2048x512, .f32⟩
  | .hbm, ⟨53, _⟩ => ⟨S8x2048x512, .f32⟩
  | .hbm, ⟨54, _⟩ => ⟨S8x2048x512, .f32⟩
  | .hbm, ⟨55, _⟩ => ⟨S1x512, .f32⟩
  | .hbm, ⟨56, _⟩ => ⟨S512, .f32⟩
  | .hbm, ⟨57, _⟩ => ⟨S8x2048x512, .f32⟩
  | .hbm, ⟨58, _⟩ => ⟨S1x1x512, .f32⟩
  | .hbm, ⟨59, _⟩ => ⟨S8x2048x512, .f32⟩
  | .hbm, ⟨60, _⟩ => ⟨S8x2048x512, .f32⟩
  | .hbm, ⟨61, _⟩ => ⟨S8x2048x512, .f32⟩
  | .hbm, ⟨62, _⟩ => ⟨S8x2048x512, .f32⟩
  | .hbm, ⟨63, _⟩ => ⟨S8x2048x4x128, .f32⟩
  | .hbm, ⟨64, _⟩ => ⟨S4x128, .f32⟩
  | .hbm, ⟨65, _⟩ => ⟨S8x2048x4x128, .f32⟩
  | .hbm, ⟨66, _⟩ => ⟨S_, .f32⟩
  | .hbm, ⟨67, _⟩ => ⟨S8x2048x4, .f32⟩
  | .hbm, ⟨68, _⟩ => ⟨S8x2048x4x1, .f32⟩
  | .hbm, ⟨69, _⟩ => ⟨S_, .f32⟩
  | .hbm, ⟨70, _⟩ => ⟨S8x2048x4x1, .f32⟩
  | .hbm, ⟨71, _⟩ => ⟨S8x2048x4x1, .f32⟩
  | .hbm, ⟨72, _⟩ => ⟨S_, .f32⟩
  | .hbm, ⟨73, _⟩ => ⟨S8x2048x4x1, .f32⟩
  | .hbm, ⟨74, _⟩ => ⟨S8x2048x4x1, .f32⟩
  | .hbm, ⟨75, _⟩ => ⟨S8x2048x4x1, .f32⟩
  | .hbm, ⟨76, _⟩ => ⟨S8x2048x4x128, .f32⟩
  | .hbm, ⟨77, _⟩ => ⟨S8x2048x4x128, .f32⟩
  | .hbm, ⟨78, _⟩ => ⟨S1x1x4x128, .f32⟩
  | .hbm, ⟨79, _⟩ => ⟨S8x2048x4x128, .f32⟩
  | .hbm, ⟨80, _⟩ => ⟨S8x2048x4x128, .f32⟩
  | .hbm, ⟨81, _⟩ => ⟨S16384x512, .f32⟩
  | .hbm, ⟨82, _⟩ => ⟨S16384x512, .f32⟩
  | .hbm, ⟨83, _⟩ => ⟨S16384x1024, .f32⟩
  | .hbm, ⟨84, _⟩ => ⟨S16384x2048, .f32⟩
  | .hbm, ⟨85, _⟩ => ⟨S2048x2048, .f32⟩
  | .hbm, ⟨86, _⟩ => ⟨S16384x2048, .f32⟩
  | .hbm, ⟨87, _⟩ => ⟨S16384x2048, .f32⟩
  | .hbm, ⟨88, _⟩ => ⟨S16384x2048, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S16384x1, .f32⟩
  | .hbm, ⟨99, _⟩ => ⟨S16384x2048, .f32⟩
  | .hbm, ⟨100, _⟩ => ⟨S16384x2048, .f32⟩
  | .hbm, ⟨101, _⟩ => ⟨S1x2048, .f32⟩
  | .hbm, ⟨102, _⟩ => ⟨S16384x2048, .f32⟩
  | .hbm, ⟨103, _⟩ => ⟨S16384x2048, .f32⟩
  | .hbm, ⟨104, _⟩ => ⟨S2048x8192, .f32⟩
  | .hbm, ⟨105, _⟩ => ⟨S16384x8192, .f32⟩
  | .hbm, ⟨106, _⟩ => ⟨S_, .f32⟩
  | .hbm, ⟨107, _⟩ => ⟨S16384x8192, .f32⟩
  | .hbm, ⟨108, _⟩ => ⟨S16384x8192, .f32⟩
  | .hbm, ⟨109, _⟩ => ⟨S16384x8192, .f32⟩
  | .hbm, ⟨110, _⟩ => ⟨S8192x2048, .f32⟩
  | .hbm, ⟨111, _⟩ => ⟨S16384x2048, .f32⟩
  | .hbm, ⟨112, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_2 : Ref sig .tc := ⟨.hbm, 66, rfl⟩
abbrev main_v49 : Ref sig .tc := ⟨.hbm, 67, rfl⟩
abbrev main_v50 : Ref sig .tc := ⟨.hbm, 68, rfl⟩
abbrev main_cst_3 : Ref sig .tc := ⟨.hbm, 69, rfl⟩
abbrev main_v51 : Ref sig .tc := ⟨.hbm, 70, rfl⟩
abbrev main_v52 : Ref sig .tc := ⟨.hbm, 71, rfl⟩
abbrev main_cst_4 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_5 : Ref sig .tc := ⟨.hbm, 89, rfl⟩
abbrev main_v69 : Ref sig .tc := ⟨.hbm, 90, rfl⟩
abbrev main_v70 : Ref sig .tc := ⟨.hbm, 91, rfl⟩
abbrev main_cst_6 : Ref sig .tc := ⟨.hbm, 92, rfl⟩
abbrev main_v71 : Ref sig .tc := ⟨.hbm, 93, rfl⟩
abbrev main_v72 : Ref sig .tc := ⟨.hbm, 94, rfl⟩
abbrev main_cst_7 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_8 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩

abbrev nD : Nat := 1
abbrev τ : Topo := Topo.v7x

variable {F : FTy → Type} [FloatOps F]
-- ==== Proof.MlpSpec.lean ====
/-
  The MLP call: what its payload computes at an index, and the block geometry of its windows.
-/
module

public import proofs.«01_k».proof.Proof.Gen.MlpIdeal.Value
public import Idealize.ShloMosaic.Lib.Pointwise
public import Idealize.ShloMosaic.Lib.Pipeline.ValueKit

@[expose] public section

set_option maxRecDepth 16384

noncomputable section

namespace Cert.MlpIdeal.Acc

open Cert.MlpIdeal Cert.MlpIdeal.Gen Cert.MlpIdeal.Value Idealize.ShloMosaic Idealize.ShloMosaic.TcCoe Idealize.SL.Sem

/-- The squared rectified entry of the hidden activations, from a row of the input and a column of the first weight. -/
def sqRelu (s : EReal) : EReal := max s 0 * max s 0

/-- One accumulation step at an index: the old entry plus the step's 2048 hidden columns times the second weight. -/
theorem pay_at (x : FVec Ideal S512x2048 .bf16) (w : FVec Ideal S2048x2048 .bf16) (acc : FVec Ideal S512x2048 .f32)
    (u : FVec Ideal S2048x2048 .bf16) (r : Fin 512) (d : Fin 2048) :
    k0_pay1 (F := Ideal) x w acc u (ix2 r d)
      = acc (ix2 r d) + ∑ k : Fin 2048, sqRelu (∑ l : Fin 2048, x (ix2 r l) * w (ix2 l k)) * u (ix2 k d) := by
  pointwise [k0_pay1, sqRelu]

/-- The windows' block positions at each grid point. -/
theorem idx : ∀ t : Fin cfg0.N, win0_0.index t = ![t.val / 4, 0] ∧ win0_1.index t = ![t.val / 4, 0]
    ∧ win0_2.index t = ![0, t.val % 4] ∧ win0_3.index t = ![t.val % 4, 0] :=
  (by decide +kernel : ∀ t : Fin grid0.N, _)

variable (m : (ℓ : Loc nD τ sig) → Buf (Elt Ideal) ℓ)

/-- The product of hidden entry `(a, l)` with the second weight's entry `(l, d)`, over the argument arrays. -/
def term (X : S16384x2048.Idx → EReal) (W : S2048x8192.Idx → EReal) (U : S8192x2048.Idx → EReal)
    (a : Fin 16384) (d : Fin 2048) (l : Fin 8192) : EReal :=
  sqRelu (∑ k : Fin 2048, X (ix2 a k) * W (ix2 k l)) * U (ix2 l d)

/-- A step's addend over the argument arrays. -/
theorem part (c : Dev nD) (t : Fin cfg0.N) (f : Fin 4) (a : Fin 16384) (r : Fin 512) (d : Fin 2048)
    (ha : a.val = t.val / 4 * 512 + r.val) (hf : f.val = t.val % 4) :
    (∑ k : Fin 2048, sqRelu (∑ l : Fin 2048, (show FVec Ideal S512x2048 .bf16 from iblk m c 1 t) (ix2 r l)
        * (show FVec Ideal S2048x2048 .bf16 from iblk m c 2 t) (ix2 l k)) * (show FVec Ideal S2048x2048 .bf16 from iblk m c 3 t) (ix2 k d))
      = ∑ k : Fin 2048, term (m ((c : Thread nD τ).loc main_arg1)) (m ((c : Thread nD τ).loc main_arg2)) (m ((c : Thread nD τ).loc main_arg3)) a d
          ⟨f.val * 2048 + k.val, by omega⟩ := by
  unfold term
  blk_point [iblk, V, idx t]

/-- The accumulator's starting block is the residual's block. -/
theorem start (c : Dev nD) (t : Fin cfg0.N) (a : Fin 16384) (r : Fin 512) (d : Fin 2048) (ha : a.val = t.val / 4 * 512 + r.val) :
    (show FVec Ideal S512x2048 .f32 from iblk m c 0 t) (ix2 r d) = m ((c : Thread nD τ).loc main_arg0) (ix2 a d) := by
  blk_ext [iblk, V, idx t]

end Cert.MlpIdeal.Acc

end
-- ==== Proof.MlpValue.lean ====
/-
  The MLP call's value: the fold over the four blocks of hidden columns is the reference's one contraction.
-/
module

public import proofs.«01_k».proof.Proof.MlpSpec
public import proofs.«01_k».proof.Proof.Gen.MlpRefIdeal.Run

@[expose] public section

set_option maxRecDepth 16384

noncomputable section

namespace Cert.MlpRefIdeal.Spec

open Cert.MlpRefIdeal Cert.MlpRefIdeal.Gen Idealize.ShloMosaic Idealize.ShloMosaic.TcCoe Idealize.SL.Sem
open Cert.MlpIdeal.Acc (sqRelu term)

/-- The reference's result as one term of its arguments. -/
def REF (x0 : FVec Ideal S16384x2048 .f32) (x1 : FVec Ideal S16384x2048 .bf16) (x2 : FVec Ideal S2048x8192 .bf16)
    (x3 : FVec Ideal S8192x2048 .bf16) : FVec Ideal S16384x2048 .f32 :=
  addf x0 (Host.dotGeneral dot_S16384x8192_S8192x2048_S16384x2048_1_0_0_1_n_n none (mulf (maximumf (Host.dotGeneral dot_S16384x2048_S2048x8192_S16384x8192_1_0_0_1_n_n none (extf .f32 x1 bitsLt_bf16_f32) (extf .f32 x2 bitsLt_bf16_f32)) (broadcastInDim S16384x8192 ![] bcast_S_S16384x8192 (constant S_ .f32 0x00000000#32))) (maximumf (Host.dotGeneral dot_S16384x2048_S2048x8192_S16384x8192_1_0_0_1_n_n none (extf .f32 x1 bitsLt_bf16_f32) (extf .f32 x2 bitsLt_bf16_f32)) (broadcastInDim S16384x8192 ![] bcast_S_S16384x8192 (constant S_ .f32 0x00000000#32)))) (extf .f32 x3 bitsLt_bf16_f32))

/-- The reference at an index: the residual plus the sum over all 8192 hidden columns. -/
theorem REF_at (x0 : FVec Ideal S16384x2048 .f32) (x1 : FVec Ideal S16384x2048 .bf16) (x2 : FVec Ideal S2048x8192 .bf16)
    (x3 : FVec Ideal S8192x2048 .bf16) (a : Fin 16384) (d : Fin 2048) :
    REF x0 x1 x2 x3 (ix2 a d) = x0 (ix2 a d) + ∑ l : Fin 8192, term x1 x2 x3 a d l := by
  pointwise [REF, term, sqRelu]

end Cert.MlpRefIdeal.Spec

namespace Cert.MlpIdeal.Acc

open Cert.MlpIdeal Cert.MlpIdeal.Gen Cert.MlpIdeal.Value Idealize.ShloMosaic Idealize.ShloMosaic.TcCoe Idealize.SL.Sem

variable (m : (ℓ : Loc nD τ sig) → Buf (Elt Ideal) ℓ)

/-- The fold over a run of four grid points, at an index: the residual plus the four partial sums. -/
theorem fold_at (c : Dev nD) (q : Fin 32) (a : Fin 16384) (r : Fin 512) (d : Fin 2048) (ha : a.val = q.val * 512 + r.val)
    (h : 4 * q.val + 3 < cfg0.N) :
    (show FVec Ideal S512x2048 .f32 from Pipeline.accAt (reset4 m c) (step4 m c) (4 * q.val) 3 h) (ix2 r d)
      = (show FVec Ideal S16384x2048 .f32 from m ((c : Thread nD τ).loc main_arg0)) (ix2 a d)
        + ∑ f : Fin 4, ∑ k : Fin 2048, term (m ((c : Thread nD τ).loc main_arg1)) (m ((c : Thread nD τ).loc main_arg2)) (m ((c : Thread nD τ).loc main_arg3)) a d
          ⟨f.val * 2048 + k.val, by omega⟩ := by
  have key : ∀ (n : ℕ) (hn : n < cfg0.N) (f : Fin 4), n = 4 * q.val + f.val → ∀ acc : FVec Ideal S512x2048 .f32,
      k0_pay1 (F := Ideal) (iblk m c 1 ⟨n, hn⟩) (iblk m c 2 ⟨n, hn⟩) acc (iblk m c 3 ⟨n, hn⟩) (ix2 r d)
        = acc (ix2 r d) + ∑ k : Fin 2048, term (m ((c : Thread nD τ).loc main_arg1)) (m ((c : Thread nD τ).loc main_arg2)) (m ((c : Thread nD τ).loc main_arg3)) a d
          ⟨f.val * 2048 + k.val, by omega⟩ := by
    intro n hn f hf acc
    rw [pay_at]
    exact congrArg (acc (ix2 r d) + ·) (part m c ⟨n, hn⟩ f a r d (by simp only; omega) (by simp only; omega))
  have h0 : 4 * q.val < cfg0.N := by omega
  have h1 : 4 * q.val + 1 < cfg0.N := by omega
  have h2 : 4 * q.val + 2 < cfg0.N := by omega
  have e : Pipeline.accAt (reset4 m c) (step4 m c) (4 * q.val) 3 h
      = step4 m c (4 * q.val + 3) h (step4 m c (4 * q.val + 2) h2 (step4 m c (4 * q.val + 1) h1 (reset4 m c (4 * q.val) h0))) := rfl
  have k3 := key _ h 3 rfl (step4 m c (4 * q.val + 2) h2 (step4 m c (4 * q.val + 1) h1 (reset4 m c (4 * q.val) h0)))
  have k2 := key _ h2 2 rfl (step4 m c (4 * q.val + 1) h1 (reset4 m c (4 * q.val) h0))
  have k1 := key _ h1 1 rfl (reset4 m c (4 * q.val) h0)
  have k0 := key _ h0 0 rfl (iblk m c 0 ⟨4 * q.val, h0⟩)
  have s0 := start m c ⟨4 * q.val, h0⟩ a r d (by simp only; omega)
  rw [e]
  refine k3.trans ?_
  rw [Fin.sum_univ_four, ← add_assoc, ← add_assoc, ← add_assoc]
  refine congrArg (· + _) (k2.trans ?_)
  refine congrArg (· + _) (k1.trans ?_)
  refine congrArg (· + _) (k0.trans ?_)
  exact congrArg (· + _) s0

/-- The fold depends only on its starting point's number. -/
theorem fold_congr (c : Dev nD) {b b' : ℕ} (e : b = b') (h : b + 3 < cfg0.N) (h' : b' + 3 < cfg0.N) :
    Pipeline.accAt (reset4 m c) (step4 m c) b 3 h = Pipeline.accAt (reset4 m c) (step4 m c) b' 3 h' := by
  subst e; rfl

/-- The call's result array is the reference's term of the call's arguments. -/
theorem value (c : Dev nD) : G4 m c = Cert.MlpRefIdeal.Spec.REF (m ((c : Thread nD τ).loc main_arg0)) (m ((c : Thread nD τ).loc main_arg1))
    (m ((c : Thread nD τ).loc main_arg2)) (m ((c : Thread nD τ).loc main_arg3)) := by
  funext i
  obtain ⟨a, d, rfl⟩ : ∃ (a : Fin 16384) (d : Fin 2048), i = ix2 a d := ⟨i 0, i 1, eq_ix2 i⟩
  refine Eq.trans ?_ (Cert.MlpRefIdeal.Spec.REF_at _ _ _ _ a d).symm
  have hq : a.val / 512 < 32 := by omega
  have hr : a.val % 512 < 512 := by omega
  have hN : 4 * (a.val / 512) + 3 < cfg0.N := lt_of_lt_of_eq (by omega) (show 128 = cfg0.N from N_0.symm)
  have hrun : run4Of (ix2 a d) = a.val / 512 := by
    show 1 * (a.val / 512 - 0) + 1 * (d.val / 2048 - 0) = a.val / 512
    omega
  have hloc : loc4Of (ix2 a d) = ix2 (⟨a.val % 512, hr⟩ : Fin 512) d := by
    funext e
    match e with
    | ⟨0, _⟩ => rfl
    | ⟨1, _⟩ => exact Fin.ext (Nat.mod_eq_of_lt d.isLt)
  have hG : G4 m c (ix2 a d) = Pipeline.accAt (reset4 m c) (step4 m c) (4 * (a.val / 512)) 3 hN (ix2 (⟨a.val % 512, hr⟩ : Fin 512) d) := by
    unfold G4
    rw [dif_pos (by rw [hrun]; exact hN), hloc]
    exact congrFun (fold_congr m c (by rw [hrun]) _ _) _
  rw [hG]
  refine (fold_at m c ⟨a.val / 512, hq⟩ a ⟨a.val % 512, hr⟩ d (by simp only; omega) hN).trans ?_
  refine congrArg (_ + ·) ?_
  exact (Fin.sum_univ_tiles 4 2048 rfl (fun l : Fin 8192 => term _ _ _ a d l)).symm

end Cert.MlpIdeal.Acc

end
-- ==== Proof.InProjValue.lean ====
/-
  The input projection call: every block it writes is the reference's term at the block's place.
-/
module

public import proofs.«01_k».proof.Proof.Gen.InProjIdeal.Value
public import proofs.«01_k».proof.Proof.Gen.InProjRefIdeal.Run
public import Idealize.ShloMosaic.Lib.Pointwise
public import Idealize.ShloMosaic.Lib.Pipeline.ValueKit
public import Idealize.ShloMosaic.Lib.Claim

@[expose] public section

set_option maxRecDepth 16384

noncomputable section

namespace Cert.InProjRefIdeal.Spec

open Cert.InProjRefIdeal Cert.InProjRefIdeal.Gen Idealize.ShloMosaic Idealize.ShloMosaic.TcCoe Idealize.SL.Sem

/-- A row scaled by the inverse root of its mean square and by the gain, at entry `l`. -/
def nrm (row g : Fin 2048 → EReal) (l : Fin 2048) : EReal :=
  row l * Ideal.rsqrt (Ideal.div (∑ k : Fin 2048, row k * row k) (Ideal.ofBits .f32 0x45000000#32) + Ideal.ofBits .f32 0x358637BD#32) * g l

/-- The projections as one term of the arguments. -/
def PROJ (x0 : FVec Ideal S16384x2048 .f32) (x1 : FVec Ideal S2048 .f32) (x2 : FVec Ideal S6400x2048 .bf16) : FVec Ideal S16384x6400 .bf16 :=
  truncf .bf16 (Host.dotGeneral dot_S16384x2048_S6400x2048_S16384x6400_1_1_0_0_n_n none (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 x1))) (extf .f32 x2 bitsLt_bf16_f32)) bitsLt_bf16_f32

/-- The gates as one term of the arguments. -/
def GATES (x0 : FVec Ideal S16384x2048 .f32) (x1 : FVec Ideal S2048 .f32) (x3 : FVec Ideal S2x2048x128 .bf16) : FVec Ideal S16384x128 .f32 :=
  Host.dotGeneral dot_S16384x2048_S2048x128_S16384x128_1_0_0_1_n_n none (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 x1))) (extf .f32 (shapeCast S2048x128 (extractStridedSlice S1x2048x128 ![0, 0, 0] x3 slices_S2x2048x128_S1x2048x128_0_0_0) shapeCasts_S1x2048x128_S2048x128) bitsLt_bf16_f32)

/-- The projections at an index. -/
theorem PROJ_at (x0 : FVec Ideal S16384x2048 .f32) (x1 : FVec Ideal S2048 .f32) (x2 : FVec Ideal S6400x2048 .bf16) (a : Fin 16384) (e : Fin 6400) :
    PROJ x0 x1 x2 (ix2 a e) = ∑ l : Fin 2048, nrm (fun k => x0 (ix2 a k)) (fun k => x1 (ix1 k)) l * x2 (ix2 e l) := by
  pointwise [PROJ, nrm, zero_add]

/-- The gates at an index. -/
theorem GATES_at (x0 : FVec Ideal S16384x2048 .f32) (x1 : FVec Ideal S2048 .f32) (x3 : FVec Ideal S2x2048x128 .bf16) (a : Fin 16384) (e : Fin 128) :
    GATES x0 x1 x3 (ix2 a e) = ∑ l : Fin 2048, nrm (fun k => x0 (ix2 a k)) (fun k => x1 (ix1 k)) l * x3 (ix3 0 l e) := by
  pointwise [GATES, nrm, zero_add]

end Cert.InProjRefIdeal.Spec

namespace Cert.InProjIdeal.Pure

open Cert.InProjIdeal Cert.InProjIdeal.Gen Idealize.ShloMosaic Idealize.ShloMosaic.TcCoe Idealize.SL.Sem
open Idealize.ShloMosaic.Pipeline (Dat)
open Cert.InProjRefIdeal.Spec

/-- The normalised block of rows at an index. -/
theorem norm_at (x : FVec Ideal S512x2048 .f32) (g : FVec Ideal S1x2048 .f32) (r : Fin 512) (l : Fin 2048) :
    k0_pay4 (F := Ideal) x g (ix2 r l) = nrm (fun k => x (ix2 r k)) (fun k => g (ix2 0 k)) l := by
  pointwise [k0_pay4, nrm]

/-- The block of projections at an index. -/
theorem proj_at (x0 : FVec Ideal S512x2048 .f32) (x1 : FVec Ideal S1x2048 .f32) (x2 : FVec Ideal S6400x2048 .bf16) (x3 : FVec Ideal S1x2048x128 .bf16)
    (r : Fin 512) (e : Fin 6400) :
    out0_4 (F := Ideal) x0 x1 x2 x3 (ix2 r e) = ∑ l : Fin 2048, nrm (fun k => x0 (ix2 r k)) (fun k => x1 (ix2 0 k)) l * x2 (ix2 e l) := by
  frame_out
  canon_tiles x h
  all_goals (pointwise [k0_pay1, k0_pay2, k0_pay3, k0_pay6, k0_pay7, k0_pay8, k0_pay9, k0_pay4, nrm]; simp only [ix2_0, ix2_1] at h0 h1; blk_point [])

/-- The block of gates at an index. -/
theorem gates_at (x0 : FVec Ideal S512x2048 .f32) (x1 : FVec Ideal S1x2048 .f32) (x2 : FVec Ideal S6400x2048 .bf16) (x3 : FVec Ideal S1x2048x128 .bf16)
    (r : Fin 512) (e : Fin 128) :
    out0_5 (F := Ideal) x0 x1 x2 x3 (ix2 r e) = ∑ l : Fin 2048, nrm (fun k => x0 (ix2 r k)) (fun k => x1 (ix2 0 k)) l * x3 (ix3 0 l e) := by
  frame_out
  pointwise [k0_pay5, k0_pay4, nrm]

/-- The windows' block positions. -/
theorem idx : ∀ t : Fin cfg0.N, win0_0.index t = ![t.val, 0] ∧ win0_1.index t = ![0, 0] ∧ win0_2.index t = ![0, 0]
    ∧ win0_3.index t = ![0, 0, 0] ∧ win0_4.index t = ![t.val, 0] ∧ win0_5.index t = ![t.val, 0] :=
  (by decide +kernel : ∀ t : Fin grid0.N, _)

variable (m : (ℓ : Loc nD τ sig) → Buf (Elt Ideal) ℓ)

/-- A staged row of the input is the argument's row. -/
theorem row (c : Dev nD) (t : Fin cfg0.N) (r : Fin 512) (k : Fin 2048) (a : Fin 16384) (ha : a.val = t.val * 512 + r.val) :
    (show FVec Ideal S512x2048 .f32 from iblk m c 0 t) (ix2 r k) = (show FVec Ideal S16384x2048 .f32 from m ((c : Thread nD τ).loc main_arg0)) (ix2 a k) := by
  refine Eq.trans (b := (show FVec Ideal S16384x2048 .f32 from V m c main_arg0) (ix2 a k)) ?_ (congrFun (V_main_arg0 m c) _)
  blk_ext [iblk, idx t]

/-- The staged gain is the argument. -/
theorem gain (c : Dev nD) (t : Fin cfg0.N) (k : Fin 2048) :
    (show FVec Ideal S1x2048 .f32 from iblk m c 1 t) (ix2 0 k) = (show FVec Ideal S2048 .f32 from m ((c : Thread nD τ).loc main_arg1)) (ix1 k) := by
  refine Eq.trans (b := (show FVec Ideal S1x2048 .f32 from V m c main_v0) (ix2 0 k)) ?_ ?_
  · blk_ext [iblk, idx t]
  · entry_read
    pointwise

/-- The staged projection weight is the argument. -/
theorem weight (c : Dev nD) (t : Fin cfg0.N) (e : Fin 6400) (l : Fin 2048) :
    (show FVec Ideal S6400x2048 .bf16 from iblk m c 2 t) (ix2 e l) = (show FVec Ideal S6400x2048 .bf16 from m ((c : Thread nD τ).loc main_arg2)) (ix2 e l) := by
  refine Eq.trans (b := (show FVec Ideal S6400x2048 .bf16 from V m c main_arg2) (ix2 e l)) ?_ (congrFun (V_main_arg2 m c) _)
  blk_ext [iblk, idx t]

/-- The staged gate weight is the argument's first member. -/
theorem gateWeight (c : Dev nD) (t : Fin cfg0.N) (l : Fin 2048) (e : Fin 128) :
    (show FVec Ideal S1x2048x128 .bf16 from iblk m c 3 t) (ix3 0 l e) = (show FVec Ideal S2x2048x128 .bf16 from m ((c : Thread nD τ).loc main_arg3)) (ix3 0 l e) := by
  refine Eq.trans (b := (show FVec Ideal S2x2048x128 .bf16 from V m c main_arg3) (ix3 0 l e)) ?_ (congrFun (V_main_arg3 m c) _)
  blk_ext [iblk, idx t]

/-- The projections' array after the run. -/
theorem final4 (c : Dev nD) : (dats m 0 c).arrAt 4 (cfgs 0).N
    = PROJ (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  obtain ⟨r, e, rfl⟩ : ∃ (r : Fin 512) (e : Fin 6400), y = ix2 r e := ⟨y 0, y 1, eq_ix2 y⟩
  refine (proj_at _ _ _ _ r e).trans ?_
  have ht : t.val < 32 := lt_of_lt_of_eq t.isLt N_0
  have he : ((cfg0.win 4).blk t).view.emb (ix2 r e) = ix2 (⟨t.val * 512 + r.val, by omega⟩ : Fin 16384) e := by blk_ext [idx t]
  refine Eq.trans ?_ ((congrArg _ he).trans (PROJ_at _ _ _ _ e)).symm
  refine Fin.sum_fin_congr fun l => Ideal.mul_congr ?_ (weight m c t e l)
  exact congrFun (congrArg₂ nrm (funext fun k => row m c t r k _ rfl) (funext fun k => gain m c t k)) l

/-- The gates' array after the run. -/
theorem final5 (c : Dev nD) : (dats m 0 c).arrAt 5 (cfgs 0).N
    = GATES (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after0_5]
  obtain ⟨r, e, rfl⟩ : ∃ (r : Fin 512) (e : Fin 128), y = ix2 r e := ⟨y 0, y 1, eq_ix2 y⟩
  refine (gates_at _ _ _ _ r e).trans ?_
  have ht : t.val < 32 := lt_of_lt_of_eq t.isLt N_0
  have he : ((cfg0.win 5).blk t).view.emb (ix2 r e) = ix2 (⟨t.val * 512 + r.val, by omega⟩ : Fin 16384) e := by blk_ext [idx t]
  refine Eq.trans ?_ ((congrArg _ he).trans (GATES_at _ _ _ _ e)).symm
  refine Fin.sum_fin_congr fun l => Ideal.mul_congr ?_ (gateWeight m c t l e)
  exact congrFun (congrArg₂ nrm (funext fun k => row m c t r k _ rfl) (funext fun k => gain m c t k)) l

end Cert.InProjIdeal.Pure

end
-- ==== Proof.OutProjValue.lean ====
/-
  The output projection call: every block it writes is the reference's term at the block's place.
-/
module

public import proofs.«01_k».proof.Proof.InProjValue
public import proofs.«01_k».proof.Proof.Gen.OutProjIdeal.Value
public import proofs.«01_k».proof.Proof.Gen.OutProjRefIdeal.Run
public import Idealize.ShloMosaic.Lib.Pointwise
public import Idealize.ShloMosaic.Lib.Pipeline.ValueKit
public import Idealize.ShloMosaic.Lib.Claim

@[expose] public section

set_option maxRecDepth 16384

noncomputable section

namespace Cert.OutProjRefIdeal.Spec

open Cert.OutProjRefIdeal Cert.OutProjRefIdeal.Gen Idealize.ShloMosaic Idealize.ShloMosaic.TcCoe Idealize.SL.Sem
open Cert.InProjRefIdeal.Spec (nrm)

/-- The residual plus the three mixers' parts of the output product, at column `d`. -/
def resid (o : EReal) (p q : Fin 512 → EReal) (s : Fin 1024 → EReal) (w : Fin 2048 → Fin 2048 → EReal) (d : Fin 2048) : EReal :=
  o + ((∑ k : Fin 512, p k * w ⟨k.val, by omega⟩ d + ∑ k : Fin 512, q k * w ⟨512 + k.val, by omega⟩ d)
    + ∑ k : Fin 1024, s k * w ⟨1024 + k.val, by omega⟩ d)

/-- A sum over 2048 columns cut at 512 and 1024. -/
theorem sum_three (f : Fin 2048 → EReal) :
    ∑ x, f x = (∑ k : Fin 512, f ⟨k.val, by omega⟩ + ∑ k : Fin 512, f ⟨512 + k.val, by omega⟩) + ∑ k : Fin 1024, f ⟨1024 + k.val, by omega⟩ := by
  refine (Fin.sum_univ_add (a := 1024) (b := 1024) f).trans (congrArg₂ (· + ·) ?_ rfl)
  exact Fin.sum_univ_add (a := 512) (b := 512) fun x : Fin 1024 => f ⟨x.val, by omega⟩

/-- The new residual as one term of the arguments. -/
def RES (x0 : FVec Ideal S16384x2048 .f32) (x1 x2 : FVec Ideal S16384x512 .bf16) (x3 : FVec Ideal S16384x1024 .bf16) (x4 : FVec Ideal S2048x2048 .bf16) : FVec Ideal S16384x2048 .f32 :=
  addf x0 (Host.dotGeneral dot_S16384x2048_S2048x2048_S16384x2048_1_0_0_1_n_n none (extf .f32 ((concatenate S16384x2048 1 [⟨S16384x512, (x1 : (⟨S16384x512, .bf16⟩ : BufTy).Contents (Elt Ideal))⟩, ⟨S16384x512, (x2 : (⟨S16384x512, .bf16⟩ : BufTy).Contents (Elt Ideal))⟩, ⟨S16384x1024, (x3 : (⟨S16384x1024, .bf16⟩ : BufTy).Contents (Elt Ideal))⟩] concatenates_S16384x512_S16384x512_S16384x1024_S16384x2048_d1 : (⟨S16384x2048, .bf16⟩ : BufTy).Contents (Elt Ideal))) bitsLt_bf16_f32) (extf .f32 x4 bitsLt_bf16_f32))

/-- The normalised residual as one term of the arguments. -/
def HN (x0 : FVec Ideal S16384x2048 .f32) (x1 x2 : FVec Ideal S16384x512 .bf16) (x3 : FVec Ideal S16384x1024 .bf16) (x4 : FVec Ideal S2048x2048 .bf16) (x5 : FVec Ideal S2048 .f32) : FVec Ideal S16384x2048 .bf16 :=
  truncf .bf16 (mulf (mulf (RES x0 x1 x2 x3 x4) (broadcastInDim S16384x2048 ![0, 1] bcast_S16384x1_S16384x2048_0_1 (Host.rsqrt (addf (Host.divf (broadcastInDim S16384x1 ![0] bcast_S16384_S16384x1_0 (Host.reduceAdd (mulf (RES x0 x1 x2 x3 x4) (RES x0 x1 x2 x3 x4)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 x5))) bitsLt_bf16_f32

/-- The new residual at an index. -/
theorem RES_at (x0 : FVec Ideal S16384x2048 .f32) (x1 x2 : FVec Ideal S16384x512 .bf16) (x3 : FVec Ideal S16384x1024 .bf16) (x4 : FVec Ideal S2048x2048 .bf16) (a : Fin 16384) (d : Fin 2048) :
    RES x0 x1 x2 x3 x4 (ix2 a d) = resid (x0 (ix2 a d)) (fun k => x1 (ix2 a k)) (fun k => x2 (ix2 a k)) (fun k => x3 (ix2 a k)) (fun k e => x4 (ix2 k e)) d := by
  pointwise [RES, resid]
  refine congrArg (_ + ·) ((sum_three _).trans (congrArg₂ (· + ·) (congrArg₂ (· + ·) ?_ ?_) ?_)) <;> refine Finset.sum_congr rfl fun k _ => ?_
  · have := k.isLt
    rw [dif_pos (show (⟨k.val, by omega⟩ : Fin 2048).val < 512 by simp only; omega)]
  · have := k.isLt
    rw [dif_neg (show ¬(⟨512 + k.val, by omega⟩ : Fin 2048).val < 512 by simp only; omega),
      dif_pos (show (⟨512 + k.val, by omega⟩ : Fin 2048).val - 512 < 512 by simp only; omega)]
    exact congrArg (fun e : Fin 512 => x2 (ix2 a e) * _) (Fin.ext (by simp only; omega))
  · have := k.isLt
    rw [dif_neg (show ¬(⟨1024 + k.val, by omega⟩ : Fin 2048).val < 512 by simp only; omega),
      dif_neg (show ¬(⟨1024 + k.val, by omega⟩ : Fin 2048).val - 512 < 512 by simp only; omega)]
    exact congrArg (fun e : Fin 1024 => x3 (ix2 a e) * _) (Fin.ext (by simp only; omega))

/-- The normalised residual at an index. -/
theorem HN_at (x0 : FVec Ideal S16384x2048 .f32) (x1 x2 : FVec Ideal S16384x512 .bf16) (x3 : FVec Ideal S16384x1024 .bf16) (x4 : FVec Ideal S2048x2048 .bf16) (x5 : FVec Ideal S2048 .f32) (a : Fin 16384) (d : Fin 2048) :
    HN x0 x1 x2 x3 x4 x5 (ix2 a d) = nrm (fun d => RES x0 x1 x2 x3 x4 (ix2 a d)) (fun k => x5 (ix1 k)) d := by
  pointwise [HN, nrm, zero_add]

end Cert.OutProjRefIdeal.Spec

namespace Cert.OutProjIdeal.Pure

open Cert.OutProjIdeal Cert.OutProjIdeal.Gen Idealize.ShloMosaic Idealize.ShloMosaic.TcCoe Idealize.SL.Sem
open Idealize.ShloMosaic.Pipeline (Dat)
open Cert.InProjRefIdeal.Spec (nrm)
open Cert.OutProjRefIdeal.Spec

/-- The block of the new residual at an index. -/
theorem res_at (x0 : FVec Ideal S512x2048 .f32) (x1 x2 : FVec Ideal S512x512 .bf16) (x3 : FVec Ideal S512x1024 .bf16) (x4 : FVec Ideal S2048x2048 .bf16) (x5 : FVec Ideal S1x2048 .f32) (r : Fin 512) (d : Fin 2048) :
    out0_6 (F := Ideal) x0 x1 x2 x3 x4 x5 (ix2 r d)
      = resid (x0 (ix2 r d)) (fun k => x1 (ix2 r k)) (fun k => x2 (ix2 r k)) (fun k => x3 (ix2 r k)) (fun k e => x4 (ix2 k e)) d := by
  frame_out
  pointwise [k0_pay1, resid]

/-- The block of the normalised residual at an index. -/
theorem hn_at (x0 : FVec Ideal S512x2048 .f32) (x1 x2 : FVec Ideal S512x512 .bf16) (x3 : FVec Ideal S512x1024 .bf16) (x4 : FVec Ideal S2048x2048 .bf16) (x5 : FVec Ideal S1x2048 .f32) (r : Fin 512) (d : Fin 2048) :
    out0_7 (F := Ideal) x0 x1 x2 x3 x4 x5 (ix2 r d)
      = nrm (fun d => resid (x0 (ix2 r d)) (fun k => x1 (ix2 r k)) (fun k => x2 (ix2 r k)) (fun k => x3 (ix2 r k)) (fun k e => x4 (ix2 k e)) d)
          (fun k => x5 (ix2 0 k)) d := by
  frame_out
  pointwise [k0_pay1, k0_pay2, nrm, resid]

/-- The windows' block positions. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] ∧ win0_7.index t = ![t.val, 0] :=
  (by decide +kernel : ∀ t : Fin grid0.N, _)

variable (m : (ℓ : Loc nD τ sig) → Buf (Elt Ideal) ℓ)

/-- A staged row of operand 0 is the argument's row. -/
theorem row0 (c : Dev nD) (t : Fin cfg0.N) (r : Fin 512) (k : Fin 2048) (a : Fin 16384) (ha : a.val = t.val * 512 + r.val) :
    (show FVec Ideal S512x2048 .f32 from iblk m c 0 t) (ix2 r k) = (show FVec Ideal S16384x2048 .f32 from m ((c : Thread nD τ).loc main_arg0)) (ix2 a k) := by
  refine Eq.trans (b := (show FVec Ideal S16384x2048 .f32 from V m c main_arg0) (ix2 a k)) ?_ (congrFun (V_main_arg0 m c) _)
  blk_ext [iblk, idx t]

/-- A staged row of operand 1 is the argument's row. -/
theorem row1 (c : Dev nD) (t : Fin cfg0.N) (r : Fin 512) (k : Fin 512) (a : Fin 16384) (ha : a.val = t.val * 512 + r.val) :
    (show FVec Ideal S512x512 .bf16 from iblk m c 1 t) (ix2 r k) = (show FVec Ideal S16384x512 .bf16 from m ((c : Thread nD τ).loc main_arg1)) (ix2 a k) := by
  refine Eq.trans (b := (show FVec Ideal S16384x512 .bf16 from V m c main_arg1) (ix2 a k)) ?_ (congrFun (V_main_arg1 m c) _)
  blk_ext [iblk, idx t]

/-- A staged row of operand 2 is the argument's row. -/
theorem row2 (c : Dev nD) (t : Fin cfg0.N) (r : Fin 512) (k : Fin 512) (a : Fin 16384) (ha : a.val = t.val * 512 + r.val) :
    (show FVec Ideal S512x512 .bf16 from iblk m c 2 t) (ix2 r k) = (show FVec Ideal S16384x512 .bf16 from m ((c : Thread nD τ).loc main_arg2)) (ix2 a k) := by
  refine Eq.trans (b := (show FVec Ideal S16384x512 .bf16 from V m c main_arg2) (ix2 a k)) ?_ (congrFun (V_main_arg2 m c) _)
  blk_ext [iblk, idx t]

/-- A staged row of operand 3 is the argument's row. -/
theorem row3 (c : Dev nD) (t : Fin cfg0.N) (r : Fin 512) (k : Fin 1024) (a : Fin 16384) (ha : a.val = t.val * 512 + r.val) :
    (show FVec Ideal S512x1024 .bf16 from iblk m c 3 t) (ix2 r k) = (show FVec Ideal S16384x1024 .bf16 from m ((c : Thread nD τ).loc main_arg3)) (ix2 a k) := by
  refine Eq.trans (b := (show FVec Ideal S16384x1024 .bf16 from V m c main_arg3) (ix2 a k)) ?_ (congrFun (V_main_arg3 m c) _)
  blk_ext [iblk, idx t]

/-- The staged weight is the argument. -/
theorem weight (c : Dev nD) (t : Fin cfg0.N) (e l : Fin 2048) :
    (show FVec Ideal S2048x2048 .bf16 from iblk m c 4 t) (ix2 e l) = (show FVec Ideal S2048x2048 .bf16 from m ((c : Thread nD τ).loc main_arg4)) (ix2 e l) := by
  refine Eq.trans (b := (show FVec Ideal S2048x2048 .bf16 from V m c main_arg4) (ix2 e l)) ?_ (congrFun (V_main_arg4 m c) _)
  blk_ext [iblk, idx t]

/-- The staged gain is the argument. -/
theorem gain (c : Dev nD) (t : Fin cfg0.N) (k : Fin 2048) :
    (show FVec Ideal S1x2048 .f32 from iblk m c 5 t) (ix2 0 k) = (show FVec Ideal S2048 .f32 from m ((c : Thread nD τ).loc main_arg5)) (ix1 k) := by
  refine Eq.trans (b := (show FVec Ideal S1x2048 .f32 from V m c main_v0) (ix2 0 k)) ?_ ?_
  · blk_ext [iblk, idx t]
  · entry_read
    pointwise

/-- A block's new residual is the reference's row. -/
theorem res_row (c : Dev nD) (t : Fin cfg0.N) (r : Fin 512) (a : Fin 16384) (ha : a.val = t.val * 512 + r.val) (d : Fin 2048) :
    resid ((show FVec Ideal S512x2048 .f32 from iblk m c 0 t) (ix2 r d)) (fun k => (show FVec Ideal S512x512 .bf16 from iblk m c 1 t) (ix2 r k))
        (fun k => (show FVec Ideal S512x512 .bf16 from iblk m c 2 t) (ix2 r k)) (fun k => (show FVec Ideal S512x1024 .bf16 from iblk m c 3 t) (ix2 r k))
        (fun k e => (show FVec Ideal S2048x2048 .bf16 from iblk m c 4 t) (ix2 k e)) d
      = RES (m ((c : Thread nD τ).loc main_arg0)) (m ((c : Thread nD τ).loc main_arg1)) (m ((c : Thread nD τ).loc main_arg2))
          (m ((c : Thread nD τ).loc main_arg3)) (m ((c : Thread nD τ).loc main_arg4)) (ix2 a d) := by
  refine Eq.trans ?_ (RES_at _ _ _ _ _ a d).symm
  rw [row0 m c t r d a ha, funext fun k => row1 m c t r k a ha, funext fun k => row2 m c t r k a ha, funext fun k => row3 m c t r k a ha,
    funext fun k => funext fun e => weight m c t k e]

/-- Output 6's array after the run. -/
theorem final6 (c : Dev nD) : (dats m 0 c).arrAt 6 (cfgs 0).N = RES (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  obtain ⟨r, d, rfl⟩ : ∃ (r : Fin 512) (d : Fin 2048), y = ix2 r d := ⟨y 0, y 1, eq_ix2 y⟩
  refine (res_at _ _ _ _ _ _ r d).trans ?_
  have ht : t.val < 32 := lt_of_lt_of_eq t.isLt N_0
  have he : ((cfg0.win 6).blk t).view.emb (ix2 r d) = ix2 (⟨t.val * 512 + r.val, by omega⟩ : Fin 16384) d := by blk_ext [idx t]
  exact (res_row m c t r _ rfl d).trans (congrArg _ he).symm

/-- Output 7's array after the run. -/
theorem final7 (c : Dev nD) : (dats m 0 c).arrAt 7 (cfgs 0).N = HN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  obtain ⟨r, d, rfl⟩ : ∃ (r : Fin 512) (d : Fin 2048), y = ix2 r d := ⟨y 0, y 1, eq_ix2 y⟩
  refine (hn_at _ _ _ _ _ _ r d).trans ?_
  have ht : t.val < 32 := lt_of_lt_of_eq t.isLt N_0
  have he : ((cfg0.win 7).blk t).view.emb (ix2 r d) = ix2 (⟨t.val * 512 + r.val, by omega⟩ : Fin 16384) d := by blk_ext [idx t]
  refine Eq.trans ?_ ((congrArg _ he).trans (HN_at _ _ _ _ _ _ _ d)).symm
  exact congrFun (congrArg₂ nrm (funext fun d => res_row m c t r _ rfl d) (funext fun k => gain m c t k)) d

end Cert.OutProjIdeal.Pure

end
-- ==== Proof.ConvSpec.lean ====
/-
  The short convolution on the extended reals, and its reference at an index.
-/
module

public import proofs.«01_k».proof.Proof.Gen.ConvRefIdeal.Run
public import Idealize.ShloMosaic.Lib.Pointwise
public import Idealize.ShloMosaic.Lib.Pipeline.ValueKit
public import Idealize.ShloMosaic.Lib.Claim

@[expose] public section

set_option maxRecDepth 16384

noncomputable section

namespace Cert.ConvRefIdeal.Spec

open Cert.ConvRefIdeal Cert.ConvRefIdeal.Gen Idealize.ShloMosaic Idealize.ShloMosaic.TcCoe Idealize.SL.Sem

/-- A column behind two zeros, at row `r + k`. -/
def tap (f : Fin 2048 → EReal) (k : Fin 3) (r : Fin 2048) : EReal :=
  if h : r.val + k.val < 2 then 0 else f ⟨r.val + k.val - 2, by omega⟩

/-- The convolution of a column over three rows, times the gate. -/
def conv (w : Fin 3 → EReal) (q : EReal) (f : Fin 2048 → EReal) (r : Fin 2048) : EReal :=
  q * (w 0 * tap f 0 r + w 1 * tap f 1 r + w 2 * tap f 2 r)

/-- A group scaled by the inverse root of its mean square and by the gain, at entry `l`. -/
def nrm (y g : Fin 128 → EReal) (l : Fin 128) : EReal :=
  y l * Ideal.rsqrt (Ideal.div (∑ k : Fin 128, y k * y k) (Ideal.ofBits .f32 0x43000000#32) + Ideal.ofBits .f32 0x358637BD#32) * g l

/-- The gated column the convolution reads. -/
def prod (x0 : FVec Ideal S8x2048x6400 .bf16) : FVec Ideal S8x2048x512 .f32 :=
  mulf (extf .f32 (extractStridedSlice S8x2048x512 ![0, 0, 4608] x0 slices_S8x2048x6400_S8x2048x512_0_0_4608) bitsLt_bf16_f32) (extf .f32 (extractStridedSlice S8x2048x512 ![0, 0, 5120] x0 slices_S8x2048x6400_S8x2048x512_0_0_5120) bitsLt_bf16_f32)

/-- Two rows of zeros in front. -/
def padded (z : FVec Ideal S8x2048x512 .f32) : FVec Ideal S8x2050x512 .f32 :=
  pad S8x2050x512 ![0, 2, 0] ![0, 0, 0] ![0, 0, 0] z (sitofp .f32 (constantI S_ 32 0#32)) pads_S8x2048x512_S8x2050x512_000_200_000 h_S_

/-- The convolution over the padded columns, times the gate. -/
def convV (x0 : FVec Ideal S8x2048x6400 .bf16) (x1 : FVec Ideal S3x512 .f32) (p : FVec Ideal S8x2050x512 .f32) : FVec Ideal S8x2048x512 .f32 :=
  mulf (extf .f32 (extractStridedSlice S8x2048x512 ![0, 0, 4096] x0 slices_S8x2048x6400_S8x2048x512_0_0_4096) bitsLt_bf16_f32) (addf (addf (mulf (broadcastInDim S8x2048x512 ![0, 1, 2] bcast_S1x1x512_S8x2048x512_0_1_2 (broadcastInDim S1x1x512 ![2] bcast_S512_S1x1x512_2 (shapeCast _ (extractStridedSlice S1x512 ![0, 0] x1 slices_S3x512_S1x512_0_0) shapeCasts_S1x512_S512))) (extractStridedSlice S8x2048x512 ![0, 0, 0] p slices_S8x2050x512_S8x2048x512_0_0_0)) (mulf (broadcastInDim S8x2048x512 ![0, 1, 2] bcast_S1x1x512_S8x2048x512_0_1_2 (broadcastInDim S1x1x512 ![2] bcast_S512_S1x1x512_2 (shapeCast _ (extractStridedSlice S1x512 ![1, 0] x1 slices_S3x512_S1x512_1_0) shapeCasts_S1x512_S512))) (extractStridedSlice S8x2048x512 ![0, 1, 0] p slices_S8x2050x512_S8x2048x512_0_1_0))) (mulf (broadcastInDim S8x2048x512 ![0, 1, 2] bcast_S1x1x512_S8x2048x512_0_1_2 (broadcastInDim S1x1x512 ![2] bcast_S512_S1x1x512_2 (shapeCast _ (extractStridedSlice S1x512 ![2, 0] x1 slices_S3x512_S1x512_2_0) shapeCasts_S1x512_S512))) (extractStridedSlice S8x2048x512 ![0, 2, 0] p slices_S8x2050x512_S8x2048x512_0_2_0)))

/-- The normalisation of each group of 128 columns. -/
def normV (y : FVec Ideal S8x2048x512 .f32) (x2 : FVec Ideal S512 .f32) : FVec Ideal S8x2048x512 .bf16 :=
  truncf .bf16 (shapeCast _ (mulf (mulf (shapeCast _ y shapeCasts_S8x2048x512_S8x2048x4x128) (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf (shapeCast _ y shapeCasts_S8x2048x512_S8x2048x4x128) (shapeCast _ y shapeCasts_S8x2048x512_S8x2048x4x128)) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x4x128_S8x2048x4x128_0_1_2_3 (broadcastInDim S1x1x4x128 ![2, 3] bcast_S4x128_S1x1x4x128_2_3 (shapeCast _ x2 shapeCasts_S512_S4x128)))) shapeCasts_S8x2048x4x128_S8x2048x512) bitsLt_bf16_f32

/-- The reference's result. -/
def OUT (x0 : FVec Ideal S8x2048x6400 .bf16) (x1 : FVec Ideal S3x512 .f32) (x2 : FVec Ideal S512 .f32) : FVec Ideal S8x2048x512 .bf16 :=
  normV (convV x0 x1 (padded (prod x0))) x2

theorem res_eq (m : (ℓ : Loc nD τ sig) → Buf (Elt Ideal) ℓ) (c : Dev nD) :
    Value.res_main_v45 m c = OUT (m ((c.tc : Thread nD τ).loc main_arg0)) (m ((c.tc : Thread nD τ).loc main_arg1)) (m ((c.tc : Thread nD τ).loc main_arg2)) := rfl

theorem prod_at (x0 : FVec Ideal S8x2048x6400 .bf16) (b : Fin 8) (r : Fin 2048) (d : Fin 512) :
    prod x0 (ix3 b r d) = x0 (ix3 b r ⟨4608 + d.val, by omega⟩) * x0 (ix3 b r ⟨5120 + d.val, by omega⟩) := by
  pointwise [prod]

theorem padded_at (z : FVec Ideal S8x2048x512 .f32) (b : Fin 8) (k : Fin 3) (r : Fin 2048) (d : Fin 512) (i : Fin 2050) (hi : i.val = r.val + k.val) :
    padded z (ix3 b i d) = tap (fun r => z (ix3 b r d)) k r := by
  pointwise [padded]
  unfold tap
  by_cases hx : r.val + k.val < 2
  · rw [dif_neg (by omega), dif_pos hx]
    show (((0#32 : BitVec 32).toInt : ℝ) : EReal) = 0
    norm_num
  · rw [dif_pos (by omega), dif_neg hx]
    exact congrArg (fun r' => z (ix3 b r' d)) (Fin.ext (by simp only; omega))

theorem convV_at (x0 : FVec Ideal S8x2048x6400 .bf16) (x1 : FVec Ideal S3x512 .f32) (p : FVec Ideal S8x2050x512 .f32) (b : Fin 8) (r : Fin 2048) (d : Fin 512) :
    convV x0 x1 p (ix3 b r d) = x0 (ix3 b r ⟨4096 + d.val, by omega⟩)
      * (x1 (ix2 0 d) * p (ix3 b ⟨0 + r.val, by omega⟩ d) + x1 (ix2 1 d) * p (ix3 b ⟨1 + r.val, by omega⟩ d) + x1 (ix2 2 d) * p (ix3 b ⟨2 + r.val, by omega⟩ d)) := by
  pointwise [convV]

/-- Column `l` of group `g`. -/
def col (g : Fin 4) (l : Fin 128) : Fin 512 := ⟨g.val * 128 + l.val, by omega⟩

theorem normV_at (y : FVec Ideal S8x2048x512 .f32) (x2 : FVec Ideal S512 .f32) (b : Fin 8) (r : Fin 2048) (g : Fin 4) (l : Fin 128) :
    normV y x2 (ix3 b r (col g l)) = nrm (fun l => y (ix3 b r (col g l))) (fun l => x2 (ix1 (col g l))) l := by
  have e : ∀ x : Fin 128, (⟨(col g l).val / 128 * 128 + x.val, by omega⟩ : Fin 512) = col g x := fun x => Fin.ext (by simp only [col]; omega)
  pointwise [normV, nrm, zero_add, e]

/-- The reference's result at an index. -/
theorem OUT_at (x0 : FVec Ideal S8x2048x6400 .bf16) (x1 : FVec Ideal S3x512 .f32) (x2 : FVec Ideal S512 .f32) (b : Fin 8) (r : Fin 2048) (g : Fin 4) (l : Fin 128) :
    OUT x0 x1 x2 (ix3 b r (col g l)) = nrm (fun l => conv (fun k => x1 (ix2 k (col g l))) (x0 (ix3 b r ⟨4096 + (col g l).val, by omega⟩))
        (fun r => x0 (ix3 b r ⟨4608 + (col g l).val, by omega⟩) * x0 (ix3 b r ⟨5120 + (col g l).val, by omega⟩)) r) (fun l => x2 (ix1 (col g l))) l := by
  refine (normV_at _ _ b r g l).trans (congrFun (congrArg₂ nrm (funext fun l => ?_) rfl) l)
  rw [convV_at, padded_at _ b 0 r _ _ (by simp), padded_at _ b 1 r _ _ (by simp; omega), padded_at _ b 2 r _ _ (by simp; omega)]
  simp only [prod_at]
  rfl

end Cert.ConvRefIdeal.Spec
-- ==== Proof.ConvValue.lean ====
/-
  The convolution kernel computes the reference: its padded scratch array, its block, the whole output array.
-/
module

public import proofs.«01_k».proof.Proof.ConvSpec
public import proofs.«01_k».proof.Proof.Gen.ConvIdeal.Value
public import Idealize.ShloMosaic.Lib.Pointwise
public import Idealize.ShloMosaic.Lib.Pipeline.ValueKit
public import Idealize.ShloMosaic.Lib.Claim

@[expose] public section

set_option maxRecDepth 16384

noncomputable section

namespace Cert.ConvIdeal.Acc

open Cert.ConvIdeal Cert.ConvIdeal.Gen Idealize.ShloMosaic Idealize.ShloMosaic.TcCoe Idealize.SL.Sem
open Cert.ConvRefIdeal.Spec (tap conv nrm col OUT OUT_at)

/-- The scratch array: eight rows of zeros, then the columns. -/
def scr (z : Fin 2 → Fin 2048 → Fin 128 → EReal) (b : Fin 2) (row : Fin 2056) (l : Fin 128) : EReal :=
  if h : row.val < 8 then 0 else z b ⟨row.val - 8, by omega⟩ l

/-- The same as a function of the array's index. -/
def scrV (z : Fin 2 → Fin 2048 → Fin 128 → EReal) (y : S2x2056x128.Idx) : EReal := scr z (y 0) (y 1) (y 2)

/-- The stores of batch 0. -/
def pc0 (P : FVec Ideal S1x2048x128 .f32) : List (View.Piece (Elt Ideal) S2x2056x128 .f32) :=
  [⟨Rect.unit (s := S2x2056x128) ![0, 8, 0] S1x2048x128.size inb_S2x2056x128_S1x2048x128_0_8_0, P⟩,
    ⟨Rect.unit (s := S2x2056x128) ![0, 0, 0] S1x8x128.size inb_S2x2056x128_S1x8x128_0_0_0, k0_pay2 (F := Ideal)⟩]

/-- The stores of both batches. -/
def pc1 (P Q : FVec Ideal S1x2048x128 .f32) : List (View.Piece (Elt Ideal) S2x2056x128 .f32) :=
  ⟨Rect.unit (s := S2x2056x128) ![1, 8, 0] S1x2048x128.size inb_S2x2056x128_S1x2048x128_1_8_0, Q⟩
    :: ⟨Rect.unit (s := S2x2056x128) ![1, 0, 0] S1x8x128.size inb_S2x2056x128_S1x8x128_1_0_0, k0_pay6 (F := Ideal)⟩ :: pc0 P

theorem pay2_at (r : Fin 8) (l : Fin 128) : k0_pay2 (F := Ideal) (ix3 0 r l) = 0 := by
  pointwise [k0_pay2]
theorem pay6_at (r : Fin 8) (l : Fin 128) : k0_pay6 (F := Ideal) (ix3 0 r l) = 0 := by
  pointwise [k0_pay6]

theorem rows_ok (z : Fin 2 → Fin 2048 → Fin 128 → EReal) (b : Fin 2) (h : ∀ a : Fin 3, ![b.val, 8, 0] a + S1x2048x128.size a ≤ S2x2056x128.size a)
    (P : FVec Ideal S1x2048x128 .f32) (hP : ∀ r l, P (ix3 0 r l) = z b r l) (x : S1x2048x128.Idx) :
    P x = scrV z ((Rect.unit (s := S2x2056x128) ![b.val, 8, 0] S1x2048x128.size h).emb x) := by
  obtain ⟨r, l, rfl⟩ : ∃ (r : Fin 2048) (l : Fin 128), x = ix3 0 r l := ⟨x 1, x 2, (eq_ix3 x).trans (by rw [Fin.fin_one_eq_zero (x 0)])⟩
  have e : (Rect.unit (s := S2x2056x128) ![b.val, 8, 0] S1x2048x128.size h).emb (ix3 0 r l) = ix3 b (⟨8 + r.val, by omega⟩ : Fin 2056) l := by blk_ext []
  refine (hP r l).trans (Eq.trans ?_ (congrArg (scrV z) e).symm)
  show _ = scr z b ⟨8 + r.val, by omega⟩ l
  unfold scr
  rw [dif_neg (by simp only; omega)]
  exact congrArg (fun r' => z b r' l) (Fin.ext (by simp only; omega))

theorem zeros_ok (z : Fin 2 → Fin 2048 → Fin 128 → EReal) (b : Fin 2) (h : ∀ a : Fin 3, ![b.val, 0, 0] a + S1x8x128.size a ≤ S2x2056x128.size a)
    (P : FVec Ideal S1x8x128 .f32) (hP : ∀ r l, P (ix3 0 r l) = 0) (x : S1x8x128.Idx) :
    P x = scrV z ((Rect.unit (s := S2x2056x128) ![b.val, 0, 0] S1x8x128.size h).emb x) := by
  obtain ⟨r, l, rfl⟩ : ∃ (r : Fin 8) (l : Fin 128), x = ix3 0 r l := ⟨x 1, x 2, (eq_ix3 x).trans (by rw [Fin.fin_one_eq_zero (x 0)])⟩
  have e : (Rect.unit (s := S2x2056x128) ![b.val, 0, 0] S1x8x128.size h).emb (ix3 0 r l) = ix3 b (⟨r.val, by omega⟩ : Fin 2056) l := by blk_ext []
  refine (hP r l).trans (Eq.trans ?_ (congrArg (scrV z) e).symm)
  show _ = scr z b ⟨r.val, by omega⟩ l
  unfold scr
  rw [dif_pos (by simp only; omega)]

/-- Every row of a batch lies in one of its two stores. -/
theorem covered (b : Fin 2) (row : Fin 2056) (l : Fin 128) (h : ∀ a : Fin 3, ![b.val, 8, 0] a + S1x2048x128.size a ≤ S2x2056x128.size a)
    (h' : ∀ a : Fin 3, ![b.val, 0, 0] a + S1x8x128.size a ≤ S2x2056x128.size a) :
    ix3 b row l ∈ (Rect.unit (s := S2x2056x128) ![b.val, 8, 0] S1x2048x128.size h).set ∨ ix3 b row l ∈ (Rect.unit (s := S2x2056x128) ![b.val, 0, 0] S1x8x128.size h').set := by
  have hr := row.isLt
  have hl := l.isLt
  rw [Rect.mem_set_unit, Rect.mem_set_unit]
  by_cases hx : row.val < 8
  · refine Or.inr fun a => ?_
    match a with
    | ⟨0, _⟩ => exact ⟨le_refl _, Nat.lt_succ_self _⟩
    | ⟨1, _⟩ => exact ⟨Nat.zero_le _, by show row.val < 0 + 8; omega⟩
    | ⟨2, _⟩ => exact ⟨Nat.zero_le _, by show l.val < 0 + 128; omega⟩
  · refine Or.inl fun a => ?_
    match a with
    | ⟨0, _⟩ => exact ⟨le_refl _, Nat.lt_succ_self _⟩
    | ⟨1, _⟩ => exact ⟨by show 8 ≤ row.val; omega, by show row.val < 8 + 2048; omega⟩
    | ⟨2, _⟩ => exact ⟨Nat.zero_le _, by show l.val < 0 + 128; omega⟩

/-- A load of 2048 rows of a batch from row `6 + k` on reads the column behind its zeros. -/
theorem load_at (z : Fin 2 → Fin 2048 → Fin 128 → EReal) (v : View sig .tc .vmem S2x2056x128 .f32) (L : List (View.Piece (Elt Ideal) S2x2056x128 .f32))
    (hL : ∀ p ∈ L, ∀ x : p.1.shape.Idx, p.2 x = scrV z (p.1.emb x)) (b : Fin 2) (hc : ∀ row l, ∃ p ∈ L, ix3 b row l ∈ p.1.set)
    (k : Fin 3) (o : Fin 3 → ℕ) (ho : o = ![b.val, 6 + k.val, 0]) (hi : ∀ a : Fin 3, o a + S1x2048x128.size a ≤ S2x2056x128.size a) (r : Fin 2048) (l : Fin 128) :
    v.readCov L (Rect.unit (s := S2x2056x128) o S1x2048x128.size hi).toLoadRect (ix3 0 r l) = tap (fun r => z b r l) k r := by
  subst ho
  have e : (Rect.unit (s := S2x2056x128) ![b.val, 6 + k.val, 0] S1x2048x128.size hi).emb (ix3 0 r l) = ix3 b (⟨6 + k.val + r.val, by omega⟩ : Fin 2056) l := by blk_ext []
  refine (congrArg (v.read (Elt Ideal) (v.writes (Elt Ideal) v.junk L)) e).trans ((View.read_writes_apply_of_pieces v _ (scrV z) L hL _ (hc _ _)).trans ?_)
  show scr z b ⟨6 + k.val + r.val, by omega⟩ l = _
  unfold scr tap
  by_cases hx : r.val + k.val < 2
  · rw [dif_pos (by simp only; omega), dif_pos hx]
  · rw [dif_neg (by simp only; omega), dif_neg hx]
    exact congrArg (fun r' => z b r' l) (Fin.ext (by simp only; omega))

theorem pc0_ok (z : Fin 2 → Fin 2048 → Fin 128 → EReal) (P : FVec Ideal S1x2048x128 .f32) (hP : ∀ r l, P (ix3 0 r l) = z 0 r l) :
    ∀ p ∈ pc0 P, ∀ x : p.1.shape.Idx, p.2 x = scrV z (p.1.emb x) := by
  unfold pc0
  simp only [List.forall_mem_cons, List.not_mem_nil, false_implies, implies_true, and_true]
  exact ⟨rows_ok z 0 _ P hP, zeros_ok z 0 _ _ pay2_at⟩

theorem pc1_ok (z : Fin 2 → Fin 2048 → Fin 128 → EReal) (P Q : FVec Ideal S1x2048x128 .f32) (hP : ∀ r l, P (ix3 0 r l) = z 0 r l) (hQ : ∀ r l, Q (ix3 0 r l) = z 1 r l) :
    ∀ p ∈ pc1 P Q, ∀ x : p.1.shape.Idx, p.2 x = scrV z (p.1.emb x) := by
  unfold pc1
  simp only [List.forall_mem_cons]
  exact ⟨rows_ok z 1 _ Q hQ, zeros_ok z 1 _ _ pay6_at, pc0_ok z P hP⟩

theorem pc0_cov (P : FVec Ideal S1x2048x128 .f32) (row : Fin 2056) (l : Fin 128) : ∃ p ∈ pc0 P, ix3 0 row l ∈ p.1.set := by
  rcases covered 0 row l inb_S2x2056x128_S1x2048x128_0_8_0 inb_S2x2056x128_S1x8x128_0_0_0 with h | h
  · exact ⟨_, List.mem_cons_self, h⟩
  · exact ⟨_, List.mem_cons_of_mem _ List.mem_cons_self, h⟩

theorem pc1_cov (P Q : FVec Ideal S1x2048x128 .f32) (row : Fin 2056) (l : Fin 128) : ∃ p ∈ pc1 P Q, ix3 1 row l ∈ p.1.set := by
  rcases covered 1 row l inb_S2x2056x128_S1x2048x128_1_8_0 inb_S2x2056x128_S1x8x128_1_0_0 with h | h
  · exact ⟨_, List.mem_cons_self, h⟩
  · exact ⟨_, List.mem_cons_of_mem _ List.mem_cons_self, h⟩

/-- Batch `b` of a staged block. -/
def rdb (a : Memref sig .tc .vmem S2x2048x128 .bf16) (h : a.IsWhole) (x : Vec Ideal S2x2048x128 .bf16) (b : Fin 2) : Vec Ideal S1x2048x128 .bf16 :=
  match b with
  | 0 => View.readAt (Elt Ideal) a.view (Rect.unit (s := S2x2048x128) ![0, 0, 0] S1x2048x128.size inb_S2x2048x128_S1x2048x128_0_0_0).toLoadRect (h.unread x)
  | 1 => View.readAt (Elt Ideal) a.view (Rect.unit (s := S2x2048x128) ![1, 0, 0] S1x2048x128.size inb_S2x2048x128_S1x2048x128_1_0_0).toLoadRect (h.unread x)

theorem b_at (a : Memref sig .tc .vmem S2x2048x128 .bf16) (h : a.IsWhole) (x : Vec Ideal S2x2048x128 .bf16) (b : Fin 2) (r : Fin 2048) (l : Fin 128) :
    rdb a h x b (ix3 0 r l) = x (ix3 b r l) := by
  match b with
  | 0 =>
    refine (congrFun (h.read_unread x) (Rect.emb _ _)).trans (congrArg x ?_)
    blk_ext []
  | 1 =>
    refine (congrFun (h.read_unread x) (Rect.emb _ _)).trans (congrArg x ?_)
    blk_ext []

/-- The staged taps. -/
def rdw (a : Memref sig .tc .vmem S3x128 .f32) (h : a.IsWhole) (x : Vec Ideal S3x128 .f32) : Vec Ideal S3x128 .f32 :=
  View.readAt (Elt Ideal) a.view (Rect.unit (s := S3x128) ![0, 0] S3x128.size inb_S3x128_S3x128_0_0).toLoadRect (h.unread x)

theorem w_at (a : Memref sig .tc .vmem S3x128 .f32) (h : a.IsWhole) (x : Vec Ideal S3x128 .f32) (k : Fin 3) (l : Fin 128) : rdw a h x (ix2 k l) = x (ix2 k l) := by
  refine (congrFun (h.read_unread x) (Rect.emb _ _)).trans (congrArg x ?_)
  blk_ext []

/-- The staged gain. -/
def rdg (a : Memref sig .tc .vmem S1x128 .f32) (h : a.IsWhole) (x : Vec Ideal S1x128 .f32) : Vec Ideal S1x128 .f32 :=
  View.readAt (Elt Ideal) a.view (Rect.unit (s := S1x128) ![0, 0] S1x128.size inb_S1x128_S1x128_0_0).toLoadRect (h.unread x)

theorem g_at (a : Memref sig .tc .vmem S1x128 .f32) (h : a.IsWhole) (x : Vec Ideal S1x128 .f32) (l : Fin 128) : rdg a h x (ix2 0 l) = x (ix2 0 l) := by
  refine (congrFun (h.read_unread x) (Rect.emb _ _)).trans (congrArg x ?_)
  blk_ext []

/-- The run's two stores. -/
theorem run_pieces (c : Dev nD) (i : grid0.Coords) (arg2 : Memref sig .tc .vmem S2x2048x128 .bf16) (harg2 : arg2.IsWhole) (arg3 : Memref sig .tc .vmem S2x2048x128 .bf16) (harg3 : arg3.IsWhole) (arg4 : Memref sig .tc .vmem S2x2048x128 .bf16) (harg4 : arg4.IsWhole) (arg5 : Memref sig .tc .vmem S3x128 .f32) (harg5 : arg5.IsWhole) (arg6 : Memref sig .tc .vmem S1x128 .f32) (harg6 : arg6.IsWhole) (arg7 : Memref sig .tc .vmem S2x2048x128 .bf16) (harg7 : arg7.IsWhole) (arg8 : Memref sig .tc .vmem S2x2056x128 .f32) (harg8 : arg8.IsWhole)
    (x0 : Vec Ideal S2x2048x128 .bf16) (x1 : Vec Ideal S2x2048x128 .bf16) (x2 : Vec Ideal S2x2048x128 .bf16) (x3 : Vec Ideal S3x128 .f32) (x4 : Vec Ideal S1x128 .f32) :
    (kernelRun0_A (F := Ideal) c i arg2 harg2 arg3 harg3 arg4 harg4 arg5 harg5 arg6 harg6 arg7 harg7 arg8 harg8 x0 x1 x2 x3 x4).1
      = [⟨Rect.unit (s := S2x2048x128) ![1, 0, 0] S1x2048x128.size inb_S2x2048x128_S1x2048x128_1_0_0,
          k0_pay1 (F := Ideal) (k0_pay9 (F := Ideal) (rdw arg5 harg5 x3)
            (arg8.view.readCov (pc1 (k0_pay3 (F := Ideal) (rdb arg3 harg3 x1 0) (rdb arg4 harg4 x2 0)) (k0_pay8 (F := Ideal) (k0_pay7 (F := Ideal) (rdb arg3 harg3 x1 1) (rdb arg4 harg4 x2 1)))) (Rect.unit (s := S2x2056x128) ![1, 6, 0] S1x2048x128.size inb_S2x2056x128_S1x2048x128_1_6_0).toLoadRect)
            (arg8.view.readCov (pc1 (k0_pay3 (F := Ideal) (rdb arg3 harg3 x1 0) (rdb arg4 harg4 x2 0)) (k0_pay8 (F := Ideal) (k0_pay7 (F := Ideal) (rdb arg3 harg3 x1 1) (rdb arg4 harg4 x2 1)))) (Rect.unit (s := S2x2056x128) ![1, 7, 0] S1x2048x128.size inb_S2x2056x128_S1x2048x128_1_7_0).toLoadRect)
            (arg8.view.readCov (pc1 (k0_pay3 (F := Ideal) (rdb arg3 harg3 x1 0) (rdb arg4 harg4 x2 0)) (k0_pay8 (F := Ideal) (k0_pay7 (F := Ideal) (rdb arg3 harg3 x1 1) (rdb arg4 harg4 x2 1)))) (Rect.unit (s := S2x2056x128) ![1, 8, 0] S1x2048x128.size inb_S2x2056x128_S1x2048x128_1_8_0).toLoadRect)
            (rdb arg2 harg2 x0 1) (rdg arg6 harg6 x4))⟩,
        ⟨Rect.unit (s := S2x2048x128) ![0, 0, 0] S1x2048x128.size inb_S2x2048x128_S1x2048x128_0_0_0,
          k0_pay5 (F := Ideal) (k0_pay4 (F := Ideal) (rdw arg5 harg5 x3)
            (arg8.view.readCov (pc0 (k0_pay3 (F := Ideal) (rdb arg3 harg3 x1 0) (rdb arg4 harg4 x2 0))) (Rect.unit (s := S2x2056x128) ![0, 6, 0] S1x2048x128.size inb_S2x2056x128_S1x2048x128_0_6_0).toLoadRect)
            (arg8.view.readCov (pc0 (k0_pay3 (F := Ideal) (rdb arg3 harg3 x1 0) (rdb arg4 harg4 x2 0))) (Rect.unit (s := S2x2056x128) ![0, 7, 0] S1x2048x128.size inb_S2x2056x128_S1x2048x128_0_7_0).toLoadRect)
            (arg8.view.readCov (pc0 (k0_pay3 (F := Ideal) (rdb arg3 harg3 x1 0) (rdb arg4 harg4 x2 0))) (Rect.unit (s := S2x2056x128) ![0, 8, 0] S1x2048x128.size inb_S2x2056x128_S1x2048x128_0_8_0).toLoadRect))
            (rdb arg2 harg2 x0 0) (rdg arg6 harg6 x4)⟩] := by
  unfold kernelRun0_A
  rfl

theorem pay3_at (p q : FVec Ideal S1x2048x128 .bf16) (r : Fin 2048) (l : Fin 128) : k0_pay3 (F := Ideal) p q (ix3 0 r l) = p (ix3 0 r l) * q (ix3 0 r l) := by
  pointwise [k0_pay3]

theorem pay8_at (p q : FVec Ideal S1x2048x128 .bf16) (r : Fin 2048) (l : Fin 128) : k0_pay8 (F := Ideal) (k0_pay7 (F := Ideal) p q) (ix3 0 r l) = p (ix3 0 r l) * q (ix3 0 r l) := by
  pointwise [k0_pay8, k0_pay7]

theorem pay5_at (w : FVec Ideal S3x128 .f32) (t0 t1 t2 : FVec Ideal S1x2048x128 .f32) (q : FVec Ideal S1x2048x128 .bf16) (g : FVec Ideal S1x128 .f32) (r : Fin 2048) (l : Fin 128) :
    k0_pay5 (F := Ideal) (k0_pay4 (F := Ideal) w t0 t1 t2) q g (ix3 0 r l)
      = nrm (fun l => q (ix3 0 r l) * (w (ix2 0 l) * t0 (ix3 0 r l) + w (ix2 1 l) * t1 (ix3 0 r l) + w (ix2 2 l) * t2 (ix3 0 r l))) (fun l => g (ix2 0 l)) l := by
  pointwise [k0_pay5, k0_pay4, nrm]

theorem pay1_at (w : FVec Ideal S3x128 .f32) (t0 t1 t2 : FVec Ideal S1x2048x128 .f32) (q : FVec Ideal S1x2048x128 .bf16) (g : FVec Ideal S1x128 .f32) (r : Fin 2048) (l : Fin 128) :
    k0_pay1 (F := Ideal) (k0_pay9 (F := Ideal) w t0 t1 t2 q g) (ix3 0 r l)
      = nrm (fun l => q (ix3 0 r l) * (w (ix2 0 l) * t0 (ix3 0 r l) + w (ix2 1 l) * t1 (ix3 0 r l) + w (ix2 2 l) * t2 (ix3 0 r l))) (fun l => g (ix2 0 l)) l := by
  pointwise [k0_pay1, k0_pay9, nrm]

/-- The block at batch `b`, row `r`, lane `l`. -/
def blk (x0 x1 x2 : Vec Ideal S2x2048x128 .bf16) (x3 : Vec Ideal S3x128 .f32) (x4 : Vec Ideal S1x128 .f32) (b : Fin 2) (r : Fin 2048) (l : Fin 128) : EReal :=
  nrm (fun l => conv (fun k => x3 (ix2 k l)) (x0 (ix3 b r l)) (fun r => x1 (ix3 b r l) * x2 (ix3 b r l)) r) (fun l => x4 (ix2 0 l)) l

theorem store_ok (G : Fin 2 → Fin 2048 → Fin 128 → EReal) (b : Fin 2) (h : ∀ a : Fin 3, ![b.val, 0, 0] a + S1x2048x128.size a ≤ S2x2048x128.size a)
    (P : FVec Ideal S1x2048x128 .bf16) (hP : ∀ r l, P (ix3 0 r l) = G b r l) (x : S1x2048x128.Idx) :
    P x = (fun y : S2x2048x128.Idx => G (y 0) (y 1) (y 2)) ((Rect.unit (s := S2x2048x128) ![b.val, 0, 0] S1x2048x128.size h).emb x) := by
  obtain ⟨r, l, rfl⟩ : ∃ (r : Fin 2048) (l : Fin 128), x = ix3 0 r l := ⟨x 1, x 2, (eq_ix3 x).trans (by rw [Fin.fin_one_eq_zero (x 0)])⟩
  have e : (Rect.unit (s := S2x2048x128) ![b.val, 0, 0] S1x2048x128.size h).emb (ix3 0 r l) = ix3 b r l := by blk_ext []
  exact (hP r l).trans (congrArg (fun y : S2x2048x128.Idx => G (y 0) (y 1) (y 2)) e).symm

/-- The convolution from its factors. -/
theorem sum_of {q q' a b c : EReal} {w w' : Fin 3 → EReal} {f : Fin 2048 → EReal} {r : Fin 2048} (hq : q = q') (hw : ∀ k, w k = w' k)
    (ha : a = tap f 0 r) (hb : b = tap f 1 r) (hc : c = tap f 2 r) : q * (w 0 * a + w 1 * b + w 2 * c) = conv w' q' f r := by
  rw [hq, hw, hw, hw, ha, hb, hc]
  rfl

theorem out_at (c : Dev nD) (i : grid0.Coords) (arg2 : Memref sig .tc .vmem S2x2048x128 .bf16) (harg2 : arg2.IsWhole) (arg3 : Memref sig .tc .vmem S2x2048x128 .bf16) (harg3 : arg3.IsWhole) (arg4 : Memref sig .tc .vmem S2x2048x128 .bf16) (harg4 : arg4.IsWhole) (arg5 : Memref sig .tc .vmem S3x128 .f32) (harg5 : arg5.IsWhole) (arg6 : Memref sig .tc .vmem S1x128 .f32) (harg6 : arg6.IsWhole) (arg7 : Memref sig .tc .vmem S2x2048x128 .bf16) (harg7 : arg7.IsWhole) (arg8 : Memref sig .tc .vmem S2x2056x128 .f32) (harg8 : arg8.IsWhole)
    (x0 : Vec Ideal S2x2048x128 .bf16) (x1 : Vec Ideal S2x2048x128 .bf16) (x2 : Vec Ideal S2x2048x128 .bf16) (x3 : Vec Ideal S3x128 .f32) (x4 : Vec Ideal S1x128 .f32) (b : Fin 2) (r : Fin 2048) (l : Fin 128) :
    out0_A_5 (F := Ideal) c i arg2 harg2 arg3 harg3 arg4 harg4 arg5 harg5 arg6 harg6 arg7 harg7 arg8 harg8 x0 x1 x2 x3 x4 (ix3 b r l) = blk x0 x1 x2 x3 x4 b r l := by
  have hP : ∀ r l, k0_pay3 (F := Ideal) (rdb arg3 harg3 x1 0) (rdb arg4 harg4 x2 0) (ix3 0 r l) = x1 (ix3 0 r l) * x2 (ix3 0 r l) := fun r l => by
    rw [pay3_at, b_at, b_at]
  have hQ : ∀ r l, k0_pay8 (F := Ideal) (k0_pay7 (F := Ideal) (rdb arg3 harg3 x1 1) (rdb arg4 harg4 x2 1)) (ix3 0 r l) = x1 (ix3 1 r l) * x2 (ix3 1 r l) := fun r l => by
    rw [pay8_at, b_at, b_at]
  have t0 := load_at (fun b r l => x1 (ix3 b r l) * x2 (ix3 b r l)) arg8.view _ (pc0_ok _ _ hP) 0 (pc0_cov _)
  have t1 := load_at (fun b r l => x1 (ix3 b r l) * x2 (ix3 b r l)) arg8.view _ (pc1_ok _ _ _ hP hQ) 1 (pc1_cov _ _)
  unfold out0_A_5
  refine View.read_writes_apply_of_pieces VO0_5 _ (fun y : S2x2048x128.Idx => blk x0 x1 x2 x3 x4 (y 0) (y 1) (y 2)) _ ?_ (ix3 b r l)
    (cover0_A_5 c i arg2 harg2 arg3 harg3 arg4 harg4 arg5 harg5 arg6 harg6 arg7 harg7 arg8 harg8 x0 x1 x2 x3 x4 (ix3 b r l))
  rw [run_pieces]
  simp only [List.forall_mem_cons, List.not_mem_nil, false_implies, implies_true, and_true]
  refine ⟨store_ok (blk x0 x1 x2 x3 x4) 1 _ _ fun r l => ?_, store_ok (blk x0 x1 x2 x3 x4) 0 _ _ fun r l => ?_⟩
  · rw [pay1_at]
    exact congrFun (congrArg₂ nrm (funext fun l => sum_of (b_at _ _ _ 1 r l) (fun k => w_at _ _ _ k l) (t1 0 _ rfl _ r l) (t1 1 _ rfl _ r l) (t1 2 _ rfl _ r l))
      (funext fun l => g_at _ _ _ l)) l
  · rw [pay5_at]
    exact congrFun (congrArg₂ nrm (funext fun l => sum_of (b_at _ _ _ 0 r l) (fun k => w_at _ _ _ k l) (t0 0 _ rfl _ r l) (t0 1 _ rfl _ r l) (t0 2 _ rfl _ r l))
      (funext fun l => g_at _ _ _ l)) l

/-- Where each grid point's blocks lie. -/
theorem idx : ∀ t : Fin cfg0.N, win0_0.index t = ![t.val / 4, 0, 32 + t.val % 4] ∧ win0_1.index t = ![t.val / 4, 0, 36 + t.val % 4] ∧ win0_2.index t = ![t.val / 4, 0, 40 + t.val % 4]
    ∧ win0_3.index t = ![0, t.val % 4] ∧ win0_4.index t = ![0, t.val % 4] ∧ win0_5.index t = ![t.val / 4, 0, t.val % 4] :=
  (by decide +kernel : ∀ t : Fin grid0.N, _)

variable (m : (ℓ : Loc nD τ sig) → Buf (Elt Ideal) ℓ)

theorem row0 (c : Dev nD) (t : Fin cfg0.N) (b : Fin 2) (r : Fin 2048) (l : Fin 128) (B : Fin 8) (hB : B.val = t.val / 4 * 2 + b.val) (g : Fin 4) (hg : g.val = t.val % 4) :
    (show FVec Ideal S2x2048x128 .bf16 from iblk m c 0 t) (ix3 b r l)
      = (show FVec Ideal S8x2048x6400 .bf16 from m ((c : Thread nD τ).loc main_arg0)) (ix3 B r (⟨4096 + (col g l).val, by omega⟩ : Fin 6400)) := by
  refine Eq.trans (b := (show FVec Ideal S8x2048x6400 .bf16 from V m c main_arg0) (ix3 B r (⟨4096 + (col g l).val, by omega⟩ : Fin 6400))) ?_ (congrFun (V_main_arg0 m c) _)
  blk_ext [iblk, idx t, col]

theorem row1 (c : Dev nD) (t : Fin cfg0.N) (b : Fin 2) (r : Fin 2048) (l : Fin 128) (B : Fin 8) (hB : B.val = t.val / 4 * 2 + b.val) (g : Fin 4) (hg : g.val = t.val % 4) :
    (show FVec Ideal S2x2048x128 .bf16 from iblk m c 1 t) (ix3 b r l)
      = (show FVec Ideal S8x2048x6400 .bf16 from m ((c : Thread nD τ).loc main_arg0)) (ix3 B r (⟨4608 + (col g l).val, by omega⟩ : Fin 6400)) := by
  refine Eq.trans (b := (show FVec Ideal S8x2048x6400 .bf16 from V m c main_arg0) (ix3 B r (⟨4608 + (col g l).val, by omega⟩ : Fin 6400))) ?_ (congrFun (V_main_arg0 m c) _)
  blk_ext [iblk, idx t, col]

theorem row2 (c : Dev nD) (t : Fin cfg0.N) (b : Fin 2) (r : Fin 2048) (l : Fin 128) (B : Fin 8) (hB : B.val = t.val / 4 * 2 + b.val) (g : Fin 4) (hg : g.val = t.val % 4) :
    (show FVec Ideal S2x2048x128 .bf16 from iblk m c 2 t) (ix3 b r l)
      = (show FVec Ideal S8x2048x6400 .bf16 from m ((c : Thread nD τ).loc main_arg0)) (ix3 B r (⟨5120 + (col g l).val, by omega⟩ : Fin 6400)) := by
  refine Eq.trans (b := (show FVec Ideal S8x2048x6400 .bf16 from V m c main_arg0) (ix3 B r (⟨5120 + (col g l).val, by omega⟩ : Fin 6400))) ?_ (congrFun (V_main_arg0 m c) _)
  blk_ext [iblk, idx t, col]

theorem taps3 (c : Dev nD) (t : Fin cfg0.N) (k : Fin 3) (l : Fin 128) (g : Fin 4) (hg : g.val = t.val % 4) :
    (show FVec Ideal S3x128 .f32 from iblk m c 3 t) (ix2 k l) = (show FVec Ideal S3x512 .f32 from m ((c : Thread nD τ).loc main_arg1)) (ix2 k (col g l)) := by
  refine Eq.trans (b := (show FVec Ideal S3x512 .f32 from V m c main_arg1) (ix2 k (col g l))) ?_ (congrFun (V_main_arg1 m c) _)
  blk_ext [iblk, idx t, col]

theorem gain4 (c : Dev nD) (t : Fin cfg0.N) (l : Fin 128) (g : Fin 4) (hg : g.val = t.val % 4) :
    (show FVec Ideal S1x128 .f32 from iblk m c 4 t) (ix2 0 l) = (show FVec Ideal S512 .f32 from m ((c : Thread nD τ).loc main_arg2)) (ix1 (col g l)) := by
  refine Eq.trans (b := (show FVec Ideal S1x512 .f32 from V m c main_v0) (ix2 0 (col g l))) ?_ ?_
  · blk_ext [iblk, idx t, col]
  · entry_read
    pointwise

/-- The output array after the run is the reference's result. -/
theorem final (c : Dev nD) : (dats m 0 c).arrAt 5 (cfgs 0).N
    = OUT (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  obtain ⟨b, r, l, rfl⟩ : ∃ (b : Fin 2) (r : Fin 2048) (l : Fin 128), y = ix3 b r l := ⟨y 0, y 1, y 2, eq_ix3 y⟩
  have ht : t.val < 16 := lt_of_lt_of_eq t.isLt N_0
  have he : ((cfg0.win 5).blk t).view.emb (ix3 b r l) = ix3 (⟨t.val / 4 * 2 + b.val, by omega⟩ : Fin 8) r (col ⟨t.val % 4, by omega⟩ l) := by blk_ext [idx t, col]
  refine Eq.trans (out_at c (grid0.coords t) _ (hs0_0 t) _ (hs0_1 t) _ (hs0_2 t) _ (hs0_3 t) _ (hs0_4 t) _ (hs0_5 t) _ (Memref.isWhole_whole _) _ _ _ _ _ b r l) ?_
  refine Eq.trans ?_ ((congrArg _ he).trans (OUT_at _ _ _ _ r _ l)).symm
  have q := fun l => row0 m c t b r l ⟨t.val / 4 * 2 + b.val, by omega⟩ rfl ⟨t.val % 4, by omega⟩ rfl
  have p := fun l r => congrArg₂ (· * ·) (row1 m c t b r l ⟨t.val / 4 * 2 + b.val, by omega⟩ rfl ⟨t.val % 4, by omega⟩ rfl) (row2 m c t b r l ⟨t.val / 4 * 2 + b.val, by omega⟩ rfl ⟨t.val % 4, by omega⟩ rfl)
  refine congrFun (congrArg₂ nrm (funext fun l => ?_) (funext fun l => gain4 m c t l ⟨t.val % 4, by omega⟩ rfl)) l
  exact congrFun (congr (congrArg₂ conv (funext fun k => taps3 m c t k l ⟨t.val % 4, by omega⟩ rfl) (q l)) (funext fun r => p l r)) r

end Cert.ConvIdeal.Acc
-- ==== Proof.SwaPieces.lean ====
/-
  The attention kernel's trips: each trip of the loop writes two blocks of rows, one per batch, and each block is one term of the
  trip's reads: four pairs of heads, side by side.
-/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Swa

open Cert.KernelIdeal Cert.KernelIdeal.Gen Idealize.ShloMosaic Idealize.ShloMosaic.TcCoe Idealize.SL.Sem

variable {F : FTy → Type} [FloatOps F] [Named F]

/-- One head's attention output: masked scores against the two key tiles, weights from the scores' maximum and the sink, and the
    weighted sum of the values. -/
def head (valid : IVec S128x256 1) (qm : FVec F S128x128 .bf16) (kk vv : Vec F S1x1x256x128 .bf16) (sk : Elt F .f32) : FVec F S128x128 .f32 :=
  k0_pay115 (k0_pay80 (k0_pay31 valid qm kk) (k0_pay64 (k0_pay31 valid qm kk) (k0_pay48 sk)))
    (k0_pay98 (k0_pay48 sk) (k0_pay64 (k0_pay31 valid qm kk) (k0_pay48 sk)) (k0_pay80 (k0_pay31 valid qm kk) (k0_pay64 (k0_pay31 valid qm kk) (k0_pay48 sk)))) vv

/-- Two heads side by side on 128 lanes, each half normalised by its own mean square and scaled by its gain. -/
def pair (v2 : IVec S1x128 1) (v63 : FVec F S128x128 .bf16) (valid : IVec S128x256 1) (v209 v214 : FVec F S1x128 .f32) (q : Vec F S1x128x128 .bf16)
    (kk vv : Vec F S1x1x256x128 .bf16) (s0 s1 : Elt F .f32) (og : Vec F S1x128 .f32) : FVec F S128x128 .f32 :=
  k0_pay135 v2 v63 (head valid (k0_pay4 v63 v209 q) kk vv s0) (head valid (k0_pay5 v63 v214 q) kk vv s1) og

/-- Four pairs of heads side by side: the stored block of 128 rows. -/
def rowBlk (a b c d : FVec F S128x128 .f32) : FVec F S1x128x512 .bf16 :=
  shapeCast S1x128x512 (truncf .bf16 (concatenate S128x512 1 [⟨S128x128, a⟩, ⟨S128x128, b⟩, ⟨S128x128, c⟩, ⟨S128x128, d⟩] concatenates_S128x128_S128x128_S128x128_S128x128_S128x512_d1) bitsLt_bf16_f32) shapeCasts_S128x512_S1x128x512

set_option maxHeartbeats 4000000 in
/-- A trip's two stores: the second batch's block, then the first's. -/
theorem trip_pieces (𝒱 : Variants) (c : Dev nD) (bd : Option 𝒱.V) (i : grid0.Coords) (arg1 : Memref sig .tc .vmem S2x2048x512 .bf16) (harg1 : arg1.IsWhole) (arg2 : Memref sig .tc .vmem S2x2048x128 .bf16) (harg2 : arg2.IsWhole) (arg3 : Memref sig .tc .vmem S2x2048x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .smem S8 .f32) (harg6 : arg6.IsWhole) (arg7 : Memref sig .tc .vmem S1x512 .f32) (harg7 : arg7.IsWhole) (arg8 : Memref sig .tc .vmem S2x2048x512 .bf16) (harg8 : arg8.IsWhole) (arg9 : Memref sig .tc .vmem S2x2x2176x128 .bf16) (harg9 : arg9.IsWhole) (arg10 : Memref sig .tc .vmem S2x2x2176x128 .bf16) (harg10 : arg10.IsWhole) (v2 : IVec S1x128 1) (v63 : FVec F S128x128 .bf16) (v202 : IVec S128x256 1) (v204 : IVec S128x256 1) (v209 : FVec F S1x128 .f32) (v214 : FVec F S1x128 .f32) (c0_i32_111 : BitVec 32) (c1_i32_112 : BitVec 32) (X_arg1 : BufTy.Contents (Elt F) arg1.view.ty) (X_arg6 : BufTy.Contents (Elt F) arg6.view.ty) (X_arg7 : BufTy.Contents (Elt F) arg7.view.ty) (X_arg9 : BufTy.Contents (Elt F) arg9.view.ty) (X_arg10 : BufTy.Contents (Elt F) arg10.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 v2 v63 v202 v204 v209 v214 c0_i32_111 c1_i32_112 X_arg1 X_arg6 X_arg7 X_arg9 X_arg10 k
      = [⟨Rect.unit (s := S2x2048x512) (k0_off14 k) S1x128x512.size (k0_off14_inb k), (rowBlk (pair v2 v63 (k0_pay2 v202 v204 c0_i32_111 c1_i32_112 k) v209 v214 (View.readAt (Elt F) arg1.view (Rect.unit (s := S2x2048x512) (k0_off5 k) S1x128x128.size (k0_off5_inb k)).toLoadRect X_arg1) (View.readAt (Elt F) arg9.view (Rect.unit (s := S2x2x2176x128) (k0_off11 k) S1x1x256x128.size (k0_off11_inb k)).toLoadRect X_arg9) (View.readAt (Elt F) arg10.view (Rect.unit (s := S2x2x2176x128) (k0_off11 k) S1x1x256x128.size (k0_off11_inb k)).toLoadRect X_arg10) (View.readAt (Elt F) arg6.view (Rect.unit (s := S8) ![0] S1.size inb_S8_S1_0).toLoadRect X_arg6 (Shape.Idx.first (by decide))) (View.readAt (Elt F) arg6.view (Rect.unit (s := S8) ![1] S1.size inb_S8_S1_1).toLoadRect X_arg6 (Shape.Idx.first (by decide))) (View.readAt (Elt F) arg7.view (Rect.unit (s := S1x512) ![0, 0] S1x128.size inb_S1x512_S1x128_0_0).toLoadRect X_arg7))
        (pair v2 v63 (k0_pay2 v202 v204 c0_i32_111 c1_i32_112 k) v209 v214 (View.readAt (Elt F) arg1.view (Rect.unit (s := S2x2048x512) (k0_off6 k) S1x128x128.size (k0_off6_inb k)).toLoadRect X_arg1) (View.readAt (Elt F) arg9.view (Rect.unit (s := S2x2x2176x128) (k0_off11 k) S1x1x256x128.size (k0_off11_inb k)).toLoadRect X_arg9) (View.readAt (Elt F) arg10.view (Rect.unit (s := S2x2x2176x128) (k0_off11 k) S1x1x256x128.size (k0_off11_inb k)).toLoadRect X_arg10) (View.readAt (Elt F) arg6.view (Rect.unit (s := S8) ![2] S1.size inb_S8_S1_2).toLoadRect X_arg6 (Shape.Idx.first (by decide))) (View.readAt (Elt F) arg6.view (Rect.unit (s := S8) ![3] S1.size inb_S8_S1_3).toLoadRect X_arg6 (Shape.Idx.first (by decide))) (View.readAt (Elt F) arg7.view (Rect.unit (s := S1x512) ![0, 128] S1x128.size inb_S1x512_S1x128_0_128).toLoadRect X_arg7))
        (pair v2 v63 (k0_pay2 v202 v204 c0_i32_111 c1_i32_112 k) v209 v214 (View.readAt (Elt F) arg1.view (Rect.unit (s := S2x2048x512) (k0_off7 k) S1x128x128.size (k0_off7_inb k)).toLoadRect X_arg1) (View.readAt (Elt F) arg9.view (Rect.unit (s := S2x2x2176x128) (k0_off12 k) S1x1x256x128.size (k0_off12_inb k)).toLoadRect X_arg9) (View.readAt (Elt F) arg10.view (Rect.unit (s := S2x2x2176x128) (k0_off12 k) S1x1x256x128.size (k0_off12_inb k)).toLoadRect X_arg10) (View.readAt (Elt F) arg6.view (Rect.unit (s := S8) ![4] S1.size inb_S8_S1_4).toLoadRect X_arg6 (Shape.Idx.first (by decide))) (View.readAt (Elt F) arg6.view (Rect.unit (s := S8) ![5] S1.size inb_S8_S1_5).toLoadRect X_arg6 (Shape.Idx.first (by decide))) (View.readAt (Elt F) arg7.view (Rect.unit (s := S1x512) ![0, 256] S1x128.size inb_S1x512_S1x128_0_256).toLoadRect X_arg7))
        (pair v2 v63 (k0_pay2 v202 v204 c0_i32_111 c1_i32_112 k) v209 v214 (View.readAt (Elt F) arg1.view (Rect.unit (s := S2x2048x512) (k0_off8 k) S1x128x128.size (k0_off8_inb k)).toLoadRect X_arg1) (View.readAt (Elt F) arg9.view (Rect.unit (s := S2x2x2176x128) (k0_off12 k) S1x1x256x128.size (k0_off12_inb k)).toLoadRect X_arg9) (View.readAt (Elt F) arg10.view (Rect.unit (s := S2x2x2176x128) (k0_off12 k) S1x1x256x128.size (k0_off12_inb k)).toLoadRect X_arg10) (View.readAt (Elt F) arg6.view (Rect.unit (s := S8) ![6] S1.size inb_S8_S1_6).toLoadRect X_arg6 (Shape.Idx.first (by decide))) (View.readAt (Elt F) arg6.view (Rect.unit (s := S8) ![7] S1.size inb_S8_S1_7).toLoadRect X_arg6 (Shape.Idx.first (by decide))) (View.readAt (Elt F) arg7.view (Rect.unit (s := S1x512) ![0, 384] S1x128.size inb_S1x512_S1x128_0_384).toLoadRect X_arg7)))⟩,
        ⟨Rect.unit (s := S2x2048x512) (k0_off13 k) S1x128x512.size (k0_off13_inb k), (rowBlk (pair v2 v63 (k0_pay2 v202 v204 c0_i32_111 c1_i32_112 k) v209 v214 (View.readAt (Elt F) arg1.view (Rect.unit (s := S2x2048x512) (k0_off1 k) S1x128x128.size (k0_off1_inb k)).toLoadRect X_arg1) (View.readAt (Elt F) arg9.view (Rect.unit (s := S2x2x2176x128) (k0_off9 k) S1x1x256x128.size (k0_off9_inb k)).toLoadRect X_arg9) (View.readAt (Elt F) arg10.view (Rect.unit (s := S2x2x2176x128) (k0_off9 k) S1x1x256x128.size (k0_off9_inb k)).toLoadRect X_arg10) (View.readAt (Elt F) arg6.view (Rect.unit (s := S8) ![0] S1.size inb_S8_S1_0).toLoadRect X_arg6 (Shape.Idx.first (by decide))) (View.readAt (Elt F) arg6.view (Rect.unit (s := S8) ![1] S1.size inb_S8_S1_1).toLoadRect X_arg6 (Shape.Idx.first (by decide))) (View.readAt (Elt F) arg7.view (Rect.unit (s := S1x512) ![0, 0] S1x128.size inb_S1x512_S1x128_0_0).toLoadRect X_arg7))
        (pair v2 v63 (k0_pay2 v202 v204 c0_i32_111 c1_i32_112 k) v209 v214 (View.readAt (Elt F) arg1.view (Rect.unit (s := S2x2048x512) (k0_off2 k) S1x128x128.size (k0_off2_inb k)).toLoadRect X_arg1) (View.readAt (Elt F) arg9.view (Rect.unit (s := S2x2x2176x128) (k0_off9 k) S1x1x256x128.size (k0_off9_inb k)).toLoadRect X_arg9) (View.readAt (Elt F) arg10.view (Rect.unit (s := S2x2x2176x128) (k0_off9 k) S1x1x256x128.size (k0_off9_inb k)).toLoadRect X_arg10) (View.readAt (Elt F) arg6.view (Rect.unit (s := S8) ![2] S1.size inb_S8_S1_2).toLoadRect X_arg6 (Shape.Idx.first (by decide))) (View.readAt (Elt F) arg6.view (Rect.unit (s := S8) ![3] S1.size inb_S8_S1_3).toLoadRect X_arg6 (Shape.Idx.first (by decide))) (View.readAt (Elt F) arg7.view (Rect.unit (s := S1x512) ![0, 128] S1x128.size inb_S1x512_S1x128_0_128).toLoadRect X_arg7))
        (pair v2 v63 (k0_pay2 v202 v204 c0_i32_111 c1_i32_112 k) v209 v214 (View.readAt (Elt F) arg1.view (Rect.unit (s := S2x2048x512) (k0_off3 k) S1x128x128.size (k0_off3_inb k)).toLoadRect X_arg1) (View.readAt (Elt F) arg9.view (Rect.unit (s := S2x2x2176x128) (k0_off10 k) S1x1x256x128.size (k0_off10_inb k)).toLoadRect X_arg9) (View.readAt (Elt F) arg10.view (Rect.unit (s := S2x2x2176x128) (k0_off10 k) S1x1x256x128.size (k0_off10_inb k)).toLoadRect X_arg10) (View.readAt (Elt F) arg6.view (Rect.unit (s := S8) ![4] S1.size inb_S8_S1_4).toLoadRect X_arg6 (Shape.Idx.first (by decide))) (View.readAt (Elt F) arg6.view (Rect.unit (s := S8) ![5] S1.size inb_S8_S1_5).toLoadRect X_arg6 (Shape.Idx.first (by decide))) (View.readAt (Elt F) arg7.view (Rect.unit (s := S1x512) ![0, 256] S1x128.size inb_S1x512_S1x128_0_256).toLoadRect X_arg7))
        (pair v2 v63 (k0_pay2 v202 v204 c0_i32_111 c1_i32_112 k) v209 v214 (View.readAt (Elt F) arg1.view (Rect.unit (s := S2x2048x512) (k0_off4 k) S1x128x128.size (k0_off4_inb k)).toLoadRect X_arg1) (View.readAt (Elt F) arg9.view (Rect.unit (s := S2x2x2176x128) (k0_off10 k) S1x1x256x128.size (k0_off10_inb k)).toLoadRect X_arg9) (View.readAt (Elt F) arg10.view (Rect.unit (s := S2x2x2176x128) (k0_off10 k) S1x1x256x128.size (k0_off10_inb k)).toLoadRect X_arg10) (View.readAt (Elt F) arg6.view (Rect.unit (s := S8) ![6] S1.size inb_S8_S1_6).toLoadRect X_arg6 (Shape.Idx.first (by decide))) (View.readAt (Elt F) arg6.view (Rect.unit (s := S8) ![7] S1.size inb_S8_S1_7).toLoadRect X_arg6 (Shape.Idx.first (by decide))) (View.readAt (Elt F) arg7.view (Rect.unit (s := S1x512) ![0, 384] S1x128.size inb_S1x512_S1x128_0_384).toLoadRect X_arg7)))⟩] := by
  unfold tripL_k0_t1 trip_k0_t1
  rfl

end Cert.KernelIdeal.Swa
-- ==== Proof.SwaReal.lean ====
/-
  The attention call's mathematics over the reals: the normalisation of a 64-wide head, the masked softmax with a sink, and the facts
  that carry both through the extended reals when every input is finite.
-/
module

public import Idealize.ShloMosaic.Lib.Pointwise
public import Idealize.ShloMosaic.Lib.Pipeline.ValueKit
public import Idealize.ShloMosaic.Lib.Claim

@[expose] public section

set_option maxRecDepth 16384

noncomputable section

namespace Cert.Swa

open Idealize.ShloMosaic

/-- The normalisation's small constant. -/
def eps : ℝ := 8796093 / 2 ^ 43

theorem eps_pos : 0 < eps := by unfold eps; positivity

/-- The small constant's word read as a number. -/
theorem eps_lit : Ideal.ofBits .f32 0x358637BD#32 = ((eps : ℝ) : EReal) := by
  unfold eps
  simp [Ideal.ofBits, Ideal.ieee, -EReal.coe_mul]
  norm_num

/-- One over the root mean square of a 64-wide head. -/
def inv (x : Fin 64 → ℝ) : ℝ := (Real.sqrt ((∑ j, x j * x j) / 64 + eps))⁻¹

/-- The weight of a score: its exponential where the position is visible, zero elsewhere. -/
def wt (ok : Fin 256 → Prop) [DecidablePred ok] (s : Fin 256 → ℝ) (i : Fin 256) : ℝ := if ok i then Real.exp (s i) else 0

/-- Softmax with a sink: the weighted mean of the values, the sink's weight in the denominator only. -/
def att (ok : Fin 256 → Prop) [DecidablePred ok] (s v : Fin 256 → ℝ) (sk : ℝ) : ℝ :=
  (∑ i, wt ok s i * v i) / (∑ i, wt ok s i + Real.exp sk)

/-- The coercion passes a finite sum. -/
theorem coe_sum {ι : Type} [Fintype ι] (f : ι → ℝ) : ∑ i, ((f i : ℝ) : EReal) = ((∑ i, f i : ℝ) : EReal) := by
  classical
  have h : ∀ s : Finset ι, ∑ i ∈ s, ((f i : ℝ) : EReal) = ((∑ i ∈ s, f i : ℝ) : EReal) := fun s => by
    induction s using Finset.induction_on with
    | empty => simp
    | insert a s ha h => rw [Finset.sum_insert ha, Finset.sum_insert ha, h, EReal.coe_add]
  exact h _

/-- The reciprocal root of a positive number. -/
theorem rsqrt_pos {r : ℝ} (h : 0 < r) : Ideal.rsqrt ((r : ℝ) : EReal) = (((Real.sqrt r)⁻¹ : ℝ) : EReal) := by
  simp [Ideal.rsqrt_def, not_lt.mpr h.le, h.ne']

/-- The mean square plus the small constant is positive. -/
theorem ms_pos (x : Fin 64 → ℝ) : 0 < (∑ j, x j * x j) / 64 + eps :=
  add_pos_of_nonneg_of_pos (div_nonneg (Finset.sum_nonneg fun j _ => mul_self_nonneg _) (by norm_num)) eps_pos

/-- A maximum of numbers and minus infinity, taken with a number, is a number. -/
theorem max_real {ι : Type} [Fintype ι] (f : ι → EReal) (hf : ∀ i, f i ≠ ⊤) (s : ℝ) :
    ∃ M : ℝ, max (Finset.fold max ⊥ f Finset.univ) ((s : ℝ) : EReal) = ((M : ℝ) : EReal) := by
  have ht : max (Finset.univ.sup f) ((s : ℝ) : EReal) ≠ ⊤ := by
    refine ne_of_lt (max_lt ((Finset.sup_lt_iff (by simp)).mpr fun i _ => lt_top_iff_ne_top.mpr (hf i)) (EReal.coe_lt_top s))
  have hb : max (Finset.univ.sup f) ((s : ℝ) : EReal) ≠ ⊥ := ne_of_gt (lt_of_lt_of_le (EReal.bot_lt_coe s) (le_max_right _ _))
  exact ⟨_, (EReal.coe_toReal ht hb).symm⟩

/-- The word of minus infinity. -/
theorem ninf_lit : Ideal.ofBits .f32 0xFF800000#32 = ⊥ := by simp [Ideal.ofBits, Ideal.ieee]

/-- Shifting every score and the sink by one number leaves the weighted mean unchanged. -/
theorem att_shift (ok : Fin 256 → Prop) [DecidablePred ok] (s v : Fin 256 → ℝ) (sk M : ℝ) :
    (∑ i, (if ok i then Real.exp (s i - M) else 0) * v i) / (∑ i, (if ok i then Real.exp (s i - M) else 0) + Real.exp (sk - M)) = att ok s v sk := by
  have h : ∀ i, (if ok i then Real.exp (s i - M) else 0) = wt ok s i * Real.exp (-M) := fun i => by
    unfold wt; split <;> simp [sub_eq_add_neg, Real.exp_add]
  simp only [h]
  have h2 : ∀ i, wt ok s i * Real.exp (-M) * v i = wt ok s i * v i * Real.exp (-M) := fun i => by ring
  simp only [h2, ← Finset.sum_mul, sub_eq_add_neg, Real.exp_add, ← add_mul]
  exact mul_div_mul_right _ _ (Real.exp_ne_zero _)

/-- Two to the power of a score already divided by the logarithm of two. -/
theorem two_rpow (x M : ℝ) : Real.rpow 2 (x * (Real.log 2)⁻¹ - M) = Real.exp (x - M * Real.log 2) := by
  show (2 : ℝ) ^ (x * (Real.log 2)⁻¹ - M) = _
  have h : Real.log 2 ≠ 0 := (Real.log_pos (by norm_num)).ne'
  rw [Real.rpow_def_of_pos (by norm_num)]
  congr 1
  field_simp

/-- The denominator is positive. -/
theorem den_pos (p : Fin 256 → ℝ) (hp : ∀ i, 0 ≤ p i) (e : ℝ) : 0 < ∑ i, p i + Real.exp e :=
  add_pos_of_nonneg_of_pos (Finset.sum_nonneg fun i _ => hp i) (Real.exp_pos e)

/-- The lanes of the half that holds lane `l`. -/
def hf (l : Fin 128) (j : Fin 64) : Fin 128 := ⟨64 * (l.val / 64) + j.val, by omega⟩

/-- Lane `j` of half `h`. -/
def lane (h : Fin 2) (j : Fin 64) : Fin 128 := ⟨64 * h.val + j.val, by omega⟩

/-- The half a lane lies in. -/
def half (l : Fin 128) : Fin 2 := ⟨l.val / 64, by omega⟩

theorem hf_eq (l : Fin 128) (j : Fin 64) : hf l j = lane (half l) j := rfl

theorem half_lane (h : Fin 2) (j : Fin 64) : half (lane h j) = h := Fin.ext (by simp only [half, lane]; omega)

/-- A sum over 128 lanes masked to one half. -/
theorem sum_half (f : Fin 128 → ℝ) (h : Fin 2) : ∑ m, (if half m = h then f m else 0) = ∑ j, f (lane h j) := by
  refine (Fin.sum_univ_add (a := 64) (b := 64) (fun m : Fin 128 => if half m = h then f m else 0)).trans ?_
  have e0 : ∀ j : Fin 64, half (Fin.castAdd 64 j : Fin 128) = 0 := fun j => Fin.ext (by simp only [half, Fin.val_castAdd, Fin.val_zero]; omega)
  have e1 : ∀ j : Fin 64, half (Fin.natAdd 64 j : Fin 128) = 1 := fun j => Fin.ext (by simp only [half, Fin.val_natAdd, Fin.val_one]; omega)
  simp only [e0, e1]
  have h2 : h = 0 ∨ h = 1 := by omega
  rcases h2 with rfl | rfl
  · simp only [if_true, show ¬((1 : Fin 2) = 0) by decide, if_false, Finset.sum_const_zero, add_zero]
    exact Finset.sum_congr rfl fun j _ => congrArg f (Fin.ext (by simp [lane]))
  · simp only [if_true, show ¬((0 : Fin 2) = 1) by decide, if_false, Finset.sum_const_zero, zero_add]
    exact Finset.sum_congr rfl fun j _ => congrArg f (Fin.ext (by simp [lane, Nat.add_comm]))

/-- The kernel's mean square on 128 lanes, a product with the averaging matrix plus the remainder's, is the half's mean square. -/
theorem ms128 (a : Fin 128 → Fin 128 → EReal) (ha : ∀ m l, a m l = if half m = half l then ((1 / 64 : ℝ) : EReal) else 0)
    (x : Fin 128 → EReal) (y : Fin 128 → ℝ) (hx : ∀ m, x m = ((y m : ℝ) : EReal)) (l : Fin 128) :
    x l * Ideal.rsqrt (∑ m, x m * x m * a m l + ∑ m, (x m * x m - x m * x m) * a m l + Ideal.ofBits .f32 0x358637BD#32)
      = ((y l * inv (fun j => y (lane (half l) j)) : ℝ) : EReal) := by
  have h0 : ∀ m, (x m * x m - x m * x m) * a m l = 0 := fun m => by
    rw [hx, ← EReal.coe_mul, ← EReal.coe_sub, sub_self, EReal.coe_zero, zero_mul]
  have h1 : ∀ m, x m * x m * a m l = (((if half m = half l then y m * y m / 64 else 0) : ℝ) : EReal) := fun m => by
    rw [hx, ha]
    split
    · rw [← EReal.coe_mul, ← EReal.coe_mul]; congr 1; ring
    · rw [mul_zero, EReal.coe_zero]
  simp only [h0, h1, Finset.sum_const_zero, add_zero]
  rw [coe_sum, sum_half (fun m => y m * y m / 64), ← Finset.sum_div, eps_lit, ← EReal.coe_add, rsqrt_pos (ms_pos _), hx, ← EReal.coe_mul]
  rfl

/-- The softmax with a sink as both programs compute it: any common shift, exponentials of the shifted scores, minus infinity where masked. -/
theorem exp_masked (ok : Prop) [Decidable ok] (s M : ℝ) :
    Ideal.exp ((if ok then ((s : ℝ) : EReal) else ⊥) - ((M : ℝ) : EReal)) = (((if ok then Real.exp (s - M) else 0) : ℝ) : EReal) := by
  split
  · rw [← EReal.coe_sub]; rfl
  · rw [EReal.bot_sub, EReal.coe_zero]; rfl

/-- The same with base two and scores divided by the logarithm of two. -/
theorem exp2_masked (ok : Prop) [Decidable ok] (s M : ℝ) :
    Ideal.exp2 ((if ok then ((s * (Real.log 2)⁻¹ : ℝ) : EReal) else ⊥) - ((M : ℝ) : EReal))
      = (((if ok then Real.exp (s - M * Real.log 2) else 0) : ℝ) : EReal) := by
  split
  · rw [← EReal.coe_sub, ← two_rpow]; rfl
  · rw [EReal.bot_sub, EReal.coe_zero]; rfl

end Cert.Swa
-- ==== Proof.SwaHead.lean ====
/-
  The attention kernel's blocks over the reals: a pair of heads of one tile of 128 queries is the softmax with a sink, normalised and scaled.
-/
module

public import proofs.«01_k».proof.Proof.SwaPieces
public import proofs.«01_k».proof.Proof.SwaReal

@[expose] public section

set_option maxRecDepth 16384

noncomputable section

namespace Cert.KernelIdeal.Swa

open Cert.KernelIdeal Cert.KernelIdeal.Gen Idealize.ShloMosaic Idealize.ShloMosaic.TcCoe Idealize.SL.Sem
open Cert.Swa

/-- The logarithm's constant. -/
theorem log2e : (Named.named κ "log2e" 0x3FB8AA3B#32 : Ideal .f32) = (((Real.log 2)⁻¹ : ℝ) : EReal) :=
  IdealRules.named_const.ideal_named_scalar _ _ _ _ rfl

/-- The query scale's constant. -/
theorem qscale : (Named.named κ "qscale" 0x3E38AA3B#32 : Ideal .f32) = (((8 * Real.log 2)⁻¹ : ℝ) : EReal) :=
  IdealRules.named_const.ideal_named_scalar _ _ _ _ rfl

/-- One head over the reals. -/
theorem head_real (valid : IVec S128x256 1) (qm : FVec Ideal S128x128 .bf16) (kk vv : Vec Ideal S1x1x256x128 .bf16) (sk : Elt Ideal .f32)
    (r : Fin 128) (l : Fin 128) (ok : Fin 256 → Prop) [DecidablePred ok] (S V : Fin 256 → ℝ) (s : ℝ)
    (hok : ∀ i, valid (ix2 r i) = if ok i then 1#1 else 0#1)
    (hS : ∀ i, ∑ x, qm (ix2 r x) * kk (ix4 0 0 i x) = ((S i * (Real.log 2)⁻¹ : ℝ) : EReal))
    (hV : ∀ i, vv (ix4 0 0 i l) = ((V i : ℝ) : EReal)) (hs : sk = ((s : ℝ) : EReal)) :
    head valid qm kk vv sk (ix2 r l) = ((att ok S V s : ℝ) : EReal) := by
  have e31 : ∀ i, k0_pay31 valid qm kk (ix2 r i) = if ok i then ((S i * (Real.log 2)⁻¹ : ℝ) : EReal) else ⊥ := fun i => by
    pointwise [k0_pay31]
    rw [hok, hS, ninf_lit]
    split <;> rfl
  have e48 : k0_pay48 sk = ((s * (Real.log 2)⁻¹ : ℝ) : EReal) := by
    rw [EReal.coe_mul, ← hs, ← log2e]; rfl
  obtain ⟨M, hM⟩ := max_real (fun i => k0_pay31 valid qm kk (ix2 r i)) (fun i => by rw [e31]; split; exacts [EReal.coe_ne_top _, bot_ne_top]) (s * (Real.log 2)⁻¹)
  have e64 : k0_pay64 (k0_pay31 valid qm kk) (k0_pay48 sk) (ix2 r 0) = ((M : ℝ) : EReal) := by
    rw [← hM, ← e48]
    pointwise [k0_pay64]
    rw [ninf_lit]
  have e80 : ∀ i, k0_pay80 (k0_pay31 valid qm kk) (k0_pay64 (k0_pay31 valid qm kk) (k0_pay48 sk)) (ix2 r i)
      = (((if ok i then Real.exp (S i - M * Real.log 2) else 0) : ℝ) : EReal) := fun i => by
    rw [← exp2_masked, ← e31, ← e64]
    pointwise [k0_pay80]
    rfl
  have e98 : k0_pay98 (k0_pay48 sk) (k0_pay64 (k0_pay31 valid qm kk) (k0_pay48 sk)) (k0_pay80 (k0_pay31 valid qm kk) (k0_pay64 (k0_pay31 valid qm kk) (k0_pay48 sk))) (ix2 r 0)
      = (((∑ i, (if ok i then Real.exp (S i - M * Real.log 2) else 0) + Real.exp (s - M * Real.log 2))⁻¹ : ℝ) : EReal) := by
    have hd := den_pos (fun i => if ok i then Real.exp (S i - M * Real.log 2) else 0) (fun i => by split <;> positivity) (s - M * Real.log 2)
    have hx : Ideal.exp2 (((s * (Real.log 2)⁻¹ : ℝ) : EReal) - ((M : ℝ) : EReal)) = ((Real.exp (s - M * Real.log 2) : ℝ) : EReal) := by
      have := exp2_masked True s M
      simpa only [if_true] using this
    generalize k0_pay80 (k0_pay31 valid qm kk) (k0_pay64 (k0_pay31 valid qm kk) (k0_pay48 sk)) = P at e80 ⊢
    generalize k0_pay64 (k0_pay31 valid qm kk) (k0_pay48 sk) = W at e64 ⊢
    rw [e48]
    pointwise [k0_pay98]
    simp only [e80, e64]
    rw [coe_sum]
    refine (congrArg (fun z => Ideal.div 1 (_ + z)) hx).trans ?_
    rw [← EReal.coe_add, ← EReal.coe_one, Ideal.div_coe hd.ne', ← EReal.coe_mul, one_mul, one_div]
  unfold head
  generalize k0_pay98 (k0_pay48 sk) (k0_pay64 (k0_pay31 valid qm kk) (k0_pay48 sk)) (k0_pay80 (k0_pay31 valid qm kk) (k0_pay64 (k0_pay31 valid qm kk) (k0_pay48 sk))) = D at e98 ⊢
  generalize k0_pay80 (k0_pay31 valid qm kk) (k0_pay64 (k0_pay31 valid qm kk) (k0_pay48 sk)) = P at e80 ⊢
  pointwise [k0_pay115]
  simp only [e80, e98, hV, ← EReal.coe_mul]
  rw [coe_sum, ← EReal.coe_mul, ← att_shift ok S V s (M * Real.log 2), div_eq_mul_inv]

/-- The averaging matrix: one 64th inside each half, zero across. -/
def IsAvg (v63 : FVec Ideal S128x128 .bf16) : Prop := ∀ m l : Fin 128, v63 (ix2 m l) = if half m = half l then ((1 / 64 : ℝ) : EReal) else 0

/-- A query's lanes normalised by their half and scaled by the gain masked to half `h`: against doubled keys this is the head's score. -/
theorem score_real (v63 : FVec Ideal S128x128 .bf16) (hav : IsAvg v63) (qm : FVec Ideal S128x128 .bf16) (vg : FVec Ideal S1x128 .f32) (q : Vec Ideal S1x128x128 .bf16)
    (kk : Vec Ideal S1x1x256x128 .bf16) (r : Fin 128) (h : Fin 2) (Q g : Fin 128 → ℝ) (K : Fin 256 → Fin 128 → ℝ)
    (hqm : ∀ l, qm (ix2 r l) = q (ix3 0 r l) * Ideal.rsqrt (∑ x, q (ix3 0 r x) * q (ix3 0 r x) * v63 (ix2 x l)
      + ∑ x, (q (ix3 0 r x) * q (ix3 0 r x) - q (ix3 0 r x) * q (ix3 0 r x)) * v63 (ix2 x l) + Ideal.ofBits .f32 0x358637BD#32) * vg (ix2 0 l))
    (hQ : ∀ l, q (ix3 0 r l) = ((Q l : ℝ) : EReal)) (hg : ∀ l, vg (ix2 0 l) = (((if half l = h then g l * (8 * Real.log 2)⁻¹ else 0) : ℝ) : EReal))
    (hK : ∀ i l, kk (ix4 0 0 i l) = ((K i l : ℝ) : EReal)) (i : Fin 256) :
    ∑ x, qm (ix2 r x) * kk (ix4 0 0 i x)
      = (((∑ j, Q (lane h j) * inv (fun j => Q (lane h j)) * g (lane h j) * K i (lane h j)) / 8 * (Real.log 2)⁻¹ : ℝ) : EReal) := by
  have e : ∀ x, qm (ix2 r x) * kk (ix4 0 0 i x)
      = (((if half x = h then Q x * inv (fun j => Q (lane (half x) j)) * g x * K i x * (8 * Real.log 2)⁻¹ else 0) : ℝ) : EReal) := fun x => by
    rw [hqm, ms128 (fun m l => v63 (ix2 m l)) hav (fun l => q (ix3 0 r l)) Q hQ x, hg, hK, ← EReal.coe_mul, ← EReal.coe_mul]
    congr 1
    split <;> ring
  simp only [e]
  rw [coe_sum, sum_half (fun x => Q x * inv (fun j => Q (lane (half x) j)) * g x * K i x * (8 * Real.log 2)⁻¹), ← Finset.sum_mul]
  simp only [half_lane]
  congr 1
  rw [mul_inv]
  ring

/-- The score of a query row against key row `i`, for half `h`. -/
def scr (Q g : Fin 128 → ℝ) (K : Fin 256 → Fin 128 → ℝ) (h : Fin 2) (i : Fin 256) : ℝ :=
  (∑ j, Q (lane h j) * inv (fun j => Q (lane h j)) * g (lane h j) * K i (lane h j)) / 8

/-- A pair of heads over the reals, before the output normalisation. -/
def prO (ok : Fin 256 → Prop) [DecidablePred ok] (Q g : Fin 128 → ℝ) (K V : Fin 256 → Fin 128 → ℝ) (s : Fin 2 → ℝ) (l : Fin 128) : ℝ :=
  att ok (scr Q g K (half l)) (fun i => V i l) (s (half l))

/-- A pair of heads over the reals. -/
theorem pair_real (v2 : IVec S1x128 1) (hv2 : ∀ l, v2 (ix2 0 l) = if half l = 0 then 1#1 else 0#1) (v63 : FVec Ideal S128x128 .bf16) (hav : IsAvg v63)
    (valid : IVec S128x256 1) (v209 v214 : FVec Ideal S1x128 .f32) (q : Vec Ideal S1x128x128 .bf16)
    (kk vv : Vec Ideal S1x1x256x128 .bf16) (s0 s1 : Elt Ideal .f32) (og : Vec Ideal S1x128 .f32)
    (r : Fin 128) (l : Fin 128) (ok : Fin 256 → Prop) [DecidablePred ok] (Q g o : Fin 128 → ℝ) (K V : Fin 256 → Fin 128 → ℝ) (s : Fin 2 → ℝ)
    (hok : ∀ i, valid (ix2 r i) = if ok i then 1#1 else 0#1)
    (hQ : ∀ l, q (ix3 0 r l) = ((Q l : ℝ) : EReal))
    (hg0 : ∀ l, v209 (ix2 0 l) = (((if half l = 0 then g l * (8 * Real.log 2)⁻¹ else 0) : ℝ) : EReal))
    (hg1 : ∀ l, v214 (ix2 0 l) = (((if half l = 1 then g l * (8 * Real.log 2)⁻¹ else 0) : ℝ) : EReal))
    (hK : ∀ i l, kk (ix4 0 0 i l) = ((K i l : ℝ) : EReal)) (hV : ∀ i l, vv (ix4 0 0 i l) = ((V i l : ℝ) : EReal))
    (hs0 : s0 = ((s 0 : ℝ) : EReal)) (hs1 : s1 = ((s 1 : ℝ) : EReal)) (ho : ∀ l, og (ix2 0 l) = ((o l : ℝ) : EReal)) :
    pair v2 v63 valid v209 v214 q kk vv s0 s1 og (ix2 r l)
      = ((prO ok Q g K V s l * inv (fun j => prO ok Q g K V s (lane (half l) j)) * o l : ℝ) : EReal) := by
  have e0 : ∀ l, head valid (k0_pay4 v63 v209 q) kk vv s0 (ix2 r l) = ((att ok (scr Q g K 0) (fun i => V i l) (s 0) : ℝ) : EReal) := fun l =>
    head_real valid _ kk vv s0 r l ok _ _ _ hok
      (score_real v63 hav _ v209 q kk r 0 Q g K (fun l => by pointwise [k0_pay4, k0_pay3]) hQ hg0 hK) (fun i => hV i l) hs0
  have e1 : ∀ l, head valid (k0_pay5 v63 v214 q) kk vv s1 (ix2 r l) = ((att ok (scr Q g K 1) (fun i => V i l) (s 1) : ℝ) : EReal) := fun l =>
    head_real valid _ kk vv s1 r l ok _ _ _ hok
      (score_real v63 hav _ v214 q kk r 1 Q g K (fun l => by pointwise [k0_pay5, k0_pay3]) hQ hg1 hK) (fun i => hV i l) hs1
  unfold pair
  generalize head valid (k0_pay4 v63 v209 q) kk vv s0 = A at e0 ⊢
  generalize head valid (k0_pay5 v63 v214 q) kk vv s1 = B at e1 ⊢
  have e : ∀ l, Scalar.select (v2 (ix2 0 l)) (A (ix2 r l)) (B (ix2 r l)) = ((prO ok Q g K V s l : ℝ) : EReal) := fun l => by
    rw [hv2, e0, e1]
    unfold prO
    have h2 : half l = 0 ∨ half l = 1 := by omega
    rcases h2 with h | h <;> rw [h] <;> rfl
  have := ms128 (fun m l => v63 (ix2 m l)) hav (fun l => Scalar.select (v2 (ix2 0 l)) (A (ix2 r l)) (B (ix2 r l))) _ e l
  pointwise [k0_pay135]
  rw [this, ho, ← EReal.coe_mul]

end Cert.KernelIdeal.Swa
-- ==== Proof.SwaScratch.lean ====
/-
  The attention kernel's two scratch arrays over the reals: each batch's normalised keys, and its values, doubled across the two halves of
  128 lanes and set under 128 rows of zeros.
-/
module

public import proofs.«01_k».proof.Proof.SwaHead

@[expose] public section

set_option maxRecDepth 16384

noncomputable section

namespace Cert.KernelIdeal.Swa

open Cert.KernelIdeal Cert.KernelIdeal.Gen Idealize.ShloMosaic Idealize.ShloMosaic.TcCoe Idealize.SL.Sem
open Cert.Swa

variable {F : FTy → Type} [FloatOps F] [Named F]

/-- One batch's block of keys or values as plain rows. -/
def raw (b : Vec F S1x2048x128 .bf16) : FVec F S2048x128 .f32 :=
  extf .f32 (shapeCast S2048x128 b shapeCasts_S1x2048x128_S2048x128) bitsLt_bf16_f32

/-- One batch's keys, each half normalised and scaled. -/
def nk (v63 : FVec F S128x128 .bf16) (b : Vec F S1x2048x128 .bf16) (g : Vec F S1x128 .f32) : FVec F S2048x128 .f32 :=
  mulf (mulf (raw b) (rsqrt (addf (addf
      (matmul dot_S2048x128_S128x128_S2048x128_1_0_0_1_n_n none (truncf .bf16 (mulf (raw b) (raw b)) bitsLt_bf16_f32) v63 (constant S2048x128 .f32 0x00000000#32))
      (matmul dot_S2048x128_S128x128_S2048x128_1_0_0_1_n_n none
        (truncf .bf16 (subf (mulf (raw b) (raw b)) (extf .f32 (truncf .bf16 (mulf (raw b) (raw b)) bitsLt_bf16_f32) bitsLt_bf16_f32)) bitsLt_bf16_f32) v63
        (constant S2048x128 .f32 0x00000000#32)))
      (broadcast S2048x128 (Scalar.ofBits .f32 0x358637BD#32)))))
    (broadcastTo S2048x128 (shapeCast S1x128 g shapeCasts_S1x128_S1x128) broadcasts_S1x128_S2048x128)

/-- The lower half of the lanes doubled, as stored. -/
def dbl0 (v2 : IVec S1x128 1) (n : FVec F S2048x128 .f32) : FVec F S1x1x2048x128 .bf16 :=
  shapeCast S1x1x2048x128 (truncf .bf16 (select (broadcastTo S2048x128 (shapeCast S1x128 v2 shapeCasts_S1x128_S1x128) broadcasts_S1x128_S2048x128) n
    (dynamicRotate 1 (64#32) none n (by decide))) bitsLt_bf16_f32) shapeCasts_S2048x128_S1x1x2048x128

/-- The upper half of the lanes doubled, as stored. -/
def dbl1 (v2 : IVec S1x128 1) (n : FVec F S2048x128 .f32) : FVec F S1x1x2048x128 .bf16 :=
  shapeCast S1x1x2048x128 (truncf .bf16 (select (broadcastTo S2048x128 (shapeCast S1x128 v2 shapeCasts_S1x128_S1x128) broadcasts_S1x128_S2048x128)
    (dynamicRotate 1 (64#32) none n (by decide)) n) bitsLt_bf16_f32) shapeCasts_S2048x128_S1x1x2048x128

/-- The mask of the lower half of the lanes. -/
def IsLow (v2 : IVec S1x128 1) : Prop := ∀ l : Fin 128, v2 (ix2 0 l) = if half l = 0 then 1#1 else 0#1

/-- A lane's place in its half. -/
def sub (l : Fin 128) : Fin 64 := ⟨l.val % 64, by omega⟩

theorem dbl0_at (v2 : IVec S1x128 1) (h2 : IsLow v2) (n : FVec Ideal S2048x128 .f32) (r : Fin 2048) (l : Fin 128) :
    dbl0 v2 n (ix4 0 0 r l) = n (ix2 r (lane 0 (sub l))) := by
  pointwise [dbl0]
  rw [h2]
  have hc : half l = 0 ∨ half l = 1 := by omega
  have hl := l.isLt
  rcases hc with h | h <;> have hv := congrArg Fin.val h <;> simp only [half, Fin.val_zero, Fin.val_one] at hv <;> rw [h]
  · exact congrArg (fun e : Fin 128 => n (ix2 r e)) (Fin.ext (by simp only [lane, sub, Fin.val_zero]; omega))
  · exact congrArg (fun e : Fin 128 => n (ix2 r e)) (Fin.ext (by simp only [lane, sub, Fin.val_zero]; omega))

theorem dbl1_at (v2 : IVec S1x128 1) (h2 : IsLow v2) (n : FVec Ideal S2048x128 .f32) (r : Fin 2048) (l : Fin 128) :
    dbl1 v2 n (ix4 0 0 r l) = n (ix2 r (lane 1 (sub l))) := by
  pointwise [dbl1]
  rw [h2]
  have hc : half l = 0 ∨ half l = 1 := by omega
  have hl := l.isLt
  rcases hc with h | h <;> have hv := congrArg Fin.val h <;> simp only [half, Fin.val_zero, Fin.val_one] at hv <;> rw [h]
  · exact congrArg (fun e : Fin 128 => n (ix2 r e)) (Fin.ext (by simp only [lane, sub, Fin.val_one]; omega))
  · exact congrArg (fun e : Fin 128 => n (ix2 r e)) (Fin.ext (by simp only [lane, sub, Fin.val_one]; omega))

/-- The block of zeros, as stored. -/
def zer : FVec F S1x1x128x128 .bf16 := shapeCast S1x1x128x128 (broadcast S128x128 (FloatOps.ofBits .bf16 0x0000#16 : F .bf16)) shapeCasts_S128x128_S1x1x128x128

theorem zer_at (r l : Fin 128) : zer (F := Ideal) (ix4 0 0 r l) = 0 := by
  pointwise [zer]

/-- The scratch array's eight stores, last first. -/
def pcs (v2 : IVec S1x128 1) (n0 n1 : FVec F S2048x128 .f32) : List (View.Piece (Elt F) S2x2x2176x128 .bf16) :=
  [⟨Rect.unit (s := S2x2x2176x128) ![1, 1, 128, 0] S1x1x2048x128.size inb_S2x2x2176x128_S1x1x2048x128_1_1_128_0, dbl1 v2 n1⟩,
    ⟨Rect.unit (s := S2x2x2176x128) ![1, 0, 128, 0] S1x1x2048x128.size inb_S2x2x2176x128_S1x1x2048x128_1_0_128_0, dbl0 v2 n1⟩,
    ⟨Rect.unit (s := S2x2x2176x128) ![1, 1, 0, 0] S1x1x128x128.size inb_S2x2x2176x128_S1x1x128x128_1_1_0_0, zer⟩,
    ⟨Rect.unit (s := S2x2x2176x128) ![1, 0, 0, 0] S1x1x128x128.size inb_S2x2x2176x128_S1x1x128x128_1_0_0_0, zer⟩,
    ⟨Rect.unit (s := S2x2x2176x128) ![0, 1, 128, 0] S1x1x2048x128.size inb_S2x2x2176x128_S1x1x2048x128_0_1_128_0, dbl1 v2 n0⟩,
    ⟨Rect.unit (s := S2x2x2176x128) ![0, 0, 128, 0] S1x1x2048x128.size inb_S2x2x2176x128_S1x1x2048x128_0_0_128_0, dbl0 v2 n0⟩,
    ⟨Rect.unit (s := S2x2x2176x128) ![0, 1, 0, 0] S1x1x128x128.size inb_S2x2x2176x128_S1x1x128x128_0_1_0_0, zer⟩,
    ⟨Rect.unit (s := S2x2x2176x128) ![0, 0, 0, 0] S1x1x128x128.size inb_S2x2x2176x128_S1x1x128x128_0_0_0_0, zer⟩]

/-- The scratch array over the reals: zeros in the first 128 rows, then head `j`'s rows on both halves of the lanes. -/
def scrt (X : Fin 2 → Fin 2048 → Fin 128 → ℝ) (b j : Fin 2) (row : Fin 2176) (l : Fin 128) : ℝ :=
  if h : row.val < 128 then 0 else X b ⟨row.val - 128, by omega⟩ (lane j (sub l))

/-- A stored block of rows agrees with the scratch array. -/
theorem piece_row (X : Fin 2 → Fin 2048 → Fin 128 → ℝ) (b j : Fin 2) (r : Fin 2048) (l : Fin 128) (z : EReal)
    (hz : z = ((X b r (lane j (sub l)) : ℝ) : EReal)) : z = ((scrt X b j ⟨128 + r.val, by omega⟩ l : ℝ) : EReal) := by
  rw [hz]
  unfold scrt
  rw [dif_neg (by simp only; omega)]
  exact congrArg (fun e : Fin 2048 => ((X b e (lane j (sub l)) : ℝ) : EReal)) (Fin.ext (by simp only; omega))

/-- A stored block of zeros agrees with the scratch array. -/
theorem piece_zero (X : Fin 2 → Fin 2048 → Fin 128 → ℝ) (b j : Fin 2) (r : Fin 128) (l : Fin 128) :
    zer (F := Ideal) (ix4 0 0 r l) = ((scrt X b j ⟨r.val, by omega⟩ l : ℝ) : EReal) := by
  rw [zer_at]
  unfold scrt
  rw [dif_pos r.isLt, EReal.coe_zero]

theorem emb_row (b j : Fin 2) (h : ∀ a : Fin 4, ![b.val, j.val, 128, 0] a + S1x1x2048x128.size a ≤ S2x2x2176x128.size a) (r : Fin 2048) (l : Fin 128) :
    (Rect.unit (s := S2x2x2176x128) ![b.val, j.val, 128, 0] S1x1x2048x128.size h).emb (ix4 0 0 r l) = ix4 b j ⟨128 + r.val, by omega⟩ l := by
  blk_ext []

theorem emb_zero (b j : Fin 2) (h : ∀ a : Fin 4, ![b.val, j.val, 0, 0] a + S1x1x128x128.size a ≤ S2x2x2176x128.size a) (r : Fin 128) (l : Fin 128) :
    (Rect.unit (s := S2x2x2176x128) ![b.val, j.val, 0, 0] S1x1x128x128.size h).emb (ix4 0 0 r l) = ix4 b j ⟨r.val, by omega⟩ l := by
  blk_ext []

/-- Reading the scratch array after its eight stores. -/
theorem scratch_at (v2 : IVec S1x128 1) (h2 : IsLow v2) (n0 n1 : FVec Ideal S2048x128 .f32) (X : Fin 2 → Fin 2048 → Fin 128 → ℝ)
    (h0 : ∀ r l, n0 (ix2 r l) = ((X 0 r l : ℝ) : EReal)) (h1 : ∀ r l, n1 (ix2 r l) = ((X 1 r l : ℝ) : EReal))
    {sp : Space} (v : View sig .tc sp S2x2x2176x128 .bf16) (f : v.ty.Contents (Elt Ideal)) (b j : Fin 2) (row : Fin 2176) (l : Fin 128) :
    v.read (Elt Ideal) (v.writes (Elt Ideal) f (pcs v2 n0 n1)) (ix4 b j row l) = ((scrt X b j row l : ℝ) : EReal) := by
  have key : ∀ (b j : Fin 2) (row : Fin 2176) (l : Fin 128) (y : S2x2x2176x128.Idx), y = ix4 b j row l →
      ((scrt X (y 0) (y 1) (y 2) (y 3) : ℝ) : EReal) = ((scrt X b j row l : ℝ) : EReal) := fun b j row l y hy => by subst hy; rfl
  have hrow : ∀ (b j : Fin 2) (h : ∀ a : Fin 4, ![b.val, j.val, 128, 0] a + S1x1x2048x128.size a ≤ S2x2x2176x128.size a) (P : FVec Ideal S1x1x2048x128 .bf16),
      (∀ r l, P (ix4 0 0 r l) = ((X b r (lane j (sub l)) : ℝ) : EReal)) → ∀ x : S1x1x2048x128.Idx,
      P x = ((fun y : S2x2x2176x128.Idx => ((scrt X (y 0) (y 1) (y 2) (y 3) : ℝ) : EReal)) ((Rect.unit (s := S2x2x2176x128) ![b.val, j.val, 128, 0] S1x1x2048x128.size h).emb x) : EReal) := fun b j h P hP x => by
    obtain ⟨r, l, rfl⟩ : ∃ (r : Fin 2048) (l : Fin 128), x = ix4 0 0 r l := ⟨x 2, x 3, (eq_ix4 x).trans (by rw [Fin.fin_one_eq_zero (x 0), Fin.fin_one_eq_zero (x 1)])⟩
    exact (piece_row X b j r l _ (hP r l)).trans (key _ _ _ _ _ (emb_row b j h r l)).symm
  have hzero : ∀ (b j : Fin 2) (h : ∀ a : Fin 4, ![b.val, j.val, 0, 0] a + S1x1x128x128.size a ≤ S2x2x2176x128.size a) (x : S1x1x128x128.Idx),
      zer (F := Ideal) x = ((fun y : S2x2x2176x128.Idx => ((scrt X (y 0) (y 1) (y 2) (y 3) : ℝ) : EReal)) ((Rect.unit (s := S2x2x2176x128) ![b.val, j.val, 0, 0] S1x1x128x128.size h).emb x) : EReal) := fun b j h x => by
    obtain ⟨r, l, rfl⟩ : ∃ (r : Fin 128) (l : Fin 128), x = ix4 0 0 r l := ⟨x 2, x 3, (eq_ix4 x).trans (by rw [Fin.fin_one_eq_zero (x 0), Fin.fin_one_eq_zero (x 1)])⟩
    exact (piece_zero X b j r l).trans (key _ _ _ _ _ (emb_zero b j h r l)).symm
  refine (View.read_writes_apply_of_pieces v f (fun y : S2x2x2176x128.Idx => ((scrt X (y 0) (y 1) (y 2) (y 3) : ℝ) : EReal)) (pcs v2 n0 n1) ?_ (ix4 b j row l) ?_).trans (key _ _ _ _ _ rfl)
  · unfold pcs
    simp only [List.forall_mem_cons, List.not_mem_nil, false_implies, implies_true, and_true]
    exact ⟨hrow 1 1 _ _ fun r l => (dbl1_at v2 h2 n1 r l).trans (h1 _ _), hrow 1 0 _ _ fun r l => (dbl0_at v2 h2 n1 r l).trans (h1 _ _), hzero 1 1 _, hzero 1 0 _,
      hrow 0 1 _ _ fun r l => (dbl1_at v2 h2 n0 r l).trans (h0 _ _), hrow 0 0 _ _ fun r l => (dbl0_at v2 h2 n0 r l).trans (h0 _ _), hzero 0 1 _, hzero 0 0 _⟩
  · have mrow : ∀ (b j : Fin 2) (h : ∀ a : Fin 4, ![b.val, j.val, 128, 0] a + S1x1x2048x128.size a ≤ S2x2x2176x128.size a), 128 ≤ row.val →
        ix4 b j row l ∈ (Rect.unit (s := S2x2x2176x128) ![b.val, j.val, 128, 0] S1x1x2048x128.size h).set := fun b j h hr => by
      rw [Rect.mem_set_unit]
      intro a
      have := row.isLt
      have := l.isLt
      match a with
      | ⟨0, _⟩ => exact ⟨le_refl _, Nat.lt_succ_self _⟩
      | ⟨1, _⟩ => exact ⟨le_refl _, Nat.lt_succ_self _⟩
      | ⟨2, _⟩ => exact ⟨hr, by show row.val < 128 + 2048; omega⟩
      | ⟨3, _⟩ => exact ⟨Nat.zero_le _, by show l.val < 0 + 128; omega⟩
    have mzero : ∀ (b j : Fin 2) (h : ∀ a : Fin 4, ![b.val, j.val, 0, 0] a + S1x1x128x128.size a ≤ S2x2x2176x128.size a), row.val < 128 →
        ix4 b j row l ∈ (Rect.unit (s := S2x2x2176x128) ![b.val, j.val, 0, 0] S1x1x128x128.size h).set := fun b j h hr => by
      rw [Rect.mem_set_unit]
      intro a
      have := l.isLt
      match a with
      | ⟨0, _⟩ => exact ⟨le_refl _, Nat.lt_succ_self _⟩
      | ⟨1, _⟩ => exact ⟨le_refl _, Nat.lt_succ_self _⟩
      | ⟨2, _⟩ => exact ⟨Nat.zero_le _, by show row.val < 0 + 128; omega⟩
      | ⟨3, _⟩ => exact ⟨Nat.zero_le _, by show l.val < 0 + 128; omega⟩
    have hb : b = 0 ∨ b = 1 := by omega
    have hj : j = 0 ∨ j = 1 := by omega
    unfold pcs
    simp only [List.exists_mem_cons_iff]
    by_cases hr : row.val < 128
    · rcases hb with rfl | rfl <;> rcases hj with rfl | rfl
      · exact .inr <| .inr <| .inr <| .inr <| .inr <| .inr <| .inr <| .inl (mzero 0 0 _ hr)
      · exact .inr <| .inr <| .inr <| .inr <| .inr <| .inr <| .inl (mzero 0 1 _ hr)
      · exact .inr <| .inr <| .inr <| .inl (mzero 1 0 _ hr)
      · exact .inr <| .inr <| .inl (mzero 1 1 _ hr)
    · have hr := not_lt.mp hr
      rcases hb with rfl | rfl <;> rcases hj with rfl | rfl
      · exact .inr <| .inr <| .inr <| .inr <| .inr <| .inl (mrow 0 0 _ hr)
      · exact .inr <| .inr <| .inr <| .inr <| .inl (mrow 0 1 _ hr)
      · exact .inr <| .inl (mrow 1 0 _ hr)
      · exact .inl (mrow 1 1 _ hr)

end Cert.KernelIdeal.Swa
-- ==== Proof.SwaMasks.lean ====
/-
  The attention kernel's masks over the reals: the halves of the lanes, the averaging matrix, the scaled gains and the visible positions.
-/
module

public import proofs.«01_k».proof.Proof.SwaScratch

@[expose] public section

set_option maxRecDepth 16384

noncomputable section

namespace Cert.KernelIdeal.Swa

open Cert.KernelIdeal Cert.KernelIdeal.Gen Idealize.ShloMosaic Idealize.ShloMosaic.TcCoe Idealize.SL.Sem
open Cert.Swa

variable {F : FTy → Type} [FloatOps F] [Named F]

/-- The lower half of the lanes. -/
def low : IVec S1x128 1 := cmpi .slt (iota .tc S1x128 32 [1] iota_S1x128_d1_w32) (broadcast S1x128 64#32)

/-- The lower half's mask. -/
theorem low_at : IsLow low := fun l => by
  pointwise [low]
  exact (by decide +kernel : ∀ l : Fin 128, IntOp.cmpi .slt (BitVec.ofNat 32 l.val) 64#32 = if half l = 0 then 1#1 else 0#1) l

/-- The averaging matrix. -/
theorem avg_at : IsAvg (kernelRun0_A.sl.v63 (F := Ideal)) := fun m l => by
  have e1 : ∀ m l : Fin 128, kernelRun0_A.sl.v33 (ix2 m l) = BitVec.ofNat 32 (m.val / 64) := fun m l => by
    pointwise [kernelRun0_A.sl.v33, kernelRun0_A.sl.v32, kernelRun0_A.sl.v29, kernelRun0_A.sl.v25, kernelRun0_A.sl.v24, kernelRun0_A.sl.v17, kernelRun0_A.sl.v14, kernelRun0_A.sl.v12,
      kernelRun0_A.sl.v10, kernelRun0_A.sl.v9]
    revert m
    decide +kernel
  have e2 : ∀ m l : Fin 128, kernelRun0_A.sl.v58 (ix2 m l) = BitVec.ofNat 32 (l.val / 64) := fun m l => by
    pointwise [kernelRun0_A.sl.v58, kernelRun0_A.sl.v57, kernelRun0_A.sl.v54, kernelRun0_A.sl.v50, kernelRun0_A.sl.v24, kernelRun0_A.sl.v42, kernelRun0_A.sl.v39, kernelRun0_A.sl.v12,
      kernelRun0_A.sl.v10, kernelRun0_A.sl.v34]
    revert l
    decide +kernel
  have e3 : ∀ m l : Fin 128, IntOp.cmpi .eq (BitVec.ofNat 32 (m.val / 64)) (BitVec.ofNat 32 (l.val / 64)) = if half m = half l then 1#1 else 0#1 := by decide +kernel
  pointwise [kernelRun0_A.sl.v63, kernelRun0_A.sl.v62, kernelRun0_A.sl.v60, kernelRun0_A.sl.v61, kernelRun0_A.sl.cst_12, kernelRun0_A.sl.cst_13]
  rw [e1, e2, e3]
  have e4 : Ideal.ofBits .f32 1015021568#32 = ((1 / 64 : ℝ) : EReal) := by
    simp [Ideal.ofBits, Ideal.ieee, -EReal.coe_mul]
    norm_num
  split
  · exact e4
  · rfl

/-- The visible positions of a row of tile `k`: the 128 up to and including the row's own, none before the sequence. -/
abbrev vis (k r : ℕ) (i : Fin 256) : Prop := r < i.val ∧ i.val ≤ r + 128 ∧ (0 < k ∨ 128 ≤ i.val)

theorem vis_at (k : Fin k0_t1_loop.trips) (r : Fin 128) (i : Fin 256) :
    k0_pay2 k0_pay185 k0_pay186 0#32 1#32 k (ix2 r i) = if vis k.val r.val i then 1#1 else 0#1 := by
  pointwise [k0_pay2, k0_pay185, k0_pay186]
  have e1 : ∀ (r : Fin 128) (i : Fin 256), IntOp.andi
        (IntOp.cmpi .sge (IntOp.subi (IntOp.addi (BitVec.ofNat 32 r.val) 128#32) (BitVec.ofNat 32 i.val)) 0#32)
        (IntOp.cmpi .slt (IntOp.subi (IntOp.addi (BitVec.ofNat 32 r.val) 128#32) (BitVec.ofNat 32 i.val)) 128#32)
      = if r.val < i.val ∧ i.val ≤ r.val + 128 then 1#1 else 0#1 := by decide +kernel
  have e2 : ∀ i : Fin 256, IntOp.cmpi .sge (BitVec.ofNat 32 i.val) 128#32 = if 128 ≤ i.val then 1#1 else 0#1 := by decide +kernel
  have e3 : ∀ k : Fin 16, Scalar.cmpi .sgt (Scf.iv 0#32 1#32 k.val) 0#32 = if 0 < k.val then 1#1 else 0#1 := by decide +kernel
  rw [e1, e2, (e3 k :)]
  by_cases h1 : r.val < i.val ∧ i.val ≤ r.val + 128 <;> by_cases h2 : 128 ≤ i.val <;> by_cases h3 : 0 < k.val <;> simp [vis, h1, h2, h3, IntOp.andi, IntOp.ori]

/-- The normalised keys over the reals. -/
theorem nk_at (v63 : FVec Ideal S128x128 .bf16) (hav : IsAvg v63) (b : Vec Ideal S1x2048x128 .bf16) (g : Vec Ideal S1x128 .f32) (r : Fin 2048) (X G : Fin 128 → ℝ)
    (hX : ∀ l, b (ix3 0 r l) = ((X l : ℝ) : EReal)) (hG : ∀ l, g (ix2 0 l) = ((G l : ℝ) : EReal)) (l : Fin 128) :
    nk v63 b g (ix2 r l) = ((X l * inv (fun j => X (lane (half l) j)) * G l : ℝ) : EReal) := by
  pointwise [nk, raw]
  rw [ms128 (fun m l => v63 (ix2 m l)) hav (fun l => b (ix3 0 r l)) X hX l, hG, ← EReal.coe_mul]

end Cert.KernelIdeal.Swa
-- ==== Proof.SwaGain.lean ====
/-
  The attention kernel's query gains over the reals, each masked to its half of the lanes.
-/
module

public import proofs.«01_k».proof.Proof.SwaMasks

@[expose] public section

set_option maxRecDepth 16384

noncomputable section

namespace Cert.KernelIdeal.Swa

open Cert.KernelIdeal Cert.KernelIdeal.Gen Idealize.ShloMosaic Idealize.ShloMosaic.TcCoe Idealize.SL.Sem
open Cert.Swa

variable {F : FTy → Type} [FloatOps F] [Named F]

theorem one_bit : (FloatOps.sitofp .f32 (BitVec.setWidth 32 1#1) : Ideal .f32) = ((1 : ℝ) : EReal) := by
  show (((BitVec.setWidth 32 1#1).toInt : ℝ) : EReal) = _
  rw [show (BitVec.setWidth 32 1#1).toInt = 1 by decide, Int.cast_one]

theorem zero_bit : (FloatOps.sitofp .f32 (BitVec.setWidth 32 0#1) : Ideal .f32) = ((0 : ℝ) : EReal) := by
  show (((BitVec.setWidth 32 0#1).toInt : ℝ) : EReal) = _
  rw [show (BitVec.setWidth 32 0#1).toInt = 0 by decide, Int.cast_zero]

/-- The query gain masked to the lower half. -/
theorem qg0_at (g : Vec Ideal S1x128 .f32) (G : Fin 128 → ℝ) (hg : ∀ l, g (ix2 0 l) = ((G l : ℝ) : EReal)) (l : Fin 128) :
    k0_pay187 (sitofp .f32 (extui 32 low natLt_1_32)) g (ix2 0 l) = (((if half l = 0 then G l * (8 * Real.log 2)⁻¹ else 0) : ℝ) : EReal) := by
  have hl := low_at l
  generalize low = v at hl ⊢
  pointwise [k0_pay187]
  rw [hl, hg, qscale]
  split
  · rw [one_bit, ← EReal.coe_mul]
    exact (EReal.coe_mul _ _).symm.trans (by rw [mul_one])
  · rw [zero_bit, ← EReal.coe_mul]
    exact (EReal.coe_mul _ _).symm.trans (by rw [mul_zero])

/-- The query gain masked to the upper half. -/
theorem qg1_at (g : Vec Ideal S1x128 .f32) (G : Fin 128 → ℝ) (hg : ∀ l, g (ix2 0 l) = ((G l : ℝ) : EReal)) (l : Fin 128) :
    k0_pay188 (subf (broadcast S1x128 (FloatOps.ofBits .f32 0x3F800000#32 : Ideal .f32)) (sitofp .f32 (extui 32 low natLt_1_32))) g (ix2 0 l)
      = (((if half l = 1 then G l * (8 * Real.log 2)⁻¹ else 0) : ℝ) : EReal) := by
  have hl := low_at l
  generalize low = v at hl ⊢
  pointwise [k0_pay188]
  rw [hl, hg, qscale]
  have hc : half l = 0 ∨ half l = 1 := by omega
  rcases hc with h | h <;> rw [h]
  · rw [if_pos rfl, if_neg (by decide), one_bit, ← EReal.coe_mul]
    refine (congrArg (((G l * (8 * Real.log 2)⁻¹ : ℝ) : EReal) * ·) (?_ : ((1 : EReal) - ((1 : ℝ) : EReal)) = ((0 : ℝ) : EReal))).trans ?_
    · rw [← EReal.coe_one, ← EReal.coe_sub, sub_self]
    · exact (EReal.coe_mul _ _).symm.trans (by rw [mul_zero])
  · rw [if_neg (by decide), if_pos rfl, zero_bit, ← EReal.coe_mul]
    refine (congrArg (((G l * (8 * Real.log 2)⁻¹ : ℝ) : EReal) * ·) (?_ : ((1 : EReal) - ((0 : ℝ) : EReal)) = ((1 : ℝ) : EReal))).trans ?_
    · rw [← EReal.coe_one, ← EReal.coe_sub, sub_zero]
    · exact (EReal.coe_mul _ _).symm.trans (by rw [mul_one])

end Cert.KernelIdeal.Swa
-- ==== Proof.SwaRun.lean ====
/-
  The attention kernel's run as the sixteen trips over the filled scratch arrays, and what each of their reads gives.
-/
module

public import proofs.«01_k».proof.Proof.SwaGain

@[expose] public section

set_option maxRecDepth 16384

noncomputable section

namespace Cert.KernelIdeal.Swa

open Cert.KernelIdeal Cert.KernelIdeal.Gen Idealize.ShloMosaic Idealize.ShloMosaic.TcCoe Idealize.SL.Sem
open Cert.Swa

variable {F : FTy → Type} [FloatOps F] [Named F]

/-- Batch `b` of a staged block of keys or values. -/
def rdb (a : Memref sig .tc .vmem S2x2048x128 .bf16) (h : a.IsWhole) (x : Vec F S2x2048x128 .bf16) (b : Fin 2) : Vec F S1x2048x128 .bf16 :=
  match b with
  | 0 => View.readAt (Elt F) a.view (Rect.unit (s := S2x2048x128) ![0, 0, 0] S1x2048x128.size inb_S2x2048x128_S1x2048x128_0_0_0).toLoadRect (h.unread x)
  | 1 => View.readAt (Elt F) a.view (Rect.unit (s := S2x2048x128) ![1, 0, 0] S1x2048x128.size inb_S2x2048x128_S1x2048x128_1_0_0).toLoadRect (h.unread x)

/-- A staged gain. -/
def rdg (a : Memref sig .tc .vmem S1x128 .f32) (h : a.IsWhole) (x : Vec F S1x128 .f32) : Vec F S1x128 .f32 :=
  View.readAt (Elt F) a.view (Rect.unit (s := S1x128) ![0, 0] S1x128.size inb_S1x128_S1x128_0_0).toLoadRect (h.unread x)

set_option maxHeartbeats 4000000 in
/-- The run's stores are the sixteen trips' over the filled scratch arrays. -/
theorem run_pieces (c : Dev nD) (i : grid0.Coords) (arg1 : Memref sig .tc .vmem S2x2048x512 .bf16) (harg1 : arg1.IsWhole) (arg2 : Memref sig .tc .vmem S2x2048x128 .bf16) (harg2 : arg2.IsWhole) (arg3 : Memref sig .tc .vmem S2x2048x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .smem S8 .f32) (harg6 : arg6.IsWhole) (arg7 : Memref sig .tc .vmem S1x512 .f32) (harg7 : arg7.IsWhole) (arg8 : Memref sig .tc .vmem S2x2048x512 .bf16) (harg8 : arg8.IsWhole) (arg9 : Memref sig .tc .vmem S2x2x2176x128 .bf16) (harg9 : arg9.IsWhole) (arg10 : Memref sig .tc .vmem S2x2x2176x128 .bf16) (harg10 : arg10.IsWhole)
    (x0 : Vec F S2x2048x512 .bf16) (x1 : Vec F S2x2048x128 .bf16) (x2 : Vec F S2x2048x128 .bf16) (x3 : Vec F S1x128 .f32) (x4 : Vec F S1x128 .f32) (x5 : Vec F S8 .f32) (x6 : Vec F S1x512 .f32) :
    (kernelRun0_A (F := F) c i arg1 harg1 arg2 harg2 arg3 harg3 arg4 harg4 arg5 harg5 arg6 harg6 arg7 harg7 arg8 harg8 arg9 harg9 arg10 harg10 x0 x1 x2 x3 x4 x5 x6).1
      = pb_k0_t1 (F := F) Variants.none c none i arg1 harg1 arg2 harg2 arg3 harg3 arg4 harg4 arg5 harg5 arg6 harg6 arg7 harg7 arg8 harg8 arg9 harg9 arg10 harg10 low kernelRun0_A.sl.v63 k0_pay185 k0_pay186 (k0_pay187 (sitofp .f32 (extui 32 low natLt_1_32)) (rdg arg4 harg4 x3)) (k0_pay188 (subf (broadcast S1x128 (FloatOps.ofBits .f32 0x3F800000#32 : F .f32)) (sitofp .f32 (extui 32 low natLt_1_32))) (rdg arg4 harg4 x3)) 0#32 1#32 (harg1.unread x0) (harg6.unread x5) (harg7.unread x6) (arg9.view.writes (Elt F) arg9.view.junk (pcs low (nk kernelRun0_A.sl.v63 (rdb arg2 harg2 x1 0) (rdg arg5 harg5 x4)) (nk kernelRun0_A.sl.v63 (rdb arg2 harg2 x1 1) (rdg arg5 harg5 x4)))) (arg10.view.writes (Elt F) arg10.view.junk (pcs low (raw (rdb arg3 harg3 x2 0)) (raw (rdb arg3 harg3 x2 1)))) 16 := by
  unfold kernelRun0_A
  rfl

theorem offs0 : ∀ k : Fin k0_t1_loop.trips, k0_off1 k = ![0, 128 * k.val, 0] ∧ k0_off2 k = ![0, 128 * k.val, 128] ∧ k0_off3 k = ![0, 128 * k.val, 256] ∧ k0_off4 k = ![0, 128 * k.val, 384] := by
  decide +kernel
theorem offs1 : ∀ k : Fin k0_t1_loop.trips, k0_off5 k = ![1, 128 * k.val, 0] ∧ k0_off6 k = ![1, 128 * k.val, 128] ∧ k0_off7 k = ![1, 128 * k.val, 256] ∧ k0_off8 k = ![1, 128 * k.val, 384] := by
  decide +kernel
theorem offs2 : ∀ k : Fin k0_t1_loop.trips, k0_off9 k = ![0, 0, 128 * k.val, 0] ∧ k0_off10 k = ![0, 1, 128 * k.val, 0] ∧ k0_off11 k = ![1, 0, 128 * k.val, 0] ∧ k0_off12 k = ![1, 1, 128 * k.val, 0] := by
  decide +kernel
theorem offs3 : ∀ k : Fin k0_t1_loop.trips, k0_off13 k = ![0, 128 * k.val, 0] ∧ k0_off14 k = ![1, 128 * k.val, 0] := by
  decide +kernel

/-- The trips' offsets. -/
theorem offs : ∀ k : Fin k0_t1_loop.trips, (k0_off1 k = ![0, 128 * k.val, 0] ∧ k0_off2 k = ![0, 128 * k.val, 128] ∧ k0_off3 k = ![0, 128 * k.val, 256] ∧ k0_off4 k = ![0, 128 * k.val, 384])
    ∧ (k0_off5 k = ![1, 128 * k.val, 0] ∧ k0_off6 k = ![1, 128 * k.val, 128] ∧ k0_off7 k = ![1, 128 * k.val, 256] ∧ k0_off8 k = ![1, 128 * k.val, 384])
    ∧ (k0_off9 k = ![0, 0, 128 * k.val, 0] ∧ k0_off10 k = ![0, 1, 128 * k.val, 0] ∧ k0_off11 k = ![1, 0, 128 * k.val, 0] ∧ k0_off12 k = ![1, 1, 128 * k.val, 0])
    ∧ k0_off13 k = ![0, 128 * k.val, 0] ∧ k0_off14 k = ![1, 128 * k.val, 0] :=
  fun k => ⟨offs0 k, offs1 k, offs2 k, offs3 k⟩

theorem q_at (a : Memref sig .tc .vmem S2x2048x512 .bf16) (h : a.IsWhole) (x : Vec Ideal S2x2048x512 .bf16) (o : Fin 3 → ℕ)
    (hi : ∀ a : Fin 3, o a + S1x128x128.size a ≤ S2x2048x512.size a) (b : Fin 2) (p : Fin 4) (k : Fin 16) (ho : o = ![b.val, 128 * k.val, 128 * p.val]) (r l : Fin 128) :
    View.readAt (Elt Ideal) a.view (Rect.unit (s := S2x2048x512) o S1x128x128.size hi).toLoadRect (h.unread x) (ix3 0 r l)
      = x (ix3 b ⟨128 * k.val + r.val, by omega⟩ ⟨128 * p.val + l.val, by omega⟩) := by
  subst ho
  refine (congrFun (h.read_unread x) (Rect.emb _ _)).trans (congrArg x ?_)
  blk_ext []

theorem s_at (a : Memref sig .tc .smem S8 .f32) (h : a.IsWhole) (x : Vec Ideal S8 .f32) (j : Fin 8) (hi : ∀ a : Fin 1, ![j.val] a + S1.size a ≤ S8.size a) (hn) :
    View.readAt (Elt Ideal) a.view (Rect.unit (s := S8) ![j.val] S1.size hi).toLoadRect (h.unread x) (Shape.Idx.first hn) = x (ix1 j) := by
  refine (congrFun (h.read_unread x) (Rect.emb _ _)).trans (congrArg x ?_)
  blk_ext []

theorem o_at (a : Memref sig .tc .vmem S1x512 .f32) (h : a.IsWhole) (x : Vec Ideal S1x512 .f32) (o : Fin 2 → ℕ) (p : Fin 4) (ho : o = ![0, 128 * p.val])
    (hi : ∀ a : Fin 2, o a + S1x128.size a ≤ S1x512.size a) (l : Fin 128) :
    View.readAt (Elt Ideal) a.view (Rect.unit (s := S1x512) o S1x128.size hi).toLoadRect (h.unread x) (ix2 0 l) = x (ix2 0 ⟨128 * p.val + l.val, by omega⟩) := by
  subst ho
  refine (congrFun (h.read_unread x) (Rect.emb _ _)).trans (congrArg x ?_)
  blk_ext []

theorem b_at (a : Memref sig .tc .vmem S2x2048x128 .bf16) (h : a.IsWhole) (x : Vec Ideal S2x2048x128 .bf16) (b : Fin 2) (r : Fin 2048) (l : Fin 128) :
    rdb a h x b (ix3 0 r l) = x (ix3 b r l) := by
  match b with
  | 0 =>
    refine (congrFun (h.read_unread x) (Rect.emb _ _)).trans (congrArg x ?_)
    blk_ext []
  | 1 =>
    refine (congrFun (h.read_unread x) (Rect.emb _ _)).trans (congrArg x ?_)
    blk_ext []

theorem g_at (a : Memref sig .tc .vmem S1x128 .f32) (h : a.IsWhole) (x : Vec Ideal S1x128 .f32) (l : Fin 128) : rdg a h x (ix2 0 l) = x (ix2 0 l) := by
  refine (congrFun (h.read_unread x) (Rect.emb _ _)).trans (congrArg x ?_)
  blk_ext []

/-- A read of 256 rows of a scratch array. -/
theorem kv_at {sp : Space} (v : View sig .tc sp S2x2x2176x128 .bf16) (f : v.ty.Contents (Elt Ideal)) (X : Fin 2 → Fin 2048 → Fin 128 → ℝ)
    (hf : ∀ b j row l, v.read (Elt Ideal) f (ix4 b j row l) = ((scrt X b j row l : ℝ) : EReal)) (o : Fin 4 → ℕ)
    (hi : ∀ a : Fin 4, o a + S1x1x256x128.size a ≤ S2x2x2176x128.size a) (b j : Fin 2) (k : Fin 16) (ho : o = ![b.val, j.val, 128 * k.val, 0]) (i : Fin 256) (l : Fin 128) :
    View.readAt (Elt Ideal) v (Rect.unit (s := S2x2x2176x128) o S1x1x256x128.size hi).toLoadRect f (ix4 0 0 i l)
      = ((scrt X b j ⟨128 * k.val + i.val, by omega⟩ l : ℝ) : EReal) := by
  subst ho
  rw [← hf]
  refine congrArg (v.read (Elt Ideal) f) (?_ : (Rect.unit (s := S2x2x2176x128) _ S1x1x256x128.size hi).emb (ix4 0 0 i l) = _)
  blk_ext []

end Cert.KernelIdeal.Swa
-- ==== Proof.SwaBlock.lean ====
/-
  The attention kernel's block over the reals: every element the sixteen trips store is the softmax with a sink at its place.
-/
module

public import proofs.«01_k».proof.Proof.SwaRun

@[expose] public section

set_option maxRecDepth 16384

noncomputable section

namespace Cert.KernelIdeal.Swa

open Cert.KernelIdeal Cert.KernelIdeal.Gen Idealize.ShloMosaic Idealize.ShloMosaic.TcCoe Idealize.SL.Sem
open Cert.Swa

/-- One element of a stored block over the reals: batch `b`, pair of heads `p`, tile `k`, row `r` of the tile, lane `l` of the pair. -/
def pairR (Xq : Fin 2 → Fin 2048 → Fin 512 → ℝ) (Xk Xv : Fin 2 → Fin 2048 → Fin 128 → ℝ) (qg : Fin 128 → ℝ) (sk : Fin 8 → ℝ) (og : Fin 512 → ℝ) (b : Fin 2) (p : Fin 4) (k : Fin 16) (r l : Fin 128) : ℝ :=
  prO (vis k.val r.val) (fun l => Xq b ⟨128 * k.val + r.val, by omega⟩ ⟨128 * p.val + l.val, by omega⟩) qg
      (fun i l => scrt Xk b ⟨p.val / 2, by omega⟩ ⟨128 * k.val + i.val, by omega⟩ l) (fun i l => scrt Xv b ⟨p.val / 2, by omega⟩ ⟨128 * k.val + i.val, by omega⟩ l)
      (fun h => sk ⟨2 * p.val + h.val, by omega⟩) l
    * inv (fun j => prO (vis k.val r.val) (fun l => Xq b ⟨128 * k.val + r.val, by omega⟩ ⟨128 * p.val + l.val, by omega⟩) qg
      (fun i l => scrt Xk b ⟨p.val / 2, by omega⟩ ⟨128 * k.val + i.val, by omega⟩ l) (fun i l => scrt Xv b ⟨p.val / 2, by omega⟩ ⟨128 * k.val + i.val, by omega⟩ l)
      (fun h => sk ⟨2 * p.val + h.val, by omega⟩) (lane (half l) j))
    * og ⟨128 * p.val + l.val, by omega⟩

/-- The block over the reals at a row and a column. -/
def outR (Xq : Fin 2 → Fin 2048 → Fin 512 → ℝ) (Xk Xv : Fin 2 → Fin 2048 → Fin 128 → ℝ) (qg : Fin 128 → ℝ) (sk : Fin 8 → ℝ) (og : Fin 512 → ℝ) (b : Fin 2) (row : Fin 2048) (d : Fin 512) : ℝ :=
  pairR Xq Xk Xv qg sk og b ⟨d.val / 128, by omega⟩ ⟨row.val / 128, by omega⟩ ⟨row.val % 128, by omega⟩ ⟨d.val % 128, by omega⟩

theorem outR_eq (Xq : Fin 2 → Fin 2048 → Fin 512 → ℝ) (Xk Xv : Fin 2 → Fin 2048 → Fin 128 → ℝ) (qg : Fin 128 → ℝ) (sk : Fin 8 → ℝ) (og : Fin 512 → ℝ) (b : Fin 2) (k : Fin 16) (r : Fin 128) (d : Fin 512) :
    outR Xq Xk Xv qg sk og b ⟨128 * k.val + r.val, by omega⟩ d = pairR Xq Xk Xv qg sk og b ⟨d.val / 128, by omega⟩ k r ⟨d.val % 128, by omega⟩ := by
  unfold outR
  congr 1
  · exact Fin.ext (by simp only; omega)
  · exact Fin.ext (by simp only; omega)

/-- One pair of heads of a trip. -/
theorem pair_blk (Xq : Fin 2 → Fin 2048 → Fin 512 → ℝ) (Xk Xv : Fin 2 → Fin 2048 → Fin 128 → ℝ) (qg : Fin 128 → ℝ) (sk : Fin 8 → ℝ) (og : Fin 512 → ℝ) (arg1 : Memref sig .tc .vmem S2x2048x512 .bf16) (harg1 : arg1.IsWhole) (arg6 : Memref sig .tc .smem S8 .f32) (harg6 : arg6.IsWhole)
    (arg7 : Memref sig .tc .vmem S1x512 .f32) (harg7 : arg7.IsWhole) (arg9 arg10 : Memref sig .tc .vmem S2x2x2176x128 .bf16)
    (x0 : Vec Ideal S2x2048x512 .bf16) (x5 : Vec Ideal S8 .f32) (x6 : Vec Ideal S1x512 .f32) (g : Vec Ideal S1x128 .f32)
    (f9 : BufTy.Contents (Elt Ideal) arg9.view.ty) (f10 : BufTy.Contents (Elt Ideal) arg10.view.ty)
    (h0 : ∀ b r d, x0 (ix3 b r d) = ((Xq b r d : ℝ) : EReal)) (h5 : ∀ j, x5 (ix1 j) = ((sk j : ℝ) : EReal)) (h6 : ∀ d, x6 (ix2 0 d) = ((og d : ℝ) : EReal))
    (hg : ∀ l, g (ix2 0 l) = ((qg l : ℝ) : EReal))
    (h9 : ∀ b j row l, arg9.view.read (Elt Ideal) f9 (ix4 b j row l) = ((scrt Xk b j row l : ℝ) : EReal))
    (h10 : ∀ b j row l, arg10.view.read (Elt Ideal) f10 (ix4 b j row l) = ((scrt Xv b j row l : ℝ) : EReal))
    (b : Fin 2) (p : Fin 4) (k : Fin k0_t1_loop.trips) (oq : Fin 3 → ℕ) (hiq : ∀ a : Fin 3, oq a + S1x128x128.size a ≤ S2x2048x512.size a) (hoq : oq = ![b.val, 128 * k.val, 128 * p.val])
    (okv : Fin 4 → ℕ) (hikv : ∀ a : Fin 4, okv a + S1x1x256x128.size a ≤ S2x2x2176x128.size a) (hokv : okv = ![b.val, p.val / 2, 128 * k.val, 0])
    (hi0 : ∀ a : Fin 1, ![2 * p.val] a + S1.size a ≤ S8.size a) (hi1 : ∀ a : Fin 1, ![2 * p.val + 1] a + S1.size a ≤ S8.size a) (hn0) (hn1)
    (oo : Fin 2 → ℕ) (hio : ∀ a : Fin 2, oo a + S1x128.size a ≤ S1x512.size a) (hoo : oo = ![0, 128 * p.val]) (r l : Fin 128) :
    pair low kernelRun0_A.sl.v63 (k0_pay2 k0_pay185 k0_pay186 0#32 1#32 k) (k0_pay187 (sitofp .f32 (extui 32 low natLt_1_32)) g) (k0_pay188 (subf (broadcast S1x128 (FloatOps.ofBits .f32 0x3F800000#32 : Ideal .f32)) (sitofp .f32 (extui 32 low natLt_1_32))) g)
      (View.readAt (Elt Ideal) arg1.view (Rect.unit (s := S2x2048x512) oq S1x128x128.size hiq).toLoadRect (harg1.unread x0))
      (View.readAt (Elt Ideal) arg9.view (Rect.unit (s := S2x2x2176x128) okv S1x1x256x128.size hikv).toLoadRect f9)
      (View.readAt (Elt Ideal) arg10.view (Rect.unit (s := S2x2x2176x128) okv S1x1x256x128.size hikv).toLoadRect f10)
      (View.readAt (Elt Ideal) arg6.view (Rect.unit (s := S8) ![2 * p.val] S1.size hi0).toLoadRect (harg6.unread x5) (Shape.Idx.first hn0))
      (View.readAt (Elt Ideal) arg6.view (Rect.unit (s := S8) ![2 * p.val + 1] S1.size hi1).toLoadRect (harg6.unread x5) (Shape.Idx.first hn1))
      (View.readAt (Elt Ideal) arg7.view (Rect.unit (s := S1x512) oo S1x128.size hio).toLoadRect (harg7.unread x6)) (ix2 r l)
      = ((pairR Xq Xk Xv qg sk og b p k r l : ℝ) : EReal) :=
  pair_real low low_at _ avg_at _ _ _ _ _ _ _ _ _ r l (vis k.val r.val) _ _ (fun l => og ⟨128 * p.val + l.val, by omega⟩) _ _
    (fun h => sk ⟨2 * p.val + h.val, by omega⟩) (vis_at k r)
    (fun l => (q_at arg1 harg1 x0 oq hiq b p k hoq r l).trans (h0 _ _ _))
    (qg0_at g qg hg) (qg1_at g qg hg)
    (fun i l => kv_at arg9.view f9 Xk h9 okv hikv b ⟨p.val / 2, by omega⟩ k hokv i l)
    (fun i l => kv_at arg10.view f10 Xv h10 okv hikv b ⟨p.val / 2, by omega⟩ k hokv i l)
    ((s_at arg6 harg6 x5 ⟨2 * p.val, by omega⟩ hi0 hn0).trans (h5 _)) ((s_at arg6 harg6 x5 ⟨2 * p.val + 1, by omega⟩ hi1 hn1).trans (h5 _))
    (fun l => (o_at arg7 harg7 x6 oo p hoo hio l).trans (h6 _))

/-- Four pairs side by side. -/
theorem row_blk (P : Fin 4 → Fin 128 → Fin 128 → ℝ) (a b c d : FVec Ideal S128x128 .f32) (ha : ∀ r l, a (ix2 r l) = ((P 0 r l : ℝ) : EReal))
    (hb : ∀ r l, b (ix2 r l) = ((P 1 r l : ℝ) : EReal)) (hc : ∀ r l, c (ix2 r l) = ((P 2 r l : ℝ) : EReal)) (hd : ∀ r l, d (ix2 r l) = ((P 3 r l : ℝ) : EReal))
    (r : Fin 128) (e : Fin 512) : rowBlk a b c d (ix3 0 r e) = ((P ⟨e.val / 128, by omega⟩ r ⟨e.val % 128, by omega⟩ : ℝ) : EReal) := by
  pointwise [rowBlk]
  have he := e.isLt
  have key : ∀ (q : Fin 4) (l : Fin 128), q.val = e.val / 128 → l.val = e.val % 128 →
      ((P q r l : ℝ) : EReal) = ((P ⟨e.val / 128, by omega⟩ r ⟨e.val % 128, by omega⟩ : ℝ) : EReal) := fun q l hq hl => by
    rw [show q = ⟨e.val / 128, by omega⟩ from Fin.ext hq, show l = ⟨e.val % 128, by omega⟩ from Fin.ext hl]
  split
  · exact (ha _ _).trans (key _ _ (by simp only [Fin.val_zero]; omega) (by simp only; omega))
  · split
    · exact (hb _ _).trans (key _ _ (by simp only [Fin.val_one]; omega) (by simp only; omega))
    · split
      · exact (hc _ _).trans (key _ _ (show 2 = _ by omega) (by simp only; omega))
      · exact (hd _ _).trans (key _ _ (show 3 = _ by omega) (by simp only; omega))

theorem emb_out (b : Fin 2) (k : Fin 16) (o : Fin 3 → ℕ) (h : ∀ a : Fin 3, o a + S1x128x512.size a ≤ S2x2048x512.size a) (ho : o = ![b.val, 128 * k.val, 0]) (r : Fin 128) (d : Fin 512) :
    (Rect.unit (s := S2x2048x512) o S1x128x512.size h).emb (ix3 0 r d) = ix3 b ⟨128 * k.val + r.val, by omega⟩ d := by
  subst ho
  blk_ext []

/-- A stored block of 128 rows agrees with the block over the reals. -/
theorem out_piece (Xq : Fin 2 → Fin 2048 → Fin 512 → ℝ) (Xk Xv : Fin 2 → Fin 2048 → Fin 128 → ℝ) (qg : Fin 128 → ℝ) (sk : Fin 8 → ℝ) (og : Fin 512 → ℝ) (b : Fin 2) (k : Fin 16) (o : Fin 3 → ℕ) (h : ∀ a : Fin 3, o a + S1x128x512.size a ≤ S2x2048x512.size a) (ho : o = ![b.val, 128 * k.val, 0])
    (w : FVec Ideal S1x128x512 .bf16) (hw : ∀ r d, w (ix3 0 r d) = ((pairR Xq Xk Xv qg sk og b ⟨d.val / 128, by omega⟩ k r ⟨d.val % 128, by omega⟩ : ℝ) : EReal)) (x : S1x128x512.Idx) :
    w x = ((fun y : S2x2048x512.Idx => ((outR Xq Xk Xv qg sk og (y 0) (y 1) (y 2) : ℝ) : EReal)) ((Rect.unit (s := S2x2048x512) o S1x128x512.size h).emb x) : EReal) := by
  obtain ⟨r, d, rfl⟩ : ∃ (r : Fin 128) (d : Fin 512), x = ix3 0 r d := ⟨x 1, x 2, (eq_ix3 x).trans (by rw [Fin.fin_one_eq_zero (x 0)])⟩
  rw [hw, emb_out b k o h ho r d, ← outR_eq]
  rfl

set_option maxHeartbeats 4000000 in
/-- Every store of the first `n` trips agrees with the block over the reals. -/
theorem trips_real (Xq : Fin 2 → Fin 2048 → Fin 512 → ℝ) (Xk Xv : Fin 2 → Fin 2048 → Fin 128 → ℝ) (qg : Fin 128 → ℝ) (sk : Fin 8 → ℝ) (og : Fin 512 → ℝ) (c : Dev nD) (i : grid0.Coords) (arg1 : Memref sig .tc .vmem S2x2048x512 .bf16) (harg1 : arg1.IsWhole) (arg2 : Memref sig .tc .vmem S2x2048x128 .bf16) (harg2 : arg2.IsWhole) (arg3 : Memref sig .tc .vmem S2x2048x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .smem S8 .f32) (harg6 : arg6.IsWhole) (arg7 : Memref sig .tc .vmem S1x512 .f32) (harg7 : arg7.IsWhole) (arg8 : Memref sig .tc .vmem S2x2048x512 .bf16) (harg8 : arg8.IsWhole) (arg9 : Memref sig .tc .vmem S2x2x2176x128 .bf16) (harg9 : arg9.IsWhole) (arg10 : Memref sig .tc .vmem S2x2x2176x128 .bf16) (harg10 : arg10.IsWhole)
    (x0 : Vec Ideal S2x2048x512 .bf16) (x5 : Vec Ideal S8 .f32) (x6 : Vec Ideal S1x512 .f32) (g : Vec Ideal S1x128 .f32)
    (f9 : BufTy.Contents (Elt Ideal) arg9.view.ty) (f10 : BufTy.Contents (Elt Ideal) arg10.view.ty)
    (h0 : ∀ b r d, x0 (ix3 b r d) = ((Xq b r d : ℝ) : EReal)) (h5 : ∀ j, x5 (ix1 j) = ((sk j : ℝ) : EReal)) (h6 : ∀ d, x6 (ix2 0 d) = ((og d : ℝ) : EReal))
    (hg : ∀ l, g (ix2 0 l) = ((qg l : ℝ) : EReal))
    (h9 : ∀ b j row l, arg9.view.read (Elt Ideal) f9 (ix4 b j row l) = ((scrt Xk b j row l : ℝ) : EReal))
    (h10 : ∀ b j row l, arg10.view.read (Elt Ideal) f10 (ix4 b j row l) = ((scrt Xv b j row l : ℝ) : EReal)) :
    ∀ n : ℕ, n ≤ 16 → ∀ pc ∈ pb_k0_t1 (F := Ideal) Variants.none c none i arg1 harg1 arg2 harg2 arg3 harg3 arg4 harg4 arg5 harg5 arg6 harg6 arg7 harg7 arg8 harg8 arg9 harg9 arg10 harg10 low kernelRun0_A.sl.v63 k0_pay185 k0_pay186 (k0_pay187 (sitofp .f32 (extui 32 low natLt_1_32)) g) (k0_pay188 (subf (broadcast S1x128 (FloatOps.ofBits .f32 0x3F800000#32 : Ideal .f32)) (sitofp .f32 (extui 32 low natLt_1_32))) g) 0#32 1#32 (harg1.unread x0) (harg6.unread x5) (harg7.unread x6) f9 f10 n,
      ∀ x, pc.2 x = (fun y : S2x2048x512.Idx => ((outR Xq Xk Xv qg sk og (y 0) (y 1) (y 2) : ℝ) : EReal)) (pc.1.emb x)
  | 0, _ => fun pc h => absurd h (by rw [pb_k0_t1.eq_1]; exact List.not_mem_nil)
  | n + 1, hn => by
    let k : Fin k0_t1_loop.trips := ⟨n, hn⟩
    have ih := trips_real Xq Xk Xv qg sk og c i arg1 harg1 arg2 harg2 arg3 harg3 arg4 harg4 arg5 harg5 arg6 harg6 arg7 harg7 arg8 harg8 arg9 harg9 arg10 harg10 x0 x5 x6 g f9 f10 h0 h5 h6 hg h9 h10 n (by omega)
    have e := pb_k0_t1_succ (F := Ideal) Variants.none c none i arg1 harg1 arg2 harg2 arg3 harg3 arg4 harg4 arg5 harg5 arg6 harg6 arg7 harg7 arg8 harg8 arg9 harg9 arg10 harg10 low kernelRun0_A.sl.v63 k0_pay185 k0_pay186 (k0_pay187 (sitofp .f32 (extui 32 low natLt_1_32)) g) (k0_pay188 (subf (broadcast S1x128 (FloatOps.ofBits .f32 0x3F800000#32 : Ideal .f32)) (sitofp .f32 (extui 32 low natLt_1_32))) g) 0#32 1#32 (harg1.unread x0) (harg6.unread x5) (harg7.unread x6) f9 f10 k
    rw [trip_pieces] at e
    rw [show n + 1 = k.val + 1 from rfl, e]
    simp only [List.cons_append, List.nil_append, List.forall_mem_cons]
    refine ⟨out_piece Xq Xk Xv qg sk og 1 k _ _ (offs3 k).2 _ (row_blk (fun p r l => pairR Xq Xk Xv qg sk og 1 p k r l) _ _ _ _
      (fun r l => pair_blk Xq Xk Xv qg sk og arg1 harg1 arg6 harg6 arg7 harg7 arg9 arg10 x0 x5 x6 g f9 f10 h0 h5 h6 hg h9 h10 1 0 k _ _ (offs1 k).1 _ _ (offs2 k).2.2.1 _ _ _ _ _ _ rfl r l)
      (fun r l => pair_blk Xq Xk Xv qg sk og arg1 harg1 arg6 harg6 arg7 harg7 arg9 arg10 x0 x5 x6 g f9 f10 h0 h5 h6 hg h9 h10 1 1 k _ _ (offs1 k).2.1 _ _ (offs2 k).2.2.1 _ _ _ _ _ _ rfl r l)
      (fun r l => pair_blk Xq Xk Xv qg sk og arg1 harg1 arg6 harg6 arg7 harg7 arg9 arg10 x0 x5 x6 g f9 f10 h0 h5 h6 hg h9 h10 1 2 k _ _ (offs1 k).2.2.1 _ _ (offs2 k).2.2.2 _ _ _ _ _ _ rfl r l)
      (fun r l => pair_blk Xq Xk Xv qg sk og arg1 harg1 arg6 harg6 arg7 harg7 arg9 arg10 x0 x5 x6 g f9 f10 h0 h5 h6 hg h9 h10 1 3 k _ _ (offs1 k).2.2.2 _ _ (offs2 k).2.2.2 _ _ _ _ _ _ rfl r l)),
      out_piece Xq Xk Xv qg sk og 0 k _ _ (offs3 k).1 _ (row_blk (fun p r l => pairR Xq Xk Xv qg sk og 0 p k r l) _ _ _ _
      (fun r l => pair_blk Xq Xk Xv qg sk og arg1 harg1 arg6 harg6 arg7 harg7 arg9 arg10 x0 x5 x6 g f9 f10 h0 h5 h6 hg h9 h10 0 0 k _ _ (offs0 k).1 _ _ (offs2 k).1 _ _ _ _ _ _ rfl r l)
      (fun r l => pair_blk Xq Xk Xv qg sk og arg1 harg1 arg6 harg6 arg7 harg7 arg9 arg10 x0 x5 x6 g f9 f10 h0 h5 h6 hg h9 h10 0 1 k _ _ (offs0 k).2.1 _ _ (offs2 k).1 _ _ _ _ _ _ rfl r l)
      (fun r l => pair_blk Xq Xk Xv qg sk og arg1 harg1 arg6 harg6 arg7 harg7 arg9 arg10 x0 x5 x6 g f9 f10 h0 h5 h6 hg h9 h10 0 2 k _ _ (offs0 k).2.2.1 _ _ (offs2 k).2.1 _ _ _ _ _ _ rfl r l)
      (fun r l => pair_blk Xq Xk Xv qg sk og arg1 harg1 arg6 harg6 arg7 harg7 arg9 arg10 x0 x5 x6 g f9 f10 h0 h5 h6 hg h9 h10 0 3 k _ _ (offs0 k).2.2.2 _ _ (offs2 k).2.1 _ _ _ _ _ _ rfl r l)), ih⟩

end Cert.KernelIdeal.Swa
-- ==== Proof.SwaOut.lean ====
/-
  What the attention kernel's run leaves in its output block, over real inputs.
-/
module

public import proofs.«01_k».proof.Proof.SwaBlock

@[expose] public section

set_option maxRecDepth 16384

noncomputable section

namespace Cert.KernelIdeal.Swa

open Cert.KernelIdeal Cert.KernelIdeal.Gen Idealize.ShloMosaic Idealize.ShloMosaic.TcCoe Idealize.SL.Sem
open Cert.Swa

/-- One row of keys, each half normalised and scaled. -/
def keyR (Xk : Fin 2 → Fin 2048 → Fin 128 → ℝ) (kg : Fin 128 → ℝ) (b : Fin 2) (r : Fin 2048) (l : Fin 128) : ℝ :=
  Xk b r l * inv (fun j => Xk b r (lane (half l) j)) * kg l

theorem raw_at (b : Vec Ideal S1x2048x128 .bf16) (r : Fin 2048) (l : Fin 128) : raw b (ix2 r l) = b (ix3 0 r l) := by
  pointwise [raw]

/-- The block at batch `b`, row `r`, column `d`. -/
theorem out_at (c : Dev nD) (i : grid0.Coords) (arg1 : Memref sig .tc .vmem S2x2048x512 .bf16) (harg1 : arg1.IsWhole) (arg2 : Memref sig .tc .vmem S2x2048x128 .bf16) (harg2 : arg2.IsWhole) (arg3 : Memref sig .tc .vmem S2x2048x128 .bf16) (harg3 : arg3.IsWhole) (arg4 : Memref sig .tc .vmem S1x128 .f32) (harg4 : arg4.IsWhole) (arg5 : Memref sig .tc .vmem S1x128 .f32) (harg5 : arg5.IsWhole) (arg6 : Memref sig .tc .smem S8 .f32) (harg6 : arg6.IsWhole) (arg7 : Memref sig .tc .vmem S1x512 .f32) (harg7 : arg7.IsWhole) (arg8 : Memref sig .tc .vmem S2x2048x512 .bf16) (harg8 : arg8.IsWhole) (arg9 : Memref sig .tc .vmem S2x2x2176x128 .bf16) (harg9 : arg9.IsWhole) (arg10 : Memref sig .tc .vmem S2x2x2176x128 .bf16) (harg10 : arg10.IsWhole)
    (x0 : Vec Ideal S2x2048x512 .bf16) (x1 : Vec Ideal S2x2048x128 .bf16) (x2 : Vec Ideal S2x2048x128 .bf16) (x3 : Vec Ideal S1x128 .f32) (x4 : Vec Ideal S1x128 .f32) (x5 : Vec Ideal S8 .f32) (x6 : Vec Ideal S1x512 .f32)
    (Xq : Fin 2 → Fin 2048 → Fin 512 → ℝ) (Xk Xv : Fin 2 → Fin 2048 → Fin 128 → ℝ) (qg kg : Fin 128 → ℝ) (sk : Fin 8 → ℝ) (og : Fin 512 → ℝ)
    (h0 : ∀ b r d, x0 (ix3 b r d) = ((Xq b r d : ℝ) : EReal)) (h1 : ∀ b r l, x1 (ix3 b r l) = ((Xk b r l : ℝ) : EReal)) (h2 : ∀ b r l, x2 (ix3 b r l) = ((Xv b r l : ℝ) : EReal))
    (h3 : ∀ l, x3 (ix2 0 l) = ((qg l : ℝ) : EReal)) (h4 : ∀ l, x4 (ix2 0 l) = ((kg l : ℝ) : EReal)) (h5 : ∀ j, x5 (ix1 j) = ((sk j : ℝ) : EReal)) (h6 : ∀ d, x6 (ix2 0 d) = ((og d : ℝ) : EReal))
    (b : Fin 2) (r : Fin 2048) (d : Fin 512) :
    out0_A_7 c i arg1 harg1 arg2 harg2 arg3 harg3 arg4 harg4 arg5 harg5 arg6 harg6 arg7 harg7 arg8 harg8 arg9 harg9 arg10 harg10 x0 x1 x2 x3 x4 x5 x6 (ix3 b r d) = ((outR Xq (keyR Xk kg) Xv qg sk og b r d : ℝ) : EReal) := by
  have key := trips_real Xq (keyR Xk kg) Xv qg sk og c i arg1 harg1 arg2 harg2 arg3 harg3 arg4 harg4 arg5 harg5 arg6 harg6 arg7 harg7 arg8 harg8 arg9 harg9 arg10 harg10 x0 x5 x6 (rdg arg4 harg4 x3)
    (arg9.view.writes (Elt Ideal) arg9.view.junk (pcs low (nk kernelRun0_A.sl.v63 (rdb arg2 harg2 x1 0) (rdg arg5 harg5 x4)) (nk kernelRun0_A.sl.v63 (rdb arg2 harg2 x1 1) (rdg arg5 harg5 x4))))
    (arg10.view.writes (Elt Ideal) arg10.view.junk (pcs low (raw (rdb arg3 harg3 x2 0)) (raw (rdb arg3 harg3 x2 1))))
    h0 h5 h6 (fun l => (g_at arg4 harg4 x3 l).trans (h3 l))
    (scratch_at low low_at _ _ (keyR Xk kg)
      (fun r l => nk_at _ avg_at _ _ r (Xk 0 r) kg (fun l => (b_at arg2 harg2 x1 0 r l).trans (h1 0 r l)) (fun l => (g_at arg5 harg5 x4 l).trans (h4 l)) l)
      (fun r l => nk_at _ avg_at _ _ r (Xk 1 r) kg (fun l => (b_at arg2 harg2 x1 1 r l).trans (h1 1 r l)) (fun l => (g_at arg5 harg5 x4 l).trans (h4 l)) l) _ _)
    (scratch_at low low_at _ _ Xv
      (fun r l => (raw_at _ r l).trans ((b_at arg3 harg3 x2 0 r l).trans (h2 0 r l)))
      (fun r l => (raw_at _ r l).trans ((b_at arg3 harg3 x2 1 r l).trans (h2 1 r l))) _ _) 16 le_rfl
  unfold out0_A_7
  exact View.read_writes_apply_of_pieces VO0_7 _ (fun y : S2x2048x512.Idx => ((outR Xq (keyR Xk kg) Xv qg sk og (y 0) (y 1) (y 2) : ℝ) : EReal)) _
    (by rw [run_pieces]; exact key) (ix3 b r d) (cover0_A_7 c i arg1 harg1 arg2 harg2 arg3 harg3 arg4 harg4 arg5 harg5 arg6 harg6 arg7 harg7 arg8 harg8 arg9 harg9 arg10 harg10 x0 x1 x2 x3 x4 x5 x6 (ix3 b r d))

end Cert.KernelIdeal.Swa
-- ==== Proof.SwaSpec.lean ====
/-
  Sliding-window attention with sinks over the reals, head by head.
-/
module

public import proofs.«01_k».proof.Proof.SwaReal

@[expose] public section

noncomputable section

namespace Cert.Swa

/-- A key is seen by a row of tile `k`. -/
abbrev seen (k r : ℕ) (i : Fin 256) : Prop := r < i.val ∧ i.val ≤ r + 128 ∧ (0 < k ∨ 128 ≤ i.val)

/-- The score of key `i`: the normalised and scaled query against the key, over eight. -/
def scoreR (Q g : Fin 64 → ℝ) (K : Fin 256 → Fin 64 → ℝ) (i : Fin 256) : ℝ := (∑ j, Q j * inv Q * g j * K i j) / 8

/-- One head of one row. -/
def headR (ok : Fin 256 → Prop) [DecidablePred ok] (Q g : Fin 64 → ℝ) (K V : Fin 256 → Fin 64 → ℝ) (s : ℝ) (j : Fin 64) : ℝ :=
  att ok (scoreR Q g K) (fun i => V i j) s

/-- Rows behind 128 rows of zeros. -/
def padR (K : Fin 2048 → Fin 64 → ℝ) (row : Fin 2176) (j : Fin 64) : ℝ :=
  if h : row.val < 128 then 0 else K ⟨row.val - 128, by omega⟩ j

/-- A normalised and scaled key. -/
def kR (X : Fin 8 → Fin 2048 → Fin 6400 → ℝ) (g : Fin 64 → ℝ) (b : Fin 8) (a : Fin 2) (r : Fin 2048) (j : Fin 64) : ℝ :=
  X b r ⟨6144 + 64 * a.val + j.val, by omega⟩ * inv (fun j => X b r ⟨6144 + 64 * a.val + j.val, by omega⟩) * g j

/-- A value. -/
def vR (X : Fin 8 → Fin 2048 → Fin 6400 → ℝ) (b : Fin 8) (a : Fin 2) (r : Fin 2048) (j : Fin 64) : ℝ :=
  X b r ⟨6272 + 64 * a.val + j.val, by omega⟩

/-- Head `4 a + c` at row `r` of tile `n`. -/
def rowR (X : Fin 8 → Fin 2048 → Fin 6400 → ℝ) (g1 g2 : Fin 64 → ℝ) (sk : Fin 8 → ℝ) (b : Fin 8) (n : Fin 16) (r : Fin 128) (a : Fin 2) (c : Fin 4) : Fin 64 → ℝ :=
  headR (seen n.val r.val) (fun j => X b ⟨128 * n.val + r.val, by omega⟩ ⟨5632 + 64 * (4 * a.val + c.val) + j.val, by omega⟩) g1
    (fun i j => padR (kR X g2 b a) ⟨128 * n.val + i.val, by omega⟩ j) (fun i j => padR (vR X b a) ⟨128 * n.val + i.val, by omega⟩ j) (sk ⟨4 * a.val + c.val, by omega⟩)

/-- The result at batch `b`, row `row`, column `d`: the head's row normalised and scaled. -/
def specR (X : Fin 8 → Fin 2048 → Fin 6400 → ℝ) (g1 g2 : Fin 64 → ℝ) (sk : Fin 8 → ℝ) (og : Fin 512 → ℝ) (b : Fin 8) (row : Fin 2048) (d : Fin 512) : ℝ :=
  rowR X g1 g2 sk b ⟨row.val / 128, by omega⟩ ⟨row.val % 128, by omega⟩ ⟨d.val / 256, by omega⟩ ⟨d.val % 256 / 64, by omega⟩ ⟨d.val % 64, by omega⟩
    * inv (rowR X g1 g2 sk b ⟨row.val / 128, by omega⟩ ⟨row.val % 128, by omega⟩ ⟨d.val / 256, by omega⟩ ⟨d.val % 256 / 64, by omega⟩) * og d

end Cert.Swa
-- ==== Proof.SwaGlue.lean ====
/-
  The attention kernel's block over the reals is the attention over the reals, at the block's batches.
-/
module

public import proofs.«01_k».proof.Proof.SwaOut
public import proofs.«01_k».proof.Proof.SwaSpec

@[expose] public section

set_option maxRecDepth 16384

noncomputable section

namespace Cert.KernelIdeal.Swa

open Cert.KernelIdeal Cert.KernelIdeal.Gen Idealize.ShloMosaic Idealize.ShloMosaic.TcCoe Idealize.SL.Sem
open Cert.Swa

variable (X : Fin 8 → Fin 2048 → Fin 6400 → ℝ) (B : Fin 2 → Fin 8) (G1 G2 : Fin 64 → ℝ) (sk : Fin 8 → ℝ) (og : Fin 512 → ℝ)

/-- The block's query columns. -/
def xq (b : Fin 2) (r : Fin 2048) (d : Fin 512) : ℝ := X (B b) r ⟨5632 + d.val, by omega⟩

/-- The block's key columns. -/
def xk (b : Fin 2) (r : Fin 2048) (l : Fin 128) : ℝ := X (B b) r ⟨6144 + l.val, by omega⟩

/-- The block's value columns. -/
def xv (b : Fin 2) (r : Fin 2048) (l : Fin 128) : ℝ := X (B b) r ⟨6272 + l.val, by omega⟩

/-- A gain laid over both halves. -/
def tile (g : Fin 64 → ℝ) (l : Fin 128) : ℝ := g (sub l)

theorem sub_lane (h : Fin 2) (j : Fin 64) : sub (lane h j) = j := Fin.ext (by simp only [sub, lane]; omega)

theorem key_glue (b a : Fin 2) (r : Fin 2048) (j : Fin 64) : keyR (xk X B) (tile G2) b r (lane a j) = kR X G2 (B b) a r j := by
  have e : ∀ i : Fin 64, xk X B b r (lane a i) = X (B b) r ⟨6144 + 64 * a.val + i.val, by omega⟩ := fun i =>
    congrArg (X (B b) r) (Fin.ext (by simp only [lane]; omega))
  unfold keyR kR tile
  simp only [half_lane, sub_lane, e]

theorem keys_glue (b a h : Fin 2) (row : Fin 2176) (j : Fin 64) : scrt (keyR (xk X B) (tile G2)) b a row (lane h j) = padR (kR X G2 (B b) a) row j := by
  unfold scrt padR
  simp only [sub_lane, key_glue]

theorem vals_glue (b a : Fin 2) (row : Fin 2176) (l : Fin 128) : scrt (xv X B) b a row l = padR (vR X (B b) a) row (sub l) := by
  have e : ∀ (r : Fin 2048) (i : Fin 64), xv X B b r (lane a i) = vR X (B b) a r i := fun r i =>
    congrArg (X (B b) r) (Fin.ext (by simp only [lane]; omega))
  unfold scrt padR
  simp only [e]

/-- One lane of a pair of heads is one lane of one head. -/
theorem head_glue (b : Fin 2) (p : Fin 4) (k : Fin 16) (r l : Fin 128) :
    prO (vis k.val r.val) (fun l => xq X B b ⟨128 * k.val + r.val, by omega⟩ ⟨128 * p.val + l.val, by omega⟩) (tile G1)
      (fun i l => scrt (keyR (xk X B) (tile G2)) b ⟨p.val / 2, by omega⟩ ⟨128 * k.val + i.val, by omega⟩ l) (fun i l => scrt (xv X B) b ⟨p.val / 2, by omega⟩ ⟨128 * k.val + i.val, by omega⟩ l)
      (fun h => sk ⟨2 * p.val + h.val, by omega⟩) l
    = rowR X G1 G2 sk (B b) k r ⟨p.val / 2, by omega⟩ ⟨2 * (p.val % 2) + (half l).val, by omega⟩ (sub l) := by
  have eq : ∀ j : Fin 64, xq X B b ⟨128 * k.val + r.val, by omega⟩ ⟨128 * p.val + (lane (half l) j).val, by omega⟩
      = X (B b) ⟨128 * k.val + r.val, by omega⟩ ⟨5632 + 64 * (4 * (p.val / 2) + (2 * (p.val % 2) + (half l).val)) + j.val, by omega⟩ := fun j =>
    congrArg (X (B b) _) (Fin.ext (by simp only [lane]; omega))
  have es : sk ⟨2 * p.val + (half l).val, by omega⟩ = sk ⟨4 * (p.val / 2) + (2 * (p.val % 2) + (half l).val), by omega⟩ := congrArg sk (Fin.ext (by simp only; omega))
  have eg : ∀ j : Fin 64, tile G1 (lane (half l) j) = G1 j := fun j => congrArg G1 (sub_lane _ _)
  unfold prO rowR headR scr scoreR
  simp only [eq, es, eg, keys_glue, vals_glue]

/-- The block's element is the attention's element. -/
theorem out_glue (b : Fin 2) (row : Fin 2048) (d : Fin 512) :
    outR (xq X B) (keyR (xk X B) (tile G2)) (xv X B) (tile G1) sk og b row d = specR X G1 G2 sk og (B b) row d := by
  have ea : (⟨d.val / 128 / 2, by omega⟩ : Fin 2) = ⟨d.val / 256, by omega⟩ := Fin.ext (by simp only; omega)
  have ec : (⟨2 * (d.val / 128 % 2) + d.val % 128 / 64, by omega⟩ : Fin 4) = ⟨d.val % 256 / 64, by omega⟩ := Fin.ext (by simp only; omega)
  have ej : (⟨d.val % 128 % 64, by omega⟩ : Fin 64) = ⟨d.val % 64, by omega⟩ := Fin.ext (by simp only; omega)
  have ed : (⟨128 * (d.val / 128) + d.val % 128, by omega⟩ : Fin 512) = d := Fin.ext (by simp only; omega)
  have H := head_glue X B G1 G2 sk b ⟨d.val / 128, by omega⟩ ⟨row.val / 128, by omega⟩ ⟨row.val % 128, by omega⟩
  unfold outR pairR specR
  refine (congrArg₂ (· * ·) (congrArg₂ (· * ·) (H _) (congrArg inv (funext fun j => H _))) rfl).trans ?_
  simp only [half_lane, sub_lane]
  simp only [half, sub, ea, ec, ej, ed]

end Cert.KernelIdeal.Swa
-- ==== Proof.SwaRefA.lean ====
/-
  The attention reference's stages read at an index over real inputs.
-/
module

public import proofs.«01_k».proof.Proof.SwaSpec
public import proofs.«01_k».proof.Proof.Gen.ReferenceIdeal.Run
public import Idealize.ShloMosaic.Lib.Pointwise
public import Idealize.ShloMosaic.Lib.Pipeline.ValueKit
public import Idealize.ShloMosaic.Lib.Claim

@[expose] public section

set_option maxRecDepth 16384

noncomputable section

namespace Cert.ReferenceIdeal.Swa

open Cert.ReferenceIdeal Cert.ReferenceIdeal.Gen Idealize.ShloMosaic Idealize.ShloMosaic.TcCoe Idealize.SL.Sem
open Cert.Swa

/-- The queries, one row of 64 per head. -/
def qry (x : FVec Ideal S8x2048x6400 .bf16) : FVec Ideal S8x2048x8x64 .f32 :=
  shapeCast _ (extf .f32 (extractStridedSlice S8x2048x512 ![0, 0, 5632] x slices_S8x2048x6400_S8x2048x512_0_0_5632) bitsLt_bf16_f32) shapeCasts_S8x2048x512_S8x2048x8x64

/-- The keys. -/
def key (x : FVec Ideal S8x2048x6400 .bf16) : FVec Ideal S8x2048x2x64 .f32 :=
  shapeCast _ (extf .f32 (extractStridedSlice S8x2048x128 ![0, 0, 6144] x slices_S8x2048x6400_S8x2048x128_0_0_6144) bitsLt_bf16_f32) shapeCasts_S8x2048x128_S8x2048x2x64

/-- The values. -/
def val (x : FVec Ideal S8x2048x6400 .bf16) : FVec Ideal S8x2048x2x64 .f32 :=
  shapeCast _ (extf .f32 (extractStridedSlice S8x2048x128 ![0, 0, 6272] x slices_S8x2048x6400_S8x2048x128_0_0_6272) bitsLt_bf16_f32) shapeCasts_S8x2048x128_S8x2048x2x64

/-- Normalised rows of the queries' shape. -/
def nrm8 (q : FVec Ideal S8x2048x8x64 .f32) : FVec Ideal S8x2048x8x64 .f32 :=
  mulf q (broadcastInDim S8x2048x8x64 ![0, 1, 2, 3] bcast_S8x2048x8x1_S8x2048x8x64_0_1_2_3 (Host.rsqrt (addf (Host.divf (broadcastInDim S8x2048x8x1 ![0, 1, 2] bcast_S8x2048x8_S8x2048x8x1_0_1_2 (Host.reduceAdd (mulf q q) (constant S_ .f32 0x00000000#32) reducesTo_S8x2048x8x64_S8x2048x8_d3 h_S_)) (broadcastInDim S8x2048x8x1 ![] bcast_S_S8x2048x8x1 (constant S_ .f32 0x42800000#32))) (broadcastInDim S8x2048x8x1 ![] bcast_S_S8x2048x8x1 (constant S_ .f32 0x358637BD#32)))))

/-- Normalised rows of the keys' shape. -/
def nrm2 (k : FVec Ideal S8x2048x2x64 .f32) : FVec Ideal S8x2048x2x64 .f32 :=
  mulf k (broadcastInDim S8x2048x2x64 ![0, 1, 2, 3] bcast_S8x2048x2x1_S8x2048x2x64_0_1_2_3 (Host.rsqrt (addf (Host.divf (broadcastInDim S8x2048x2x1 ![0, 1, 2] bcast_S8x2048x2_S8x2048x2x1_0_1_2 (Host.reduceAdd (mulf k k) (constant S_ .f32 0x00000000#32) reducesTo_S8x2048x2x64_S8x2048x2_d3 h_S_)) (broadcastInDim S8x2048x2x1 ![] bcast_S_S8x2048x2x1 (constant S_ .f32 0x42800000#32))) (broadcastInDim S8x2048x2x1 ![] bcast_S_S8x2048x2x1 (constant S_ .f32 0x358637BD#32)))))

/-- The queries normalised and scaled, in tiles of 128 rows. -/
def qryN (q : FVec Ideal S8x2048x8x64 .f32) (g : FVec Ideal S64 .f32) : FVec Ideal S8x16x128x2x4x64 .f32 :=
  shapeCast _ (mulf (nrm8 q) (broadcastInDim S8x2048x8x64 ![0, 1, 2, 3] bcast_S1x1x1x64_S8x2048x8x64_0_1_2_3 (broadcastInDim S1x1x1x64 ![3] bcast_S64_S1x1x1x64_3 g))) shapeCasts_S8x2048x8x64_S8x16x128x2x4x64

/-- The keys normalised and scaled. -/
def keyN (k : FVec Ideal S8x2048x2x64 .f32) (g : FVec Ideal S64 .f32) : FVec Ideal S8x2048x2x64 .f32 :=
  mulf (nrm2 k) (broadcastInDim S8x2048x2x64 ![0, 1, 2, 3] bcast_S1x1x1x64_S8x2048x2x64_0_1_2_3 (broadcastInDim S1x1x1x64 ![3] bcast_S64_S1x1x1x64_3 g))

/-- 128 rows of zeros in front, in tiles of 128 rows. -/
def pad128 (k : FVec Ideal S8x2048x2x64 .f32) : FVec Ideal S8x17x128x2x64 .f32 :=
  shapeCast _ (pad S8x2176x2x64 ![0, 128, 0, 0] ![0, 0, 0, 0] ![0, 0, 0, 0] k (sitofp .f32 (constantI S_ 32 0#32)) pads_S8x2048x2x64_S8x2176x2x64_000_12800_000_000 h_S_) shapeCasts_S8x2176x2x64_S8x17x128x2x64

/-- Each tile behind the tile before it. -/
def two (p : FVec Ideal S8x17x128x2x64 .f32) : FVec Ideal S8x16x256x2x64 .f32 :=
  concatenate S8x16x256x2x64 2 [⟨S8x16x128x2x64, (extractStridedSlice S8x16x128x2x64 ![0, 0, 0, 0, 0] p slices_S8x17x128x2x64_S8x16x128x2x64_0_0_0_0_0)⟩, ⟨S8x16x128x2x64, (extractStridedSlice S8x16x128x2x64 ![0, 1, 0, 0, 0] p slices_S8x17x128x2x64_S8x16x128x2x64_0_1_0_0_0)⟩] concatenates_S8x16x128x2x64_S8x16x128x2x64_S8x16x256x2x64_d2

/-- A sum of squares' inverse root. -/
theorem inv64 (f : Fin 64 → EReal) (X : Fin 64 → ℝ) (h : ∀ j, f j = ((X j : ℝ) : EReal)) :
    Ideal.rsqrt (Ideal.div (∑ j, f j * f j) (Ideal.ofBits .f32 0x42800000#32) + Ideal.ofBits .f32 0x358637BD#32) = ((inv X : ℝ) : EReal) := by
  have e64 : Ideal.ofBits .f32 0x42800000#32 = ((64 : ℝ) : EReal) := by
    simp [Ideal.ofBits, Ideal.ieee, -EReal.coe_mul]; norm_num
  simp only [h, ← EReal.coe_mul]
  rw [coe_sum, e64, eps_lit, Ideal.div_coe (by norm_num), ← EReal.coe_mul, ← EReal.coe_add,
    show (∑ j, X j * X j) * (1 / 64) + eps = (∑ j, X j * X j) / 64 + eps by ring, rsqrt_pos (ms_pos X)]
  rfl

theorem qry_at (x : FVec Ideal S8x2048x6400 .bf16) (b : Fin 8) (r : Fin 2048) (h : Fin 8) (j : Fin 64) :
    qry x (ix4 b r h j) = x (ix3 b r ⟨5632 + 64 * h.val + j.val, by omega⟩) := by
  pointwise [qry]
  exact congrArg (fun e => x (ix3 b r e)) (Fin.ext (by simp only; omega))

theorem key_at (x : FVec Ideal S8x2048x6400 .bf16) (b : Fin 8) (r : Fin 2048) (h : Fin 2) (j : Fin 64) :
    key x (ix4 b r h j) = x (ix3 b r ⟨6144 + 64 * h.val + j.val, by omega⟩) := by
  pointwise [key]
  exact congrArg (fun e => x (ix3 b r e)) (Fin.ext (by simp only; omega))

theorem val_at (x : FVec Ideal S8x2048x6400 .bf16) (b : Fin 8) (r : Fin 2048) (h : Fin 2) (j : Fin 64) :
    val x (ix4 b r h j) = x (ix3 b r ⟨6272 + 64 * h.val + j.val, by omega⟩) := by
  pointwise [val]
  exact congrArg (fun e => x (ix3 b r e)) (Fin.ext (by simp only; omega))

theorem nrm8_at (q : FVec Ideal S8x2048x8x64 .f32) (b : Fin 8) (r : Fin 2048) (h : Fin 8) (Q : Fin 64 → ℝ) (hQ : ∀ j, q (ix4 b r h j) = ((Q j : ℝ) : EReal)) (j : Fin 64) :
    nrm8 q (ix4 b r h j) = ((Q j * inv Q : ℝ) : EReal) := by
  pointwise [nrm8]
  rw [inv64 (fun j => q (ix4 b r h j)) Q hQ, hQ, ← EReal.coe_mul]

theorem nrm2_at (q : FVec Ideal S8x2048x2x64 .f32) (b : Fin 8) (r : Fin 2048) (h : Fin 2) (Q : Fin 64 → ℝ) (hQ : ∀ j, q (ix4 b r h j) = ((Q j : ℝ) : EReal)) (j : Fin 64) :
    nrm2 q (ix4 b r h j) = ((Q j * inv Q : ℝ) : EReal) := by
  pointwise [nrm2]
  rw [inv64 (fun j => q (ix4 b r h j)) Q hQ, hQ, ← EReal.coe_mul]

theorem qryN_at (q : FVec Ideal S8x2048x8x64 .f32) (g : FVec Ideal S64 .f32) (b : Fin 8) (n : Fin 16) (r : Fin 128) (a : Fin 2) (c : Fin 4) (j : Fin 64) :
    qryN q g (ix6 b n r a c j) = nrm8 q (ix4 b ⟨128 * n.val + r.val, by omega⟩ ⟨4 * a.val + c.val, by omega⟩ j) * g (ix1 j) := by
  pointwise [qryN]
  exact congrArg₂ (fun (r' : Fin 2048) (h' : Fin 8) => nrm8 q (ix4 b r' h' j) * g (ix1 j)) (Fin.ext (by simp only; omega)) (Fin.ext (by simp only; omega))

theorem keyN_at (k : FVec Ideal S8x2048x2x64 .f32) (g : FVec Ideal S64 .f32) (b : Fin 8) (r : Fin 2048) (h : Fin 2) (j : Fin 64) :
    keyN k g (ix4 b r h j) = nrm2 k (ix4 b r h j) * g (ix1 j) := by
  pointwise [keyN]

theorem pad128_at (k : FVec Ideal S8x2048x2x64 .f32) (b : Fin 8) (n : Fin 17) (r : Fin 128) (h : Fin 2) (j : Fin 64) :
    pad128 k (ix5 b n r h j) = if hr : 128 * n.val + r.val < 128 then 0 else k (ix4 b ⟨128 * n.val + r.val - 128, by omega⟩ h j) := by
  pointwise [pad128]
  have hn := n.isLt
  have hr := r.isLt
  by_cases hx : 128 * n.val + r.val < 128
  · rw [dif_neg (by omega), dif_pos hx]
    show (((0#32 : BitVec 32).toInt : ℝ) : EReal) = 0
    norm_num
  · rw [dif_pos (by omega), dif_neg hx]
    exact congrArg (fun r' => k (ix4 b r' h j)) (Fin.ext (by simp only; omega))

theorem two_at (p : FVec Ideal S8x17x128x2x64 .f32) (b : Fin 8) (n : Fin 16) (i : Fin 256) (h : Fin 2) (j : Fin 64) :
    two p (ix5 b n i h j) = p (ix5 b ⟨(128 * n.val + i.val) / 128, by omega⟩ ⟨(128 * n.val + i.val) % 128, by omega⟩ h j) := by
  pointwise [two]
  have hi := i.isLt
  split
  · exact congrArg₂ (fun n' r' => p (ix5 b n' r' h j)) (Fin.ext (by simp only; omega)) (Fin.ext (by simp only; omega))
  · exact congrArg₂ (fun n' r' => p (ix5 b n' r' h j)) (Fin.ext (by simp only; omega)) (Fin.ext (by simp only; omega))

end Cert.ReferenceIdeal.Swa
-- ==== Proof.SwaRefB.lean ====
/-
  The attention reference's masks, scores and softmax read at an index.
-/
module

public import proofs.«01_k».proof.Proof.SwaRefA
public import Idealize.ShloMosaic.Lib.Pointwise
public import Idealize.ShloMosaic.Lib.Pipeline.ValueKit
public import Idealize.ShloMosaic.Lib.Claim

@[expose] public section

set_option maxRecDepth 16384

noncomputable section

namespace Cert.ReferenceIdeal.Swa

open Cert.ReferenceIdeal Cert.ReferenceIdeal.Gen Idealize.ShloMosaic Idealize.ShloMosaic.TcCoe Idealize.SL.Sem
open Cert.Swa

/-- Row minus column, past the tile before. -/
def ahead : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- The window's mask. -/
def mask : IVec S16x128x256 1 :=
  andi (broadcastInDim S16x128x256 ![0, 1, 2] bcast_S1x128x256_S16x128x256_0_1_2 (broadcastInDim S1x128x256 ![1, 2] bcast_S128x256_S1x128x256_1_2 (andi (cmpi .sge ahead (broadcastInDim S128x256 ![] bcast_S_S128x256 (constantI S_ 32 0#32))) (cmpi .slt ahead (broadcastInDim S128x256 ![] bcast_S_S128x256 (constantI S_ 32 128#32)))))) (broadcastInDim S16x128x256 ![0, 1, 2] bcast_S16x1x256_S16x128x256_0_1_2 (ori (broadcastInDim S16x1x256 ![0, 1, 2] bcast_S16x1x1_S16x1x256_0_1_2 (broadcastInDim S16x1x1 ![0] bcast_S16_S16x1x1_0 (cmpi .sgt (iotaInDim S16 32 0) (broadcastInDim S16 ![] bcast_S_S16 (constantI S_ 32 0#32))))) (broadcastInDim S16x1x256 ![0, 1, 2] bcast_S1x1x256_S16x1x256_0_1_2 (broadcastInDim S1x1x256 ![1, 2] bcast_S1x256_S1x1x256_1_2 (cmpi .sge (broadcastInDim S1x256 ![1] bcast_S256_S1x256_1 (iotaInDim S256 32 0)) (broadcastInDim S1x256 ![] bcast_S_S1x256 (constantI S_ 32 128#32)))))))

/-- The masked scores. -/
def scores (m : IVec S16x128x256 1) (k : FVec Ideal S8x16x256x2x64 .f32) (q : FVec Ideal S8x16x128x2x4x64 .f32) : FVec Ideal S8x16x2x4x128x256 .f32 :=
  select (broadcastInDim S8x16x2x4x128x256 ![0, 1, 2, 3, 4, 5] bcast_S1x16x1x1x128x256_S8x16x2x4x128x256_0_1_2_3_4_5 (broadcastInDim S1x16x1x1x128x256 ![1, 4, 5] bcast_S16x128x256_S1x16x1x1x128x256_1_4_5 m)) (mulf (transpose S8x16x2x4x128x256 [0, 1, 2, 5, 4, 3] (Host.dotGeneral dot_S8x16x256x2x64_S8x16x128x2x4x64_S8x16x2x256x128x4_4_5_2_24_013_013 none k q) transposes_S8x16x2x256x128x4_S8x16x2x4x128x256_0_1_2_5_4_3) (broadcastInDim S8x16x2x4x128x256 ![] bcast_S_S8x16x2x4x128x256 (constant S_ .f32 0x3E000000#32))) (broadcastInDim S8x16x2x4x128x256 ![] bcast_S_S8x16x2x4x128x256 (id (constant S_ .f32 0xFF800000#32)))

/-- The sinks by head. -/
def sinks (s : FVec Ideal S8 .f32) : FVec Ideal S1x1x2x4x1x1 .f32 :=
  broadcastInDim S1x1x2x4x1x1 ![2, 3] bcast_S2x4_S1x1x2x4x1x1_2_3 (shapeCast _ s shapeCasts_S8_S2x4)

/-- The greatest of a row's scores and its sink. -/
def top (t : FVec Ideal S8x16x2x4x128x256 .f32) (z : FVec Ideal S1x1x2x4x1x1 .f32) : FVec Ideal S8x16x2x4x128x1 .f32 :=
  maximumf (broadcastInDim S8x16x2x4x128x1 ![0, 1, 2, 3, 4] bcast_S8x16x2x4x128_S8x16x2x4x128x1_0_1_2_3_4 (Host.reduce FloatOps.maximumf t (constant S_ .f32 0xFF800000#32) reducesTo_S8x16x2x4x128x256_S8x16x2x4x128_d5 h_S_)) (broadcastInDim S8x16x2x4x128x1 ![0, 1, 2, 3, 4, 5] bcast_S1x1x2x4x1x1_S8x16x2x4x128x1_0_1_2_3_4_5 z)

/-- The scores' exponentials below the greatest. -/
def expo (t : FVec Ideal S8x16x2x4x128x256 .f32) (u : FVec Ideal S8x16x2x4x128x1 .f32) : FVec Ideal S8x16x2x4x128x256 .f32 :=
  Host.exp (subf t (broadcastInDim S8x16x2x4x128x256 ![0, 1, 2, 3, 4, 5] bcast_S8x16x2x4x128x1_S8x16x2x4x128x256_0_1_2_3_4_5 u))

/-- The weights. -/
def prob (e : FVec Ideal S8x16x2x4x128x256 .f32) (z : FVec Ideal S1x1x2x4x1x1 .f32) (u : FVec Ideal S8x16x2x4x128x1 .f32) : FVec Ideal S8x16x2x4x128x256 .f32 :=
  Host.divf e (broadcastInDim S8x16x2x4x128x256 ![0, 1, 2, 3, 4, 5] bcast_S8x16x2x4x128x1_S8x16x2x4x128x256_0_1_2_3_4_5 (addf (broadcastInDim S8x16x2x4x128x1 ![0, 1, 2, 3, 4] bcast_S8x16x2x4x128_S8x16x2x4x128x1_0_1_2_3_4 (Host.reduceAdd e (constant S_ .f32 0x00000000#32) reducesTo_S8x16x2x4x128x256_S8x16x2x4x128_d5 h_S_)) (Host.exp (subf (broadcastInDim S8x16x2x4x128x1 ![0, 1, 2, 3, 4, 5] bcast_S1x1x2x4x1x1_S8x16x2x4x128x1_0_1_2_3_4_5 z) u))))

/-- The weighted values, one row of 64 per head. -/
def mix (v : FVec Ideal S8x16x256x2x64 .f32) (p : FVec Ideal S8x16x2x4x128x256 .f32) : FVec Ideal S8x2048x8x64 .f32 :=
  shapeCast _ (transpose S8x16x128x2x4x64 [0, 1, 5, 2, 4, 3] (Host.dotGeneral dot_S8x16x256x2x64_S8x16x2x4x128x256_S8x16x2x64x4x128_2_5_4_34_013_012 none v p) transposes_S8x16x2x64x4x128_S8x16x128x2x4x64_0_1_5_2_4_3) shapeCasts_S8x16x128x2x4x64_S8x2048x8x64

/-- The result: the heads' rows normalised, scaled and side by side. -/
def res (o : FVec Ideal S8x2048x8x64 .f32) (g : FVec Ideal S512 .f32) : FVec Ideal S8x2048x512 .bf16 :=
  truncf .bf16 (shapeCast _ (mulf (nrm8 o) (broadcastInDim S8x2048x8x64 ![0, 1, 2, 3] bcast_S1x1x8x64_S8x2048x8x64_0_1_2_3 (broadcastInDim S1x1x8x64 ![2, 3] bcast_S8x64_S1x1x8x64_2_3 (shapeCast _ g shapeCasts_S512_S8x64)))) shapeCasts_S8x2048x8x64_S8x2048x512) bitsLt_bf16_f32

/-- The indices that drop to a given one on the last of six axes. -/
theorem fiber6 {n0 n1 n2 n3 n4 n5 : ℕ} (h : (⟨6, ![n0, n1, n2, n3, n4, n5]⟩ : Shape).ReducesTo [5] ⟨5, ![n0, n1, n2, n3, n4]⟩) (b : Fin n0) (n : Fin n1) (a : Fin n2) (c : Fin n3) (r : Fin n4)
    (i : (⟨6, ![n0, n1, n2, n3, n4, n5]⟩ : Shape).Idx) : h.drop i = ix5 b n a c r ↔ ∃ k : Fin n5, ix6 b n a c r k = i := by
  constructor
  · intro e
    refine ⟨i 5, funext fun x => Fin.ext ?_⟩
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    refine funext fun x => Fin.ext ?_
    match x with
    | ⟨0, _⟩ => rfl
    | ⟨1, _⟩ => rfl
    | ⟨2, _⟩ => rfl
    | ⟨3, _⟩ => rfl
    | ⟨4, _⟩ => rfl

/-- A maximum over the last of six axes. -/
theorem fold6 {n0 n1 n2 n3 n4 n5 : ℕ} {u : Shape} (h : (⟨6, ![n0, n1, n2, n3, n4, n5]⟩ : Shape).ReducesTo [5] ⟨5, ![n0, n1, n2, n3, n4]⟩) (hu : 0 < u.numel) (init : FVec Ideal u .f32)
    (t : FVec Ideal ⟨6, ![n0, n1, n2, n3, n4, n5]⟩ .f32) (b : Fin n0) (n : Fin n1) (a : Fin n2) (c : Fin n3) (r : Fin n4) :
    Host.reduce FloatOps.maximumf t init h hu (ix5 b n a c r) = Finset.fold max (init (Shape.Idx.first hu)) (fun k => t (ix6 b n a c r k)) Finset.univ := by
  rw [Ideal.maximumf_eq_max, Host.reduce_eq_fold]
  exact Finset.fold_filter_eq_fold_of_fiber max _ (fun k : Fin n5 => ix6 b n a c r k) (fun _ _ e => congrFun e 5) (fiber6 h b n a c r) _ t

/-- A sum over the last of six axes. -/
theorem sum6 {n0 n1 n2 n3 n4 n5 : ℕ} (h : (⟨6, ![n0, n1, n2, n3, n4, n5]⟩ : Shape).ReducesTo [5] ⟨5, ![n0, n1, n2, n3, n4]⟩)
    (t : (⟨6, ![n0, n1, n2, n3, n4, n5]⟩ : Shape).Idx → EReal) (z : EReal) (b : Fin n0) (n : Fin n1) (a : Fin n2) (c : Fin n3) (r : Fin n4) :
    Ideal.hostReduceAdd h t z (ix5 b n a c r) = z + ∑ k, t (ix6 b n a c r k) :=
  congrArg (z + ·) (Finset.sum_filter_eq_sum_of_fiber _ (fun k : Fin n5 => ix6 b n a c r k) (fun _ _ e => congrFun e 5) (fiber6 h b n a c r) t)

theorem mask_at (n : Fin 16) (r : Fin 128) (i : Fin 256) : mask (ix3 n r i) = if seen n.val r.val i then 1#1 else 0#1 := by
  pointwise [mask, ahead]
  have e1 : ∀ (r : Fin 128) (i : Fin 256), IntOp.andi
        (IntOp.cmpi .sge (IntOp.subi (IntOp.addi (BitVec.ofNat 32 r.val) 128#32) (BitVec.ofNat 32 i.val)) 0#32)
        (IntOp.cmpi .slt (IntOp.subi (IntOp.addi (BitVec.ofNat 32 r.val) 128#32) (BitVec.ofNat 32 i.val)) 128#32)
      = if r.val < i.val ∧ i.val ≤ r.val + 128 then 1#1 else 0#1 := by decide +kernel
  have e2 : ∀ i : Fin 256, IntOp.cmpi .sge (BitVec.ofNat 32 i.val) 128#32 = if 128 ≤ i.val then 1#1 else 0#1 := by decide +kernel
  have e3 : ∀ k : Fin 16, IntOp.cmpi .sgt (BitVec.ofNat 32 k.val) 0#32 = if 0 < k.val then 1#1 else 0#1 := by decide +kernel
  rw [e1, e2, e3]
  by_cases h1 : r.val < i.val ∧ i.val ≤ r.val + 128 <;> by_cases h2 : 128 ≤ i.val <;> by_cases h3 : 0 < n.val <;> simp [seen, h1, h2, h3, IntOp.andi, IntOp.ori]

theorem scores_at (m : IVec S16x128x256 1) (k : FVec Ideal S8x16x256x2x64 .f32) (q : FVec Ideal S8x16x128x2x4x64 .f32) (b : Fin 8) (n : Fin 16) (a : Fin 2) (c : Fin 4) (r : Fin 128) (i : Fin 256) :
    scores m k q (ix6 b n a c r i) = if m (ix3 n r i) = 1#1 then (∑ j, k (ix5 b n i a j) * q (ix6 b n r a c j)) * Ideal.ofBits .f32 0x3E000000#32 else ⊥ := by
  pointwise [scores]
  unfold Scalar.select
  rw [← ninf_lit]
  rfl

theorem sinks_at (s : FVec Ideal S8 .f32) (a : Fin 2) (c : Fin 4) : sinks s (ix6 0 0 a c 0 0) = s (ix1 ⟨4 * a.val + c.val, by omega⟩) := by
  pointwise [sinks]
  exact congrArg (fun e => s (ix1 e)) (Fin.ext (by simp only; omega))

theorem max_at (w : FVec Ideal S8x16x2x4x128 .f32) (z : FVec Ideal S1x1x2x4x1x1 .f32) (b : Fin 8) (n : Fin 16) (a : Fin 2) (c : Fin 4) (r : Fin 128) :
    maximumf (broadcastInDim S8x16x2x4x128x1 ![0, 1, 2, 3, 4] bcast_S8x16x2x4x128_S8x16x2x4x128x1_0_1_2_3_4 w) (broadcastInDim S8x16x2x4x128x1 ![0, 1, 2, 3, 4, 5] bcast_S1x1x2x4x1x1_S8x16x2x4x128x1_0_1_2_3_4_5 z) (ix6 b n a c r 0)
      = max (w (ix5 b n a c r)) (z (ix6 0 0 a c 0 0)) := by
  pointwise

theorem top_at (t : FVec Ideal S8x16x2x4x128x256 .f32) (z : FVec Ideal S1x1x2x4x1x1 .f32) (b : Fin 8) (n : Fin 16) (a : Fin 2) (c : Fin 4) (r : Fin 128) :
    top t z (ix6 b n a c r 0) = max (Finset.fold max ⊥ (fun i => t (ix6 b n a c r i)) Finset.univ) (z (ix6 0 0 a c 0 0)) := by
  unfold top
  rw [max_at, fold6, ← ninf_lit]
  rfl

theorem expo_at (t : FVec Ideal S8x16x2x4x128x256 .f32) (u : FVec Ideal S8x16x2x4x128x1 .f32) (b : Fin 8) (n : Fin 16) (a : Fin 2) (c : Fin 4) (r : Fin 128) (i : Fin 256) :
    expo t u (ix6 b n a c r i) = Ideal.exp (t (ix6 b n a c r i) - u (ix6 b n a c r 0)) := by
  pointwise [expo]

theorem prob_at (e : FVec Ideal S8x16x2x4x128x256 .f32) (z : FVec Ideal S1x1x2x4x1x1 .f32) (u : FVec Ideal S8x16x2x4x128x1 .f32) (b : Fin 8) (n : Fin 16) (a : Fin 2) (c : Fin 4) (r : Fin 128) (i : Fin 256) :
    prob e z u (ix6 b n a c r i) = Ideal.div (e (ix6 b n a c r i)) (∑ i, e (ix6 b n a c r i) + Ideal.exp (z (ix6 0 0 a c 0 0) - u (ix6 b n a c r 0))) := by
  pointwise [prob]
  rw [sum6, zero_add]

theorem mix_at (v : FVec Ideal S8x16x256x2x64 .f32) (p : FVec Ideal S8x16x2x4x128x256 .f32) (b : Fin 8) (n : Fin 16) (r : Fin 128) (a : Fin 2) (c : Fin 4) (j : Fin 64) :
    mix v p (ix4 b ⟨128 * n.val + r.val, by omega⟩ ⟨4 * a.val + c.val, by omega⟩ j) = ∑ i, v (ix5 b n i a j) * p (ix6 b n a c r i) := by
  pointwise [mix]

theorem res_at (o : FVec Ideal S8x2048x8x64 .f32) (g : FVec Ideal S512 .f32) (b : Fin 8) (r : Fin 2048) (d : Fin 512) :
    res o g (ix3 b r d) = nrm8 o (ix4 b r ⟨d.val / 64, by omega⟩ ⟨d.val % 64, by omega⟩) * g (ix1 d) := by
  pointwise [res]

end Cert.ReferenceIdeal.Swa
-- ==== Proof.SwaRefC.lean ====
/-
  The attention reference over real inputs is the attention over the reals.
-/
module

public import proofs.«01_k».proof.Proof.SwaRefB
public import Idealize.ShloMosaic.Lib.Pointwise
public import Idealize.ShloMosaic.Lib.Pipeline.ValueKit
public import Idealize.ShloMosaic.Lib.Claim

@[expose] public section

set_option maxRecDepth 16384

noncomputable section

namespace Cert.ReferenceIdeal.Swa

open Cert.ReferenceIdeal Cert.ReferenceIdeal.Gen Idealize.ShloMosaic Idealize.ShloMosaic.TcCoe Idealize.SL.Sem
open Cert.Swa

/-- Tiles behind the tile before, over real rows. -/
theorem two_real (k : FVec Ideal S8x2048x2x64 .f32) (b : Fin 8) (n : Fin 16) (i : Fin 256) (a : Fin 2) (j : Fin 64) (K : Fin 2048 → Fin 64 → ℝ)
    (h : ∀ r j, k (ix4 b r a j) = ((K r j : ℝ) : EReal)) : two (pad128 k) (ix5 b n i a j) = ((padR K ⟨128 * n.val + i.val, by omega⟩ j : ℝ) : EReal) := by
  rw [two_at, pad128_at]
  unfold padR
  have hn := n.isLt
  have hi := i.isLt
  by_cases hx : 128 * n.val + i.val < 128
  · rw [dif_pos (by simp only; omega), dif_pos hx, EReal.coe_zero]
  · rw [dif_neg (by simp only; omega), dif_neg hx, h]
    exact congrArg (fun r => ((K r j : ℝ) : EReal)) (Fin.ext (by simp only; omega))

section
variable (x : FVec Ideal S8x2048x6400 .bf16) (g1 g2 : FVec Ideal S64 .f32) (s : FVec Ideal S8 .f32) (og : FVec Ideal S512 .f32)
  (X : Fin 8 → Fin 2048 → Fin 6400 → ℝ) (G1 G2 : Fin 64 → ℝ) (S : Fin 8 → ℝ) (OG : Fin 512 → ℝ)
  (hx : ∀ b r e, x (ix3 b r e) = ((X b r e : ℝ) : EReal)) (h1 : ∀ j, g1 (ix1 j) = ((G1 j : ℝ) : EReal)) (h2 : ∀ j, g2 (ix1 j) = ((G2 j : ℝ) : EReal))
  (hs : ∀ h, s (ix1 h) = ((S h : ℝ) : EReal)) (ho : ∀ d, og (ix1 d) = ((OG d : ℝ) : EReal))

include hx h2 in
theorem keys_real (b : Fin 8) (n : Fin 16) (i : Fin 256) (a : Fin 2) (j : Fin 64) :
    two (pad128 (keyN (key x) g2)) (ix5 b n i a j) = ((padR (kR X G2 b a) ⟨128 * n.val + i.val, by omega⟩ j : ℝ) : EReal) :=
  two_real _ b n i a j _ fun r j => by
    rw [keyN_at, nrm2_at (key x) b r a (fun j => X b r ⟨6144 + 64 * a.val + j.val, by omega⟩) (fun j => (key_at x b r a j).trans (hx _ _ _)), h2, ← EReal.coe_mul]
    rfl

include hx in
theorem vals_real (b : Fin 8) (n : Fin 16) (i : Fin 256) (a : Fin 2) (j : Fin 64) :
    two (pad128 (val x)) (ix5 b n i a j) = ((padR (vR X b a) ⟨128 * n.val + i.val, by omega⟩ j : ℝ) : EReal) :=
  two_real _ b n i a j _ fun r j => (val_at x b r a j).trans (hx _ _ _)

include hx h1 in
theorem qrys_real (b : Fin 8) (n : Fin 16) (r : Fin 128) (a : Fin 2) (c : Fin 4) (j : Fin 64) :
    qryN (qry x) g1 (ix6 b n r a c j) = ((X b ⟨128 * n.val + r.val, by omega⟩ ⟨5632 + 64 * (4 * a.val + c.val) + j.val, by omega⟩
      * inv (fun j => X b ⟨128 * n.val + r.val, by omega⟩ ⟨5632 + 64 * (4 * a.val + c.val) + j.val, by omega⟩) * G1 j : ℝ) : EReal) := by
  rw [qryN_at, nrm8_at (qry x) b _ _ (fun j => X b ⟨128 * n.val + r.val, by omega⟩ ⟨5632 + 64 * (4 * a.val + c.val) + j.val, by omega⟩)
    (fun j => (qry_at x b _ _ j).trans (hx _ _ _)), h1, ← EReal.coe_mul]

include hx h1 h2 in
theorem scores_real (b : Fin 8) (n : Fin 16) (a : Fin 2) (c : Fin 4) (r : Fin 128) (i : Fin 256) :
    scores mask (two (pad128 (keyN (key x) g2))) (qryN (qry x) g1) (ix6 b n a c r i)
      = if seen n.val r.val i then ((scoreR (fun j => X b ⟨128 * n.val + r.val, by omega⟩ ⟨5632 + 64 * (4 * a.val + c.val) + j.val, by omega⟩) G1
          (fun i j => padR (kR X G2 b a) ⟨128 * n.val + i.val, by omega⟩ j) i : ℝ) : EReal) else ⊥ := by
  have e8 : Ideal.ofBits .f32 0x3E000000#32 = ((1 / 8 : ℝ) : EReal) := by
    simp [Ideal.ofBits, Ideal.ieee, -EReal.coe_mul]; norm_num
  rw [scores_at, mask_at]
  by_cases h : seen n.val r.val i
  · rw [if_pos h, if_pos rfl, if_pos h]
    simp only [keys_real x g2 X G2 hx h2, qrys_real x g1 X G1 hx h1, ← EReal.coe_mul]
    rw [coe_sum, e8, ← EReal.coe_mul]
    unfold scoreR
    rw [mul_one_div]
    exact congrArg (fun z : ℝ => ((z / 8 : ℝ) : EReal)) (Finset.sum_congr rfl fun j _ => mul_comm _ _)
  · rw [if_neg h, if_neg (by decide), if_neg h]

/-- A row's softmax with a sink against a column of values. -/
theorem mix_real (t : FVec Ideal S8x16x2x4x128x256 .f32) (z : FVec Ideal S1x1x2x4x1x1 .f32) (v : FVec Ideal S8x16x256x2x64 .f32) (b : Fin 8) (n : Fin 16) (r : Fin 128) (a : Fin 2) (c : Fin 4) (j : Fin 64)
    (ok : Fin 256 → Prop) [DecidablePred ok] (T V : Fin 256 → ℝ) (k : ℝ) (ht : ∀ i, t (ix6 b n a c r i) = if ok i then ((T i : ℝ) : EReal) else ⊥)
    (hz : z (ix6 0 0 a c 0 0) = ((k : ℝ) : EReal)) (hv : ∀ i, v (ix5 b n i a j) = ((V i : ℝ) : EReal)) :
    mix v (prob (expo t (top t z)) z (top t z)) (ix4 b ⟨128 * n.val + r.val, by omega⟩ ⟨4 * a.val + c.val, by omega⟩ j) = ((att ok T V k : ℝ) : EReal) := by
  obtain ⟨M, hM⟩ := max_real (fun i => t (ix6 b n a c r i)) (fun i => by rw [ht]; split; exacts [EReal.coe_ne_top _, bot_ne_top]) k
  have eT : top t z (ix6 b n a c r 0) = ((M : ℝ) : EReal) := by rw [top_at, hz, hM]
  have eE : ∀ i, expo t (top t z) (ix6 b n a c r i) = (((if ok i then Real.exp (T i - M) else 0) : ℝ) : EReal) := fun i => by
    rw [expo_at, ht, eT, exp_masked]
  have hd := den_pos (fun i => if ok i then Real.exp (T i - M) else 0) (fun i => by split <;> positivity) (k - M)
  have hk : Ideal.exp (((k : ℝ) : EReal) - ((M : ℝ) : EReal)) = ((Real.exp (k - M) : ℝ) : EReal) := by
    have := exp_masked True k M
    simpa only [if_true] using this
  have eP : ∀ i, prob (expo t (top t z)) z (top t z) (ix6 b n a c r i)
      = (((if ok i then Real.exp (T i - M) else 0) * (1 / (∑ i, (if ok i then Real.exp (T i - M) else 0) + Real.exp (k - M))) : ℝ) : EReal) := fun i => by
    rw [prob_at, hz, eT, hk]
    simp only [eE]
    rw [coe_sum, ← EReal.coe_add, Ideal.div_coe hd.ne', ← EReal.coe_mul]
  rw [mix_at]
  simp only [hv, eP, ← EReal.coe_mul]
  rw [coe_sum, ← att_shift ok T V k M, Finset.sum_div]
  exact congrArg (fun z : ℝ => ((z : ℝ) : EReal)) (Finset.sum_congr rfl fun i _ => by ring)

/-- The result as one term of the arguments. -/
def out : FVec Ideal S8x2048x512 .bf16 :=
  res (mix (two (pad128 (val x))) (prob (expo (scores mask (two (pad128 (keyN (key x) g2))) (qryN (qry x) g1)) (top (scores mask (two (pad128 (keyN (key x) g2))) (qryN (qry x) g1)) (sinks s))) (sinks s)
    (top (scores mask (two (pad128 (keyN (key x) g2))) (qryN (qry x) g1)) (sinks s)))) og

include hx h1 h2 hs ho in
/-- The result at an index. -/
theorem out_real (b : Fin 8) (row : Fin 2048) (d : Fin 512) : out x g1 g2 s og (ix3 b row d) = ((specR X G1 G2 S OG b row d : ℝ) : EReal) := by
  have hO : ∀ (n : Fin 16) (r : Fin 128) (a : Fin 2) (c : Fin 4) (j : Fin 64), _ = ((rowR X G1 G2 S b n r a c j : ℝ) : EReal) := fun n r a c j =>
    mix_real (scores mask (two (pad128 (keyN (key x) g2))) (qryN (qry x) g1)) (sinks s) (two (pad128 (val x))) b n r a c j (seen n.val r.val) _ _ _
      (scores_real x g1 g2 X G1 G2 hx h1 h2 b n a c r) ((sinks_at s a c).trans (hs _)) (fun i => vals_real x X hx b n i a j)
  have er : row = ⟨128 * (⟨row.val / 128, by omega⟩ : Fin 16).val + (⟨row.val % 128, by omega⟩ : Fin 128).val, by simp only; omega⟩ := Fin.ext (by simp only; omega)
  have eh : (⟨d.val / 64, by omega⟩ : Fin 8) = ⟨4 * (⟨d.val / 256, by omega⟩ : Fin 2).val + (⟨d.val % 256 / 64, by omega⟩ : Fin 4).val, by simp only; omega⟩ := Fin.ext (by simp only; omega)
  unfold out
  rw [res_at, nrm8_at _ b row ⟨d.val / 64, by omega⟩ (rowR X G1 G2 S b ⟨row.val / 128, by omega⟩ ⟨row.val % 128, by omega⟩ ⟨d.val / 256, by omega⟩ ⟨d.val % 256 / 64, by omega⟩)
    (fun j => (congrArg₂ (fun r h => mix _ _ (ix4 b r h j)) er eh).trans (hO _ _ _ _ j)), ho, ← EReal.coe_mul]
  rfl

end

end Cert.ReferenceIdeal.Swa
-- ==== Proof.SwaValue.lean ====
/-
  The attention kernel computes the reference: the windows' blocks, the finite inputs, the whole output array.
-/
module

public import proofs.«01_k».proof.Proof.SwaGlue
public import proofs.«01_k».proof.Proof.SwaRefC
public import proofs.«01_k».proof.Proof.Gen.KernelIdeal.Value
public import proofs.«01_k».proof.Defs

@[expose] public section

set_option maxRecDepth 16384

noncomputable section

namespace Cert.KernelIdeal.Swa

open Cert.KernelIdeal Cert.KernelIdeal.Gen Idealize.ShloMosaic Idealize.ShloMosaic.TcCoe Idealize.SL.Sem
open Cert.Swa

/-- Where each grid point's blocks lie. -/
theorem idx : ∀ t : Fin cfg0.N, win0_0.index t = ![t.val, 0, 11] ∧ win0_1.index t = ![t.val, 0, 48] ∧ win0_2.index t = ![t.val, 0, 49]
    ∧ win0_3.index t = ![0, 0] ∧ win0_4.index t = ![0, 0] ∧ win0_5.index t = ![0] ∧ win0_6.index t = ![0, 0] ∧ win0_7.index t = ![t.val, 0, 0] :=
  (by decide +kernel : ∀ t : Fin grid0.N, _)

variable (m : (ℓ : Loc nD τ sig) → Buf (Elt Ideal) ℓ)

/-- The staged queries are the argument's columns from 5632 on. -/
theorem row0 (c : Dev nD) (t : Fin cfg0.N) (b : Fin 2) (r : Fin 2048) (d : Fin 512) (B : Fin 8) (hB : B.val = t.val * 2 + b.val) :
    (show FVec Ideal S2x2048x512 .bf16 from X0_0 m c t) (ix3 b r d)
      = (show FVec Ideal S8x2048x6400 .bf16 from m ((c : Thread nD τ).loc main_arg0)) (ix3 B r (⟨5632 + d.val, by omega⟩ : Fin 6400)) := by
  refine Eq.trans (b := (show FVec Ideal S8x2048x6400 .bf16 from V m c main_arg0) (ix3 B r (⟨5632 + d.val, by omega⟩ : Fin 6400))) ?_ (congrFun (V_main_arg0 m c) _)
  show X0_0 m c t (ix3 b r d) = _
  unfold X0_0 Pipeline.Window.fill
  rw [dif_pos (moved0_0 t _)]
  blk_ext [iblk, idx t]

/-- The staged keys are the argument's columns from 6144 on. -/
theorem row1 (c : Dev nD) (t : Fin cfg0.N) (b : Fin 2) (r : Fin 2048) (d : Fin 128) (B : Fin 8) (hB : B.val = t.val * 2 + b.val) :
    (show FVec Ideal S2x2048x128 .bf16 from iblk m c 1 t) (ix3 b r d)
      = (show FVec Ideal S8x2048x6400 .bf16 from m ((c : Thread nD τ).loc main_arg0)) (ix3 B r (⟨6144 + d.val, by omega⟩ : Fin 6400)) := by
  refine Eq.trans (b := (show FVec Ideal S8x2048x6400 .bf16 from V m c main_arg0) (ix3 B r (⟨6144 + d.val, by omega⟩ : Fin 6400))) ?_ (congrFun (V_main_arg0 m c) _)
  blk_ext [iblk, idx t]

/-- The staged values are the argument's columns from 6272 on. -/
theorem row2 (c : Dev nD) (t : Fin cfg0.N) (b : Fin 2) (r : Fin 2048) (d : Fin 128) (B : Fin 8) (hB : B.val = t.val * 2 + b.val) :
    (show FVec Ideal S2x2048x128 .bf16 from iblk m c 2 t) (ix3 b r d)
      = (show FVec Ideal S8x2048x6400 .bf16 from m ((c : Thread nD τ).loc main_arg0)) (ix3 B r (⟨6272 + d.val, by omega⟩ : Fin 6400)) := by
  refine Eq.trans (b := (show FVec Ideal S8x2048x6400 .bf16 from V m c main_arg0) (ix3 B r (⟨6272 + d.val, by omega⟩ : Fin 6400))) ?_ (congrFun (V_main_arg0 m c) _)
  blk_ext [iblk, idx t]

/-- The staged query gain is the argument, once per half. -/
theorem gain3 (c : Dev nD) (t : Fin cfg0.N) (l : Fin 128) :
    (show FVec Ideal S1x128 .f32 from iblk m c 3 t) (ix2 0 l) = (show FVec Ideal S64 .f32 from m ((c : Thread nD τ).loc main_arg1)) (ix1 (sub l)) := by
  refine Eq.trans (b := (show FVec Ideal S1x128 .f32 from V m c main_v3) (ix2 0 l)) ?_ ?_
  · blk_ext [iblk, idx t]
  · entry_read
    pointwise
    rfl

/-- The staged key gain is the argument, once per half. -/
theorem gain4 (c : Dev nD) (t : Fin cfg0.N) (l : Fin 128) :
    (show FVec Ideal S1x128 .f32 from iblk m c 4 t) (ix2 0 l) = (show FVec Ideal S64 .f32 from m ((c : Thread nD τ).loc main_arg2)) (ix1 (sub l)) := by
  refine Eq.trans (b := (show FVec Ideal S1x128 .f32 from V m c main_v7) (ix2 0 l)) ?_ ?_
  · blk_ext [iblk, idx t]
  · entry_read
    pointwise
    rfl

/-- The staged sinks are the argument. -/
theorem sink5 (c : Dev nD) (t : Fin cfg0.N) (j : Fin 8) :
    (show FVec Ideal S8 .f32 from iblk m c 5 t) (ix1 j) = (show FVec Ideal S8 .f32 from m ((c : Thread nD τ).loc main_arg3)) (ix1 j) := by
  refine Eq.trans (b := (show FVec Ideal S8 .f32 from V m c main_arg3) (ix1 j)) ?_ (congrFun (V_main_arg3 m c) _)
  blk_ext [iblk, idx t]

/-- The staged output gain is the argument. -/
theorem gain6 (c : Dev nD) (t : Fin cfg0.N) (d : Fin 512) :
    (show FVec Ideal S1x512 .f32 from iblk m c 6 t) (ix2 0 d) = (show FVec Ideal S512 .f32 from m ((c : Thread nD τ).loc main_arg4)) (ix1 d) := by
  refine Eq.trans (b := (show FVec Ideal S1x512 .f32 from V m c main_v8) (ix2 0 d)) ?_ ?_
  · blk_ext [iblk, idx t]
  · entry_read
    pointwise

/-- A number whose absolute value is below infinity is a real. -/
theorem real_of_lt (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => rw [EReal.toReal_coe]

variable [Cert.Pre_finite_inputs.Facts]

/-- Every input is real. -/
theorem finite (hpre : Cert.Pre_KernelIdeal_finite_inputs m) (c : Dev nD) :
    ∃ (X : Fin 8 → Fin 2048 → Fin 6400 → ℝ) (G1 G2 : Fin 64 → ℝ) (S : Fin 8 → ℝ) (OG : Fin 512 → ℝ),
      (∀ b r e, (show FVec Ideal S8x2048x6400 .bf16 from m ((c : Thread nD τ).loc main_arg0)) (ix3 b r e) = ((X b r e : ℝ) : EReal))
      ∧ (∀ j, (show FVec Ideal S64 .f32 from m ((c : Thread nD τ).loc main_arg1)) (ix1 j) = ((G1 j : ℝ) : EReal))
      ∧ (∀ j, (show FVec Ideal S64 .f32 from m ((c : Thread nD τ).loc main_arg2)) (ix1 j) = ((G2 j : ℝ) : EReal))
      ∧ (∀ j, (show FVec Ideal S8 .f32 from m ((c : Thread nD τ).loc main_arg3)) (ix1 j) = ((S j : ℝ) : EReal))
      ∧ (∀ j, (show FVec Ideal S512 .f32 from m ((c : Thread nD τ).loc main_arg4)) (ix1 j) = ((OG j : ℝ) : EReal)) := by
  obtain ⟨h0, h1, h2, h3, h4⟩ := hpre c
  refine ⟨_, _, _, _, _, fun b r e => real_of_lt _ ?_, fun j => real_of_lt _ ?_, fun j => real_of_lt _ ?_, fun j => real_of_lt _ ?_, fun j => real_of_lt _ ?_⟩
  · exact congrFun h0 (ix3 b r e)
  · exact congrFun h1 (ix1 j)
  · exact congrFun h2 (ix1 j)
  · exact congrFun h3 (ix1 j)
  · exact congrFun h4 (ix1 j)

/-- The output array after the run is the reference's result. -/
theorem final (hpre : Cert.Pre_KernelIdeal_finite_inputs m) (c : Dev nD) : (dats m 0 c).arrAt 7 (cfgs 0).N
    = Cert.ReferenceIdeal.Swa.out (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨X, G1, G2, S, OG, f0, f1, f2, f3, f4⟩ := finite m hpre c
  refine (dats m 0 c).arrAt_eq_of_covers 7 _ (by decide +kernel) fun t _ y => ?_
  blk_simp
  rw [after0_7]
  obtain ⟨b, r, d, rfl⟩ : ∃ (b : Fin 2) (r : Fin 2048) (d : Fin 512), y = ix3 b r d := ⟨y 0, y 1, y 2, eq_ix3 y⟩
  have ht : t.val < 4 := lt_of_lt_of_eq t.isLt N_0
  have he : ((cfg0.win 7).blk t).view.emb (ix3 b r d) = ix3 (⟨t.val * 2 + b.val, by omega⟩ : Fin 8) r d := by blk_ext [idx t]
  refine Eq.trans ?_ ((congrArg _ he).trans (Cert.ReferenceIdeal.Swa.out_real _ _ _ _ _ X G1 G2 S OG f0 f1 f2 f3 f4 _ r d)).symm
  have hB : ∀ b : Fin 2, t.val * 2 + b.val < 8 := fun b => by omega
  refine Eq.trans (out_at c (grid0.coords t) _ (hs0_0 t) _ (hs0_1 t) _ (hs0_2 t) _ (hs0_3 t) _ (hs0_4 t) _ (hs0_5 t) _ (hs0_6 t) _ (hs0_7 t) _ (Memref.isWhole_whole _) _ (Memref.isWhole_whole _) _ _ _ _ _ _ _
    (xq X (fun b => ⟨t.val * 2 + b.val, hB b⟩)) (xk X (fun b => ⟨t.val * 2 + b.val, hB b⟩)) (xv X (fun b => ⟨t.val * 2 + b.val, hB b⟩)) (tile G1) (tile G2) S OG
    (fun b r d => (row0 m c t b r d ⟨t.val * 2 + b.val, hB b⟩ rfl).trans (f0 _ _ _))
    (fun b r d => (row1 m c t b r d ⟨t.val * 2 + b.val, hB b⟩ rfl).trans (f0 _ _ _))
    (fun b r d => (row2 m c t b r d ⟨t.val * 2 + b.val, hB b⟩ rfl).trans (f0 _ _ _))
    (fun l => (gain3 m c t l).trans (f1 _)) (fun l => (gain4 m c t l).trans (f2 _)) (fun j => (sink5 m c t j).trans (f3 _)) (fun d => (gain6 m c t d).trans (f4 _)) b r d) ?_
  exact congrArg _ (out_glue X _ G1 G2 S OG b r d)

end Cert.KernelIdeal.Swa
-- ==== Proof.RegroupValue.lean ====
/-
  The regrouping of the input weight's columns: every block the kernel writes holds the reference's rows.
-/
module

public import proofs.«01_k».proof.Proof.Gen.RegroupIdeal.Value
public import proofs.«01_k».proof.Proof.Gen.RegroupRefIdeal.Run
public import Idealize.ShloMosaic.Lib.Pointwise
public import Idealize.ShloMosaic.Lib.Pipeline.ValueKit
public import Idealize.ShloMosaic.Lib.Claim

@[expose] public section

set_option maxRecDepth 16384

noncomputable section

namespace Cert.RegroupRefIdeal.Spec

open Cert.RegroupRefIdeal Cert.RegroupRefIdeal.Gen Idealize.ShloMosaic Idealize.ShloMosaic.TcCoe Idealize.SL.Sem

/-- The column that row `e` of the result is. -/
def src (e : Fin 6400) : Fin 6416 := if h : e.val < 4096 then ⟨2304 + e.val, by omega⟩ else ⟨e.val - 4096, by omega⟩

/-- The reference's result. -/
def OUT (x : FVec Ideal S2x2048x6416 .f32) : FVec Ideal S6400x2048 .bf16 :=
  truncf .bf16 (transpose S6400x2048 [1, 0] (concatenate S2048x6400 1 [⟨S2048x4096, (extractStridedSlice S2048x4096 ![0, 2304] (shapeCast _ (extractStridedSlice S1x2048x6416 ![0, 0, 0] x slices_S2x2048x6416_S1x2048x6416_0_0_0) shapeCasts_S1x2048x6416_S2048x6416) slices_S2048x6416_S2048x4096_0_2304)⟩, ⟨S2048x2304, (extractStridedSlice S2048x2304 ![0, 0] (shapeCast _ (extractStridedSlice S1x2048x6416 ![0, 0, 0] x slices_S2x2048x6416_S1x2048x6416_0_0_0) shapeCasts_S1x2048x6416_S2048x6416) slices_S2048x6416_S2048x2304_0_0)⟩] concatenates_S2048x4096_S2048x2304_S2048x6400_d1) transposes_S2048x6400_S6400x2048_1_0) bitsLt_bf16_f32

theorem OUT_at (x : FVec Ideal S2x2048x6416 .f32) (e : Fin 6400) (l : Fin 2048) : OUT x (ix2 e l) = x (ix3 0 l (src e)) := by
  unfold src
  by_cases h : e.val < 4096
  · rw [dif_pos h]
    pointwise [OUT, h]
  · rw [dif_neg h]
    pointwise [OUT, h]

end Cert.RegroupRefIdeal.Spec

namespace Cert.RegroupIdeal.Acc

open Cert.RegroupIdeal Cert.RegroupIdeal.Gen Idealize.ShloMosaic Idealize.ShloMosaic.TcCoe Idealize.SL.Sem
open Cert.RegroupRefIdeal.Spec

theorem out_at (c : Dev nD) (i : grid0.Coords) (arg1 : Memref sig .tc .vmem S1x256x2048 .f32) (harg1 : arg1.IsWhole) (arg2 : Memref sig .tc .vmem S256x2048 .bf16) (harg2 : arg2.IsWhole)
    (x0 : Vec Ideal S1x256x2048 .f32) (r : Fin 256) (l : Fin 2048) : out0_A_1 (F := Ideal) c i arg1 harg1 arg2 harg2 x0 (ix2 r l) = x0 (ix3 0 r l) := by
  unfold out0_A_1
  refine View.read_writes_apply_of_pieces VO0_1 _ (fun y : S256x2048.Idx => x0 (ix3 0 (y 0) (y 1))) _ ?_ (ix2 r l) (cover0_A_1 c i arg1 harg1 arg2 harg2 x0 (ix2 r l))
  unfold kernelRun0_A
  simp only [List.forall_mem_cons, List.not_mem_nil, false_implies, implies_true, and_true]
  intro x
  obtain ⟨r, l, rfl⟩ : ∃ (r : Fin 256) (l : Fin 2048), x = ix2 r l := ⟨x 0, x 1, eq_ix2 x⟩
  have e : (Rect.unit (s := S256x2048) ![0, 0] S256x2048.size inb_S256x2048_S256x2048_0_0).emb (ix2 r l) = ix2 r l := by blk_ext []
  have p : ∀ v : FVec Ideal S1x256x2048 .f32, k0_pay1 (F := Ideal) v (ix2 r l) = v (ix3 0 r l) := fun v => by pointwise [k0_pay1]
  refine (p _).trans (Eq.trans ?_ (congrArg (fun y : S256x2048.Idx => x0 (ix3 0 (y 0) (y 1))) e).symm)
  refine (congrFun (harg1.read_unread x0) (Rect.emb _ _)).trans (congrArg x0 ?_)
  blk_ext []

/-- Where each grid point's blocks lie. -/
theorem idx : ∀ t : Fin cfg0.N, win0_0.index t = ![0, if t.val < 16 then t.val + 9 else t.val - 16, 0] ∧ win0_1.index t = ![t.val, 0] :=
  (by decide +kernel : ∀ t : Fin grid0.N, _)

variable (m : (ℓ : Loc nD τ sig) → Buf (Elt Ideal) ℓ)

/-- A staged row of the transposed weight is the argument's column. -/
theorem row (c : Dev nD) (t : Fin cfg0.N) (r : Fin 256) (l : Fin 2048) (e : Fin 6400) (he : e.val = t.val * 256 + r.val) :
    (show FVec Ideal S1x256x2048 .f32 from X0_0 m c t) (ix3 0 r l) = (show FVec Ideal S2x2048x6416 .f32 from m ((c : Thread nD τ).loc main_arg0)) (ix3 0 l (src e)) := by
  refine Eq.trans (b := (show FVec Ideal S2x6416x2048 .f32 from V m c main_v0) (ix3 0 (src e) l)) ?_ ?_
  · unfold X0_0 Pipeline.Window.fill
    refine (dif_pos (moved0_0 t _)).trans ?_
    unfold src
    by_cases h : t.val < 16
    · have h' : e.val < 4096 := by omega
      rw [dif_pos h']
      blk_ext [iblk, idx t]
      rw [if_pos h]
      omega
    · have h' : ¬ e.val < 4096 := by omega
      rw [dif_neg h']
      blk_ext [iblk, idx t]
      rw [if_neg h]
      omega
  · entry_read
    pointwise

/-- The output array after the run is the reference's result. -/
theorem final (c : Dev nD) : (dats m 0 c).arrAt 1 (cfgs 0).N = OUT (m ((c : Thread nD τ).loc main_arg0)) := by
  refine (dats m 0 c).arrAt_eq_of_covers 1 _ (by decide +kernel) fun t _ y => ?_
  blk_simp
  rw [after0_1]
  obtain ⟨r, l, rfl⟩ : ∃ (r : Fin 256) (l : Fin 2048), y = ix2 r l := ⟨y 0, y 1, eq_ix2 y⟩
  have ht : t.val < 25 := lt_of_lt_of_eq t.isLt N_0
  have he : ((cfg0.win 1).blk t).view.emb (ix2 r l) = ix2 (⟨t.val * 256 + r.val, by omega⟩ : Fin 6400) l := by blk_ext [idx t]
  refine Eq.trans (out_at c (grid0.coords t) _ (hs0_0 t) _ (hs0_1 t) _ r l) ?_
  exact (row m c t r l _ rfl).trans ((congrArg _ he).trans (OUT_at _ _ l)).symm

end Cert.RegroupIdeal.Acc
-- ==== Proof.TailFirst.lean ====
/-
  The joined program's first half: the output projection, from whatever the arrays hold when it is entered, leaves the new
  residual and the normalised residual that the reference's terms name.
-/
module

public import proofs.«01_k».proof.Proof.OutProjValue
public import proofs.«01_k».proof.Proof.Gen.TailIdeal.Frame
public import Idealize.ShloMosaic.Lib.Pointwise
public import Idealize.ShloMosaic.Lib.Pipeline.ValueKit

@[expose] public section

set_option maxRecDepth 16384

noncomputable section

namespace Cert.TailIdeal.First

open Cert.TailIdeal Cert.TailIdeal.Gen Idealize.ShloMosaic Idealize.ShloMosaic.TcCoe Idealize.SL.Sem
open Idealize.ShloMosaic.Pipeline (Dat)
open Cert.InProjRefIdeal.Spec (nrm)
open Cert.OutProjRefIdeal.Spec (resid RES HN RES_at HN_at)

/-- The block of the new residual at an index. -/
theorem res_at (x0 : FVec Ideal S512x2048 .f32) (x1 x2 : FVec Ideal S512x512 .bf16) (x3 : FVec Ideal S512x1024 .bf16) (x4 : FVec Ideal S2048x2048 .bf16) (x5 : FVec Ideal S1x2048 .f32) (r : Fin 512) (d : Fin 2048) :
    out0_6 (F := Ideal) x0 x1 x2 x3 x4 x5 (ix2 r d)
      = resid (x0 (ix2 r d)) (fun k => x1 (ix2 r k)) (fun k => x2 (ix2 r k)) (fun k => x3 (ix2 r k)) (fun k e => x4 (ix2 k e)) d := by
  frame_out
  pointwise [k0_pay1, resid]

/-- The block of the normalised residual at an index. -/
theorem hn_at (x0 : FVec Ideal S512x2048 .f32) (x1 x2 : FVec Ideal S512x512 .bf16) (x3 : FVec Ideal S512x1024 .bf16) (x4 : FVec Ideal S2048x2048 .bf16) (x5 : FVec Ideal S1x2048 .f32) (r : Fin 512) (d : Fin 2048) :
    out0_7 (F := Ideal) x0 x1 x2 x3 x4 x5 (ix2 r d)
      = nrm (fun d => resid (x0 (ix2 r d)) (fun k => x1 (ix2 r k)) (fun k => x2 (ix2 r k)) (fun k => x3 (ix2 r k)) (fun k e => x4 (ix2 k e)) d)
          (fun k => x5 (ix2 0 k)) d := by
  frame_out
  pointwise [k0_pay1, k0_pay2, nrm, resid]

/-- The windows' block positions. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] ∧ win0_7.index t = ![t.val, 0] :=
  (by decide +kernel : ∀ t : Fin grid0.N, _)

variable (V : (c : Dev nD) → (b : Ref sig .tc) → Buf (Elt Ideal) ((c : Thread nD τ).loc b))

/-- A staged row of operand 0 is the array's row. -/
theorem row0 (c : Dev nD) (t : Fin cfg0.N) (r : Fin 512) (k : Fin 2048) (a : Fin 16384) (ha : a.val = t.val * 512 + r.val) :
    (show FVec Ideal S512x2048 .f32 from iblk0 V c 0 t) (ix2 r k) = (show FVec Ideal S16384x2048 .f32 from V c main_arg0) (ix2 a k) := by
  blk_ext [iblk0, idx t]

/-- A staged row of operand 1 is the array's row. -/
theorem row1 (c : Dev nD) (t : Fin cfg0.N) (r : Fin 512) (k : Fin 512) (a : Fin 16384) (ha : a.val = t.val * 512 + r.val) :
    (show FVec Ideal S512x512 .bf16 from iblk0 V c 1 t) (ix2 r k) = (show FVec Ideal S16384x512 .bf16 from V c main_arg1) (ix2 a k) := by
  blk_ext [iblk0, idx t]

/-- A staged row of operand 2 is the array's row. -/
theorem row2 (c : Dev nD) (t : Fin cfg0.N) (r : Fin 512) (k : Fin 512) (a : Fin 16384) (ha : a.val = t.val * 512 + r.val) :
    (show FVec Ideal S512x512 .bf16 from iblk0 V c 2 t) (ix2 r k) = (show FVec Ideal S16384x512 .bf16 from V c main_arg2) (ix2 a k) := by
  blk_ext [iblk0, idx t]

/-- A staged row of operand 3 is the array's row. -/
theorem row3 (c : Dev nD) (t : Fin cfg0.N) (r : Fin 512) (k : Fin 1024) (a : Fin 16384) (ha : a.val = t.val * 512 + r.val) :
    (show FVec Ideal S512x1024 .bf16 from iblk0 V c 3 t) (ix2 r k) = (show FVec Ideal S16384x1024 .bf16 from V c main_arg3) (ix2 a k) := by
  blk_ext [iblk0, idx t]

/-- The staged weight is the array. -/
theorem weight (c : Dev nD) (t : Fin cfg0.N) (e l : Fin 2048) :
    (show FVec Ideal S2048x2048 .bf16 from iblk0 V c 4 t) (ix2 e l) = (show FVec Ideal S2048x2048 .bf16 from V c main_arg4) (ix2 e l) := by
  blk_ext [iblk0, idx t]

/-- The staged gain is the array's one row. -/
theorem gain (c : Dev nD) (t : Fin cfg0.N) (k : Fin 2048) :
    (show FVec Ideal S1x2048 .f32 from iblk0 V c 5 t) (ix2 0 k) = (show FVec Ideal S1x2048 .f32 from V c main_v0) (ix2 0 k) := by
  blk_ext [iblk0, idx t]

/-- A block's new residual is the reference's row. -/
theorem res_row (c : Dev nD) (t : Fin cfg0.N) (r : Fin 512) (a : Fin 16384) (ha : a.val = t.val * 512 + r.val) (d : Fin 2048) :
    resid ((show FVec Ideal S512x2048 .f32 from iblk0 V c 0 t) (ix2 r d)) (fun k => (show FVec Ideal S512x512 .bf16 from iblk0 V c 1 t) (ix2 r k))
        (fun k => (show FVec Ideal S512x512 .bf16 from iblk0 V c 2 t) (ix2 r k)) (fun k => (show FVec Ideal S512x1024 .bf16 from iblk0 V c 3 t) (ix2 r k))
        (fun k e => (show FVec Ideal S2048x2048 .bf16 from iblk0 V c 4 t) (ix2 k e)) d
      = RES (V c main_arg0) (V c main_arg1) (V c main_arg2) (V c main_arg3) (V c main_arg4) (ix2 a d) := by
  refine Eq.trans ?_ (RES_at _ _ _ _ _ a d).symm
  rw [row0 V c t r d a ha, funext fun k => row1 V c t r k a ha, funext fun k => row2 V c t r k a ha, funext fun k => row3 V c t r k a ha,
    funext fun k => funext fun e => weight V c t k e]

/-- The new residual's array after the first half. -/
theorem final6 (c : Dev nD) : (dat0 V c).arrAt 6 cfg0.N = RES (V c main_arg0) (V c main_arg1) (V c main_arg2) (V c main_arg3) (V c main_arg4) := by
  refine (dat0 V c).arrAt_eq_of_covers 6 _ (by decide +kernel) fun t _ y => ?_
  blk_simp
  rw [after0_6]
  obtain ⟨r, d, rfl⟩ : ∃ (r : Fin 512) (d : Fin 2048), y = ix2 r d := ⟨y 0, y 1, eq_ix2 y⟩
  refine (res_at _ _ _ _ _ _ r d).trans ?_
  have ht : t.val < 32 := lt_of_lt_of_eq t.isLt N_0
  have he : ((cfg0.win 6).blk t).view.emb (ix2 r d) = ix2 (⟨t.val * 512 + r.val, by omega⟩ : Fin 16384) d := by blk_ext [idx t]
  exact (res_row V c t r _ rfl d).trans (congrArg _ he).symm

/-- The normalised residual's array after the first half, the gain's row being the vector `g`. -/
theorem final7 (c : Dev nD) (g : FVec Ideal S2048 .f32) (hg : ∀ k : Fin 2048, (show FVec Ideal S1x2048 .f32 from V c main_v0) (ix2 0 k) = g (ix1 k)) :
    (dat0 V c).arrAt 7 cfg0.N = HN (V c main_arg0) (V c main_arg1) (V c main_arg2) (V c main_arg3) (V c main_arg4) g := by
  refine (dat0 V c).arrAt_eq_of_covers 7 _ (by decide +kernel) fun t _ y => ?_
  blk_simp
  rw [after0_7]
  obtain ⟨r, d, rfl⟩ : ∃ (r : Fin 512) (d : Fin 2048), y = ix2 r d := ⟨y 0, y 1, eq_ix2 y⟩
  refine (hn_at _ _ _ _ _ _ r d).trans ?_
  have ht : t.val < 32 := lt_of_lt_of_eq t.isLt N_0
  have he : ((cfg0.win 7).blk t).view.emb (ix2 r d) = ix2 (⟨t.val * 512 + r.val, by omega⟩ : Fin 16384) d := by blk_ext [idx t]
  refine Eq.trans ?_ ((congrArg _ he).trans (HN_at _ _ _ _ _ _ _ d)).symm
  exact congrFun (congrArg₂ nrm (funext fun d => res_row V c t r _ rfl d) (funext fun k => (gain V c t k).trans (hg k))) d

end Cert.TailIdeal.First

end
-- ==== Proof.TailSecond.lean ====
/-
  The joined program's second half: the feed-forward part, from whatever the arrays hold when it is entered, accumulates
  over four blocks of hidden columns what the reference contracts at once.
-/
module

public import proofs.«01_k».proof.Proof.MlpValue
public import proofs.«01_k».proof.Proof.Gen.TailIdeal.Frame
public import Idealize.ShloMosaic.Lib.Pointwise
public import Idealize.ShloMosaic.Lib.Pipeline.ValueKit

@[expose] public section

set_option maxRecDepth 16384

noncomputable section

namespace Cert.TailIdeal.Second

open Cert.TailIdeal Cert.TailIdeal.Gen Idealize.ShloMosaic Idealize.ShloMosaic.TcCoe Idealize.SL.Sem
open Idealize.ShloMosaic.Pipeline (Dat)
open Cert.MlpIdeal.Acc (sqRelu term)
open Cert.MlpRefIdeal.Spec (REF REF_at)

/-- One accumulation step at an index: the old entry plus the step's 2048 hidden columns times the second weight. -/
theorem step_at (x : FVec Ideal S512x2048 .bf16) (w : FVec Ideal S2048x2048 .bf16) (acc : FVec Ideal S512x2048 .f32)
    (u : FVec Ideal S2048x2048 .bf16) (r : Fin 512) (d : Fin 2048) :
    k1_pay2 (F := Ideal) x w acc u (ix2 r d)
      = acc (ix2 r d) + ∑ k : Fin 2048, sqRelu (∑ l : Fin 2048, x (ix2 r l) * w (ix2 l k)) * u (ix2 k d) := by
  pointwise [k1_pay2, sqRelu]

theorem zz : (![0, 0] : Fin 2 → Nat) = fun _ => 0 := funext fun a => by fin_cases a <;> rfl

variable (V : (c : Dev nD) → (b : Ref sig .tc) → Buf (Elt Ideal) ((c : Thread nD τ).loc b))

/-- What the body leaves at the first block of hidden columns: one step from the residual's block. -/
theorem left_first (c : Dev nD) (i : grid1.Coords) (a0 : Memref sig .tc .vmem S512x2048 .f32) (h0 : a0.IsWhole) (a1 : Memref sig .tc .vmem S512x2048 .bf16) (h1 : a1.IsWhole) (a2 : Memref sig .tc .vmem S2048x2048 .bf16) (h2 : a2.IsWhole) (a3 : Memref sig .tc .vmem S2048x2048 .bf16) (h3 : a3.IsWhole) (a4 : Memref sig .tc .vmem S512x2048 .f32) (h4 : a4.IsWhole) (hc : cond1_0 i)
    (x0 : FVec Ideal S512x2048 .f32) (x1 : FVec Ideal S512x2048 .bf16) (x2 x3 : FVec Ideal S2048x2048 .bf16) :
    out1_A_4 (F := Ideal) c i a0 h0 a1 h1 a2 h2 a3 h3 a4 h4 hc x0 x1 x2 x3 = k1_pay2 (F := Ideal) x1 x2 x0 x3 := by
  unfold out1_A_4
  rw [View.read_writes_eq_canon _ _ _ (cover1_A_4 (F := Ideal) c i a0 h0 a1 h1 a2 h2 a3 h3 a4 h4 hc x0 x1 x2 x3)]
  unfold kernelRun1_A
  dsimp only
  try sl_unfold_words
  rw [View.canon_cons_unit_zero (S := S512x2048) zz, View.readCov_unit_zero (S := S512x2048) _ zz]
  simp only [View.readAt_eq_ld, h0.read_unread, h1.read_unread, h2.read_unread, h3.read_unread, View.ld_unit_zero (S := S2048x2048) zz, View.ld_unit_zero (S := S512x2048) zz, shapeCast_self, k1_pay1]

/-- What it leaves at a later block: one step from what the buffer held. -/
theorem left_later (c : Dev nD) (i : grid1.Coords) (a0 : Memref sig .tc .vmem S512x2048 .f32) (h0 : a0.IsWhole) (a1 : Memref sig .tc .vmem S512x2048 .bf16) (h1 : a1.IsWhole) (a2 : Memref sig .tc .vmem S2048x2048 .bf16) (h2 : a2.IsWhole) (a3 : Memref sig .tc .vmem S2048x2048 .bf16) (h3 : a3.IsWhole) (a4 : Memref sig .tc .vmem S512x2048 .f32) (h4 : a4.IsWhole) (hc : ¬cond1_0 i)
    (x0 : FVec Ideal S512x2048 .f32) (x1 : FVec Ideal S512x2048 .bf16) (x2 x3 : FVec Ideal S2048x2048 .bf16) (acc : FVec Ideal S512x2048 .f32) :
    out1_B_4 (F := Ideal) c i a0 h0 a1 h1 a2 h2 a3 h3 a4 h4 hc x0 x1 x2 x3 acc = k1_pay2 (F := Ideal) x1 x2 acc x3 := by
  unfold out1_B_4
  rw [View.read_writes_eq_canon _ _ _ (cover1_B_4 (F := Ideal) c i a0 h0 a1 h1 a2 h2 a3 h3 a4 h4 hc x0 x1 x2 x3 acc)]
  unfold kernelRun1_B
  dsimp only
  try sl_unfold_words
  rw [View.canon_unit_zero zz]
  simp only [View.readAt_eq_ld, h1.read_unread, h2.read_unread, h3.read_unread, h4.read_unread, View.ld_unit_zero (S := S2048x2048) zz, View.ld_unit_zero (S := S512x2048) zz, shapeCast_self]

/-- At the first block of hidden columns the accumulator starts from the residual's block. -/
theorem at_first (c : Dev nD) (t : Fin cfg1.N) (h : t.val % 4 = 0) :
    outsAt1 V c t.val t.isLt = k1_pay2 (F := Ideal) (iblk1 V c 1 t) (iblk1 V c 2 t) (iblk1 V c 0 t) (iblk1 V c 3 t) := by
  rw [outsAt1_A V c t h]
  exact left_first ..

/-- At a later block it goes on from what the point before left. -/
theorem at_later (c : Dev nD) (t : Fin cfg1.N) (h : ¬t.val % 4 = 0) :
    outsAt1 V c t.val t.isLt = k1_pay2 (F := Ideal) (iblk1 V c 1 t) (iblk1 V c 2 t) (outsAt1 V c (t.val - 1) (Nat.lt_of_le_of_lt (Nat.sub_le _ _) t.isLt)) (iblk1 V c 3 t) := by
  rw [outsAt1_B V c t h]
  exact left_later ..

/-- The windows' block positions at each grid point. -/
theorem idx : ∀ t : Fin cfg1.N, win1_0.index t = ![t.val / 4, 0] ∧ win1_1.index t = ![t.val / 4, 0]
    ∧ win1_2.index t = ![0, t.val % 4] ∧ win1_3.index t = ![t.val % 4, 0] ∧ win1_4.index t = ![t.val / 4, 0] :=
  (by decide +kernel : ∀ t : Fin grid1.N, _)

/-- A point's addend, over the arrays. -/
theorem part (c : Dev nD) (t : Fin cfg1.N) (f : Fin 4) (a : Fin 16384) (r : Fin 512) (d : Fin 2048)
    (ha : a.val = t.val / 4 * 512 + r.val) (hf : f.val = t.val % 4) :
    (∑ k : Fin 2048, sqRelu (∑ l : Fin 2048, (show FVec Ideal S512x2048 .bf16 from iblk1 V c 1 t) (ix2 r l)
        * (show FVec Ideal S2048x2048 .bf16 from iblk1 V c 2 t) (ix2 l k)) * (show FVec Ideal S2048x2048 .bf16 from iblk1 V c 3 t) (ix2 k d))
      = ∑ k : Fin 2048, term (V c main_v1_1) (V c main_arg6) (V c main_arg7) a d ⟨f.val * 2048 + k.val, by omega⟩ := by
  unfold term
  blk_point [iblk1, idx t]

/-- The accumulator's starting block is the residual's block. -/
theorem start (c : Dev nD) (t : Fin cfg1.N) (a : Fin 16384) (r : Fin 512) (d : Fin 2048) (ha : a.val = t.val / 4 * 512 + r.val) :
    (show FVec Ideal S512x2048 .f32 from iblk1 V c 0 t) (ix2 r d) = (show FVec Ideal S16384x2048 .f32 from V c main_v1_0) (ix2 a d) := by
  blk_ext [iblk1, idx t]

/-- What the accumulator holds after a point: the residual and the addends of its run's points so far. -/
theorem held (c : Dev nD) (q : Fin 32) (a : Fin 16384) (r : Fin 512) (d : Fin 2048) (ha : a.val = q.val * 512 + r.val) :
    ∀ (j : ℕ) (hj : j < 4) (h : 4 * q.val + j < cfg1.N),
      (show FVec Ideal S512x2048 .f32 from outsAt1 V c (4 * q.val + j) h) (ix2 r d)
        = (show FVec Ideal S16384x2048 .f32 from V c main_v1_0) (ix2 a d)
          + ∑ f : Fin (j + 1), ∑ k : Fin 2048, term (V c main_v1_1) (V c main_arg6) (V c main_arg7) a d ⟨f.val * 2048 + k.val, by omega⟩ := by
  intro j
  induction j with
  | zero =>
    intro hj h
    refine (congrFun (at_first V c ⟨4 * q.val + 0, h⟩ (by simp only; omega)) _).trans ((step_at _ _ _ _ r d).trans ?_)
    refine congrArg₂ (· + ·) (start V c ⟨4 * q.val + 0, h⟩ a r d (by simp only; omega)) ((part V c ⟨4 * q.val + 0, h⟩ 0 a r d (by simp only; omega) (by simp only [Fin.val_zero]; omega)).trans ?_)
    exact (Fin.sum_univ_one fun f : Fin 1 => ∑ k : Fin 2048, term (V c main_v1_1) (V c main_arg6) (V c main_arg7) a d ⟨f.val * 2048 + k.val, by omega⟩).symm
  | succ j ih =>
    intro hj h
    refine (congrFun (at_later V c ⟨4 * q.val + (j + 1), h⟩ (by simp only; omega)) _).trans ((step_at _ _ _ _ r d).trans ?_)
    rw [Fin.sum_univ_castSucc (n := j + 1) fun f : Fin (j + 1 + 1) => ∑ k : Fin 2048, term (V c main_v1_1) (V c main_arg6) (V c main_arg7) a d ⟨f.val * 2048 + k.val, by omega⟩]
    refine Eq.trans ?_ (add_assoc (G := EReal) _ _ _)
    exact congrArg₂ (· + ·) (ih (by omega) (by omega)) (part V c ⟨4 * q.val + (j + 1), h⟩ ⟨j + 1, hj⟩ a r d (by simp only; omega) (by simp only; omega))

/-- The layer output's array after the second half. -/
theorem final4 (c : Dev nD) : (dat1 V c).arrAt 4 cfg1.N = REF (V c main_v1_0) (V c main_v1_1) (V c main_arg6) (V c main_arg7) := by
  refine (dat1 V c).arrAt_eq_of_covers 4 _ (by decide +kernel) fun t hfl y => ?_
  have hm : t.val % 4 = 3 := (by decide +kernel : ∀ t : Fin cfg1.N, (cfg1.win 4).flush t = true → t.val % 4 = 3) t hfl
  blk_simp
  rw [after1_4]
  obtain ⟨r, d, rfl⟩ : ∃ (r : Fin 512) (d : Fin 2048), y = ix2 r d := ⟨y 0, y 1, eq_ix2 y⟩
  have ht : t.val < 128 := lt_of_lt_of_eq t.isLt N_1
  have he : ((cfg1.win 4).blk t).view.emb (ix2 r d) = ix2 (⟨t.val / 4 * 512 + r.val, by omega⟩ : Fin 16384) d := by blk_ext [idx t]
  refine Eq.trans ?_ ((congrArg _ he).trans (REF_at _ _ _ _ _ d)).symm
  have hv : t.val = 4 * (t.val / 4) + 3 := by omega
  have e : ∀ (n : ℕ) (hn : n < cfg1.N), t.val = n → outsAt1 V c t.val t.isLt = outsAt1 V c n hn := by intro n hn h; subst h; rfl
  refine (congrFun (e _ (lt_of_eq_of_lt hv.symm t.isLt) hv) _).trans ((held V c ⟨t.val / 4, by omega⟩ ⟨t.val / 4 * 512 + r.val, by omega⟩ r d rfl 3 (by omega) _).trans ?_)
  exact congrArg (_ + ·) (Fin.sum_univ_tiles 4 2048 rfl (fun l : Fin 8192 => term _ _ _ _ d l)).symm

end Cert.TailIdeal.Second

end
-- ==== Proof.TailRun.lean ====
/-
  The joined program's run: the launch of its two regions, with the layer output's array read off the last boundary.
-/
module

public import proofs.«01_k».proof.Proof.Gen.TailIdeal.Frame

@[expose] public section

set_option maxRecDepth 16384

noncomputable section

namespace Cert.TailIdeal.Joined

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair run of the joined program ends with the layer output's array at what the second region leaves there and the
    arguments as launched. -/
theorem run : θ_run defs (onTc (τ := τ) (main (F := F))) ⟨m, fun _ => 0, ρ⟩ (fun r => ∀ c : Dev nD,
      r.2.mem ((c.tc : Thread nD τ).loc main_v2) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v2 (by decide))).trans (W3_arr m ρ c 4),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.TailIdeal.Joined

end
-- ==== Proof.TailValue.lean ====
/-
  The joined program's value: the second half's array over the first half's two results is the reference's layer output.
-/
module

public import proofs.«01_k».proof.Proof.TailFirst
public import proofs.«01_k».proof.Proof.TailSecond
public import proofs.«01_k».proof.Proof.TailRun
public import proofs.«01_k».proof.Proof.Gen.TailRefIdeal.Run

@[expose] public section

set_option maxRecDepth 16384

noncomputable section

namespace Cert.TailIdeal.Joined

open Cert.TailIdeal Cert.TailIdeal.Gen Idealize.ShloMosaic Idealize.ShloMosaic.TcCoe Idealize.SL.Sem
open Cert.OutProjRefIdeal.Spec (RES HN)
open Cert.MlpRefIdeal.Spec (REF)

variable (m : (ℓ : Loc nD τ sig) → Buf (Elt Ideal) ℓ) (ρ : Dev nD → PrngReg)

/-- The first region finds an argument as launched. -/
theorem entry (c : Dev nD) (a : Ref sig .tc) (h : a ∈ argRefs) : V1 m ρ c a = m ((c : Thread nD τ).loc a) := W1_args m ρ c a h

/-- The first region finds the gain as one row. -/
theorem gain (c : Dev nD) (k : Fin 2048) : (show FVec Ideal S1x2048 .f32 from V1 m ρ c main_v0) (ix2 0 k)
    = (show FVec Ideal S2048 .f32 from m ((c : Thread nD τ).loc main_arg5)) (ix1 k) := by
  have e : (show FVec Ideal S1x2048 .f32 from V1 m ρ c main_v0)
      = broadcastInDim S1x2048 ![1] bcast_S2048_S1x2048_1 (show FVec Ideal S2048 .f32 from m ((c : Thread nD τ).loc main_arg5)) := by
    show StableHlo.after hostOps0 (W0 m ρ c) _ = _
    after_results
  rw [e]
  pointwise

/-- The second region finds the new residual in its first operand. -/
theorem mid0 (c : Dev nD) : V2 m ρ c main_v1_0 = RES (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 6).trans ((Cert.TailIdeal.First.final6 (V1 m ρ) c).trans ?_)
  rw [entry m ρ c main_arg0 (by decide), entry m ρ c main_arg1 (by decide), entry m ρ c main_arg2 (by decide), entry m ρ c main_arg3 (by decide),
    entry m ρ c main_arg4 (by decide)]

/-- The second region finds the normalised residual in its second operand. -/
theorem mid1 (c : Dev nD) : V2 m ρ c main_v1_1 = HN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 7).trans ((Cert.TailIdeal.First.final7 (V1 m ρ) c _ (gain m ρ c)).trans ?_)
  rw [entry m ρ c main_arg0 (by decide), entry m ρ c main_arg1 (by decide), entry m ρ c main_arg2 (by decide), entry m ρ c main_arg3 (by decide),
    entry m ρ c main_arg4 (by decide)]

/-- The layer output's array, over the arguments. -/
theorem final (c : Dev nD) : (dat1 (V2 m ρ) c).arrAt 4 cfg1.N
    = REF (RES (m ((c : Thread nD τ).loc main_arg0)) (m ((c : Thread nD τ).loc main_arg1)) (m ((c : Thread nD τ).loc main_arg2)) (m ((c : Thread nD τ).loc main_arg3)) (m ((c : Thread nD τ).loc main_arg4))) (HN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) := by
  refine (Cert.TailIdeal.Second.final4 (V2 m ρ) c).trans ?_
  rw [mid0 m ρ c, mid1 m ρ c, show V2 m ρ c main_arg6 = m ((c : Thread nD τ).loc main_arg6) from W2_args m ρ c main_arg6 (by decide),
    show V2 m ρ c main_arg7 = m ((c : Thread nD τ).loc main_arg7) from W2_args m ρ c main_arg7 (by decide)]

end Cert.TailIdeal.Joined

end
-- ==== Proof.ChainFirst.lean ====
/-
  The four-call program's first call: the input projection, from whatever the arrays hold when it is entered, leaves the
  projections and the gates that the reference's terms name.
-/
module

public import proofs.«01_k».proof.Proof.Gen.ChainIdeal.Frame
public import proofs.«01_k».proof.Proof.InProjValue
public import Idealize.ShloMosaic.Lib.Pointwise
public import Idealize.ShloMosaic.Lib.Pipeline.ValueKit
public import Idealize.ShloMosaic.Lib.Claim

@[expose] public section

set_option maxRecDepth 16384

noncomputable section

namespace Cert.ChainIdeal.First

open Cert.ChainIdeal Cert.ChainIdeal.Gen Idealize.ShloMosaic Idealize.ShloMosaic.TcCoe Idealize.SL.Sem
open Idealize.ShloMosaic.Pipeline (Dat)
open Cert.InProjRefIdeal.Spec

/-- The normalised block of rows at an index. -/
theorem norm_at (x : FVec Ideal S512x2048 .f32) (g : FVec Ideal S1x2048 .f32) (r : Fin 512) (l : Fin 2048) :
    k0_pay4 (F := Ideal) x g (ix2 r l) = nrm (fun k => x (ix2 r k)) (fun k => g (ix2 0 k)) l := by
  pointwise [k0_pay4, nrm]

/-- The block of projections at an index. -/
theorem proj_at (x0 : FVec Ideal S512x2048 .f32) (x1 : FVec Ideal S1x2048 .f32) (x2 : FVec Ideal S6400x2048 .bf16) (x3 : FVec Ideal S1x2048x128 .bf16)
    (r : Fin 512) (e : Fin 6400) :
    out0_4 (F := Ideal) x0 x1 x2 x3 (ix2 r e) = ∑ l : Fin 2048, nrm (fun k => x0 (ix2 r k)) (fun k => x1 (ix2 0 k)) l * x2 (ix2 e l) := by
  frame_out
  canon_tiles x h
  all_goals (pointwise [k0_pay1, k0_pay2, k0_pay3, k0_pay6, k0_pay7, k0_pay8, k0_pay9, k0_pay4, nrm]; simp only [ix2_0, ix2_1] at h0 h1; blk_point [])

/-- The block of gates at an index. -/
theorem gates_at (x0 : FVec Ideal S512x2048 .f32) (x1 : FVec Ideal S1x2048 .f32) (x2 : FVec Ideal S6400x2048 .bf16) (x3 : FVec Ideal S1x2048x128 .bf16)
    (r : Fin 512) (e : Fin 128) :
    out0_5 (F := Ideal) x0 x1 x2 x3 (ix2 r e) = ∑ l : Fin 2048, nrm (fun k => x0 (ix2 r k)) (fun k => x1 (ix2 0 k)) l * x3 (ix3 0 l e) := by
  frame_out
  pointwise [k0_pay5, k0_pay4, nrm]

/-- The windows' block positions. -/
theorem idx : ∀ t : Fin cfg0.N, win0_0.index t = ![t.val, 0] ∧ win0_1.index t = ![0, 0] ∧ win0_2.index t = ![0, 0]
    ∧ win0_3.index t = ![0, 0, 0] ∧ win0_4.index t = ![t.val, 0] ∧ win0_5.index t = ![t.val, 0] :=
  (by decide +kernel : ∀ t : Fin grid0.N, _)

variable (V : (c : Dev nD) → (b : Ref sig .tc) → Buf (Elt Ideal) ((c : Thread nD τ).loc b))

/-- A staged row of the input is the array's row. -/
theorem row (c : Dev nD) (t : Fin cfg0.N) (r : Fin 512) (k : Fin 2048) (a : Fin 16384) (ha : a.val = t.val * 512 + r.val) :
    (show FVec Ideal S512x2048 .f32 from iblk0 V c 0 t) (ix2 r k) = (show FVec Ideal S16384x2048 .f32 from V c main_arg0) (ix2 a k) := by
  blk_ext [iblk0, idx t]

/-- The staged gain is the array's one row. -/
theorem gain (c : Dev nD) (t : Fin cfg0.N) (k : Fin 2048) :
    (show FVec Ideal S1x2048 .f32 from iblk0 V c 1 t) (ix2 0 k) = (show FVec Ideal S1x2048 .f32 from V c main_v0) (ix2 0 k) := by
  blk_ext [iblk0, idx t]

/-- The staged projection weight is the array. -/
theorem weight (c : Dev nD) (t : Fin cfg0.N) (e : Fin 6400) (l : Fin 2048) :
    (show FVec Ideal S6400x2048 .bf16 from iblk0 V c 2 t) (ix2 e l) = (show FVec Ideal S6400x2048 .bf16 from V c main_arg2) (ix2 e l) := by
  blk_ext [iblk0, idx t]

/-- The staged gate weight is the array's first member. -/
theorem gateWeight (c : Dev nD) (t : Fin cfg0.N) (l : Fin 2048) (e : Fin 128) :
    (show FVec Ideal S1x2048x128 .bf16 from iblk0 V c 3 t) (ix3 0 l e) = (show FVec Ideal S2x2048x128 .bf16 from V c main_arg3) (ix3 0 l e) := by
  blk_ext [iblk0, idx t]

/-- The projections' array after the first call, the gain's row being the vector `g`. -/
theorem final4 (c : Dev nD) (g : FVec Ideal S2048 .f32) (hg : ∀ k : Fin 2048, (show FVec Ideal S1x2048 .f32 from V c main_v0) (ix2 0 k) = g (ix1 k)) :
    (dat0 V c).arrAt 4 cfg0.N
    = PROJ (V c main_arg0) g (V c main_arg2) := by
  refine (dat0 V c).arrAt_eq_of_covers 4 _ (by decide +kernel) fun t _ y => ?_
  blk_simp
  rw [after0_4]
  obtain ⟨r, e, rfl⟩ : ∃ (r : Fin 512) (e : Fin 6400), y = ix2 r e := ⟨y 0, y 1, eq_ix2 y⟩
  refine (proj_at _ _ _ _ r e).trans ?_
  have ht : t.val < 32 := lt_of_lt_of_eq t.isLt N_0
  have he : ((cfg0.win 4).blk t).view.emb (ix2 r e) = ix2 (⟨t.val * 512 + r.val, by omega⟩ : Fin 16384) e := by blk_ext [idx t]
  refine Eq.trans ?_ ((congrArg _ he).trans (PROJ_at _ _ _ _ e)).symm
  refine Fin.sum_fin_congr fun l => Ideal.mul_congr ?_ (weight V c t e l)
  exact congrFun (congrArg₂ nrm (funext fun k => row V c t r k _ rfl) (funext fun k => (gain V c t k).trans (hg k))) l

/-- The gates' array after the first call, the gain's row being the vector `g`. -/
theorem final5 (c : Dev nD) (g : FVec Ideal S2048 .f32) (hg : ∀ k : Fin 2048, (show FVec Ideal S1x2048 .f32 from V c main_v0) (ix2 0 k) = g (ix1 k)) :
    (dat0 V c).arrAt 5 cfg0.N
    = GATES (V c main_arg0) g (V c main_arg3) := by
  refine (dat0 V c).arrAt_eq_of_covers 5 _ (by decide +kernel) fun t _ y => ?_
  blk_simp
  rw [after0_5]
  obtain ⟨r, e, rfl⟩ : ∃ (r : Fin 512) (e : Fin 128), y = ix2 r e := ⟨y 0, y 1, eq_ix2 y⟩
  refine (gates_at _ _ _ _ r e).trans ?_
  have ht : t.val < 32 := lt_of_lt_of_eq t.isLt N_0
  have he : ((cfg0.win 5).blk t).view.emb (ix2 r e) = ix2 (⟨t.val * 512 + r.val, by omega⟩ : Fin 16384) e := by blk_ext [idx t]
  refine Eq.trans ?_ ((congrArg _ he).trans (GATES_at _ _ _ _ e)).symm
  refine Fin.sum_fin_congr fun l => Ideal.mul_congr ?_ (gateWeight V c t l e)
  exact congrFun (congrArg₂ nrm (funext fun k => row V c t r k _ rfl) (funext fun k => (gain V c t k).trans (hg k))) l

end Cert.ChainIdeal.First

end
-- ==== Proof.ChainSecond.lean ====
/-
  The four-call program's second call, the convolution, from whatever the arrays hold when it is entered: its padded scratch array, its block, the whole output array.
-/
module

public import proofs.«01_k».proof.Proof.ConvSpec
public import proofs.«01_k».proof.Proof.Gen.ChainIdeal.Frame
public import Idealize.ShloMosaic.Lib.Pointwise
public import Idealize.ShloMosaic.Lib.Pipeline.ValueKit
public import Idealize.ShloMosaic.Lib.Claim

@[expose] public section

set_option maxRecDepth 16384

noncomputable section

namespace Cert.ChainIdeal.Second

open Cert.ChainIdeal Cert.ChainIdeal.Gen Idealize.ShloMosaic Idealize.ShloMosaic.TcCoe Idealize.SL.Sem
open Cert.ConvRefIdeal.Spec (tap conv nrm col OUT OUT_at)

/-- The scratch array: eight rows of zeros, then the columns. -/
def scr (z : Fin 2 → Fin 2048 → Fin 128 → EReal) (b : Fin 2) (row : Fin 2056) (l : Fin 128) : EReal :=
  if h : row.val < 8 then 0 else z b ⟨row.val - 8, by omega⟩ l

/-- The same as a function of the array's index. -/
def scrV (z : Fin 2 → Fin 2048 → Fin 128 → EReal) (y : S2x2056x128.Idx) : EReal := scr z (y 0) (y 1) (y 2)

/-- The stores of batch 0. -/
def pc0 (P : FVec Ideal S1x2048x128 .f32) : List (View.Piece (Elt Ideal) S2x2056x128 .f32) :=
  [⟨Rect.unit (s := S2x2056x128) ![0, 8, 0] S1x2048x128.size inb_S2x2056x128_S1x2048x128_0_8_0, P⟩,
    ⟨Rect.unit (s := S2x2056x128) ![0, 0, 0] S1x8x128.size inb_S2x2056x128_S1x8x128_0_0_0, k1_pay2 (F := Ideal)⟩]

/-- The stores of both batches. -/
def pc1 (P Q : FVec Ideal S1x2048x128 .f32) : List (View.Piece (Elt Ideal) S2x2056x128 .f32) :=
  ⟨Rect.unit (s := S2x2056x128) ![1, 8, 0] S1x2048x128.size inb_S2x2056x128_S1x2048x128_1_8_0, Q⟩
    :: ⟨Rect.unit (s := S2x2056x128) ![1, 0, 0] S1x8x128.size inb_S2x2056x128_S1x8x128_1_0_0, k1_pay6 (F := Ideal)⟩ :: pc0 P

theorem pay2_at (r : Fin 8) (l : Fin 128) : k1_pay2 (F := Ideal) (ix3 0 r l) = 0 := by
  pointwise [k1_pay2]
theorem pay6_at (r : Fin 8) (l : Fin 128) : k1_pay6 (F := Ideal) (ix3 0 r l) = 0 := by
  pointwise [k1_pay6]

theorem rows_ok (z : Fin 2 → Fin 2048 → Fin 128 → EReal) (b : Fin 2) (h : ∀ a : Fin 3, ![b.val, 8, 0] a + S1x2048x128.size a ≤ S2x2056x128.size a)
    (P : FVec Ideal S1x2048x128 .f32) (hP : ∀ r l, P (ix3 0 r l) = z b r l) (x : S1x2048x128.Idx) :
    P x = scrV z ((Rect.unit (s := S2x2056x128) ![b.val, 8, 0] S1x2048x128.size h).emb x) := by
  obtain ⟨r, l, rfl⟩ : ∃ (r : Fin 2048) (l : Fin 128), x = ix3 0 r l := ⟨x 1, x 2, (eq_ix3 x).trans (by rw [Fin.fin_one_eq_zero (x 0)])⟩
  have e : (Rect.unit (s := S2x2056x128) ![b.val, 8, 0] S1x2048x128.size h).emb (ix3 0 r l) = ix3 b (⟨8 + r.val, by omega⟩ : Fin 2056) l := by blk_ext []
  refine (hP r l).trans (Eq.trans ?_ (congrArg (scrV z) e).symm)
  show _ = scr z b ⟨8 + r.val, by omega⟩ l
  unfold scr
  rw [dif_neg (by simp only; omega)]
  exact congrArg (fun r' => z b r' l) (Fin.ext (by simp only; omega))

theorem zeros_ok (z : Fin 2 → Fin 2048 → Fin 128 → EReal) (b : Fin 2) (h : ∀ a : Fin 3, ![b.val, 0, 0] a + S1x8x128.size a ≤ S2x2056x128.size a)
    (P : FVec Ideal S1x8x128 .f32) (hP : ∀ r l, P (ix3 0 r l) = 0) (x : S1x8x128.Idx) :
    P x = scrV z ((Rect.unit (s := S2x2056x128) ![b.val, 0, 0] S1x8x128.size h).emb x) := by
  obtain ⟨r, l, rfl⟩ : ∃ (r : Fin 8) (l : Fin 128), x = ix3 0 r l := ⟨x 1, x 2, (eq_ix3 x).trans (by rw [Fin.fin_one_eq_zero (x 0)])⟩
  have e : (Rect.unit (s := S2x2056x128) ![b.val, 0, 0] S1x8x128.size h).emb (ix3 0 r l) = ix3 b (⟨r.val, by omega⟩ : Fin 2056) l := by blk_ext []
  refine (hP r l).trans (Eq.trans ?_ (congrArg (scrV z) e).symm)
  show _ = scr z b ⟨r.val, by omega⟩ l
  unfold scr
  rw [dif_pos (by simp only; omega)]

/-- Every row of a batch lies in one of its two stores. -/
theorem covered (b : Fin 2) (row : Fin 2056) (l : Fin 128) (h : ∀ a : Fin 3, ![b.val, 8, 0] a + S1x2048x128.size a ≤ S2x2056x128.size a)
    (h' : ∀ a : Fin 3, ![b.val, 0, 0] a + S1x8x128.size a ≤ S2x2056x128.size a) :
    ix3 b row l ∈ (Rect.unit (s := S2x2056x128) ![b.val, 8, 0] S1x2048x128.size h).set ∨ ix3 b row l ∈ (Rect.unit (s := S2x2056x128) ![b.val, 0, 0] S1x8x128.size h').set := by
  have hr := row.isLt
  have hl := l.isLt
  rw [Rect.mem_set_unit, Rect.mem_set_unit]
  by_cases hx : row.val < 8
  · refine Or.inr fun a => ?_
    match a with
    | ⟨0, _⟩ => exact ⟨le_refl _, Nat.lt_succ_self _⟩
    | ⟨1, _⟩ => exact ⟨Nat.zero_le _, by show row.val < 0 + 8; omega⟩
    | ⟨2, _⟩ => exact ⟨Nat.zero_le _, by show l.val < 0 + 128; omega⟩
  · refine Or.inl fun a => ?_
    match a with
    | ⟨0, _⟩ => exact ⟨le_refl _, Nat.lt_succ_self _⟩
    | ⟨1, _⟩ => exact ⟨by show 8 ≤ row.val; omega, by show row.val < 8 + 2048; omega⟩
    | ⟨2, _⟩ => exact ⟨Nat.zero_le _, by show l.val < 0 + 128; omega⟩

/-- A load of 2048 rows of a batch from row `6 + k` on reads the column behind its zeros. -/
theorem load_at (z : Fin 2 → Fin 2048 → Fin 128 → EReal) (v : View sig .tc .vmem S2x2056x128 .f32) (L : List (View.Piece (Elt Ideal) S2x2056x128 .f32))
    (hL : ∀ p ∈ L, ∀ x : p.1.shape.Idx, p.2 x = scrV z (p.1.emb x)) (b : Fin 2) (hc : ∀ row l, ∃ p ∈ L, ix3 b row l ∈ p.1.set)
    (k : Fin 3) (o : Fin 3 → ℕ) (ho : o = ![b.val, 6 + k.val, 0]) (hi : ∀ a : Fin 3, o a + S1x2048x128.size a ≤ S2x2056x128.size a) (r : Fin 2048) (l : Fin 128) :
    v.readCov L (Rect.unit (s := S2x2056x128) o S1x2048x128.size hi).toLoadRect (ix3 0 r l) = tap (fun r => z b r l) k r := by
  subst ho
  have e : (Rect.unit (s := S2x2056x128) ![b.val, 6 + k.val, 0] S1x2048x128.size hi).emb (ix3 0 r l) = ix3 b (⟨6 + k.val + r.val, by omega⟩ : Fin 2056) l := by blk_ext []
  refine (congrArg (v.read (Elt Ideal) (v.writes (Elt Ideal) v.junk L)) e).trans ((View.read_writes_apply_of_pieces v _ (scrV z) L hL _ (hc _ _)).trans ?_)
  show scr z b ⟨6 + k.val + r.val, by omega⟩ l = _
  unfold scr tap
  by_cases hx : r.val + k.val < 2
  · rw [dif_pos (by simp only; omega), dif_pos hx]
  · rw [dif_neg (by simp only; omega), dif_neg hx]
    exact congrArg (fun r' => z b r' l) (Fin.ext (by simp only; omega))

theorem pc0_ok (z : Fin 2 → Fin 2048 → Fin 128 → EReal) (P : FVec Ideal S1x2048x128 .f32) (hP : ∀ r l, P (ix3 0 r l) = z 0 r l) :
    ∀ p ∈ pc0 P, ∀ x : p.1.shape.Idx, p.2 x = scrV z (p.1.emb x) := by
  unfold pc0
  simp only [List.forall_mem_cons, List.not_mem_nil, false_implies, implies_true, and_true]
  exact ⟨rows_ok z 0 _ P hP, zeros_ok z 0 _ _ pay2_at⟩

theorem pc1_ok (z : Fin 2 → Fin 2048 → Fin 128 → EReal) (P Q : FVec Ideal S1x2048x128 .f32) (hP : ∀ r l, P (ix3 0 r l) = z 0 r l) (hQ : ∀ r l, Q (ix3 0 r l) = z 1 r l) :
    ∀ p ∈ pc1 P Q, ∀ x : p.1.shape.Idx, p.2 x = scrV z (p.1.emb x) := by
  unfold pc1
  simp only [List.forall_mem_cons]
  exact ⟨rows_ok z 1 _ Q hQ, zeros_ok z 1 _ _ pay6_at, pc0_ok z P hP⟩

theorem pc0_cov (P : FVec Ideal S1x2048x128 .f32) (row : Fin 2056) (l : Fin 128) : ∃ p ∈ pc0 P, ix3 0 row l ∈ p.1.set := by
  rcases covered 0 row l inb_S2x2056x128_S1x2048x128_0_8_0 inb_S2x2056x128_S1x8x128_0_0_0 with h | h
  · exact ⟨_, List.mem_cons_self, h⟩
  · exact ⟨_, List.mem_cons_of_mem _ List.mem_cons_self, h⟩

theorem pc1_cov (P Q : FVec Ideal S1x2048x128 .f32) (row : Fin 2056) (l : Fin 128) : ∃ p ∈ pc1 P Q, ix3 1 row l ∈ p.1.set := by
  rcases covered 1 row l inb_S2x2056x128_S1x2048x128_1_8_0 inb_S2x2056x128_S1x8x128_1_0_0 with h | h
  · exact ⟨_, List.mem_cons_self, h⟩
  · exact ⟨_, List.mem_cons_of_mem _ List.mem_cons_self, h⟩

/-- Batch `b` of a staged block. -/
def rdb (a : Memref sig .tc .vmem S2x2048x128 .bf16) (h : a.IsWhole) (x : Vec Ideal S2x2048x128 .bf16) (b : Fin 2) : Vec Ideal S1x2048x128 .bf16 :=
  match b with
  | 0 => View.readAt (Elt Ideal) a.view (Rect.unit (s := S2x2048x128) ![0, 0, 0] S1x2048x128.size inb_S2x2048x128_S1x2048x128_0_0_0).toLoadRect (h.unread x)
  | 1 => View.readAt (Elt Ideal) a.view (Rect.unit (s := S2x2048x128) ![1, 0, 0] S1x2048x128.size inb_S2x2048x128_S1x2048x128_1_0_0).toLoadRect (h.unread x)

theorem b_at (a : Memref sig .tc .vmem S2x2048x128 .bf16) (h : a.IsWhole) (x : Vec Ideal S2x2048x128 .bf16) (b : Fin 2) (r : Fin 2048) (l : Fin 128) :
    rdb a h x b (ix3 0 r l) = x (ix3 b r l) := by
  match b with
  | 0 =>
    refine (congrFun (h.read_unread x) (Rect.emb _ _)).trans (congrArg x ?_)
    blk_ext []
  | 1 =>
    refine (congrFun (h.read_unread x) (Rect.emb _ _)).trans (congrArg x ?_)
    blk_ext []

/-- The staged taps. -/
def rdw (a : Memref sig .tc .vmem S3x128 .f32) (h : a.IsWhole) (x : Vec Ideal S3x128 .f32) : Vec Ideal S3x128 .f32 :=
  View.readAt (Elt Ideal) a.view (Rect.unit (s := S3x128) ![0, 0] S3x128.size inb_S3x128_S3x128_0_0).toLoadRect (h.unread x)

theorem w_at (a : Memref sig .tc .vmem S3x128 .f32) (h : a.IsWhole) (x : Vec Ideal S3x128 .f32) (k : Fin 3) (l : Fin 128) : rdw a h x (ix2 k l) = x (ix2 k l) := by
  refine (congrFun (h.read_unread x) (Rect.emb _ _)).trans (congrArg x ?_)
  blk_ext []

/-- The staged gain. -/
def rdg (a : Memref sig .tc .vmem S1x128 .f32) (h : a.IsWhole) (x : Vec Ideal S1x128 .f32) : Vec Ideal S1x128 .f32 :=
  View.readAt (Elt Ideal) a.view (Rect.unit (s := S1x128) ![0, 0] S1x128.size inb_S1x128_S1x128_0_0).toLoadRect (h.unread x)

theorem g_at (a : Memref sig .tc .vmem S1x128 .f32) (h : a.IsWhole) (x : Vec Ideal S1x128 .f32) (l : Fin 128) : rdg a h x (ix2 0 l) = x (ix2 0 l) := by
  refine (congrFun (h.read_unread x) (Rect.emb _ _)).trans (congrArg x ?_)
  blk_ext []

/-- The run's two stores. -/
theorem run_pieces (c : Dev nD) (i : grid1.Coords) (arg2 : Memref sig .tc .vmem S2x2048x128 .bf16) (harg2 : arg2.IsWhole) (arg3 : Memref sig .tc .vmem S2x2048x128 .bf16) (harg3 : arg3.IsWhole) (arg4 : Memref sig .tc .vmem S2x2048x128 .bf16) (harg4 : arg4.IsWhole) (arg5 : Memref sig .tc .vmem S3x128 .f32) (harg5 : arg5.IsWhole) (arg6 : Memref sig .tc .vmem S1x128 .f32) (harg6 : arg6.IsWhole) (arg7 : Memref sig .tc .vmem S2x2048x128 .bf16) (harg7 : arg7.IsWhole) (arg8 : Memref sig .tc .vmem S2x2056x128 .f32) (harg8 : arg8.IsWhole)
    (x0 : Vec Ideal S2x2048x128 .bf16) (x1 : Vec Ideal S2x2048x128 .bf16) (x2 : Vec Ideal S2x2048x128 .bf16) (x3 : Vec Ideal S3x128 .f32) (x4 : Vec Ideal S1x128 .f32) :
    (kernelRun1_A (F := Ideal) c i arg2 harg2 arg3 harg3 arg4 harg4 arg5 harg5 arg6 harg6 arg7 harg7 arg8 harg8 x0 x1 x2 x3 x4).1
      = [⟨Rect.unit (s := S2x2048x128) ![1, 0, 0] S1x2048x128.size inb_S2x2048x128_S1x2048x128_1_0_0,
          k1_pay1 (F := Ideal) (k1_pay9 (F := Ideal) (rdw arg5 harg5 x3)
            (arg8.view.readCov (pc1 (k1_pay3 (F := Ideal) (rdb arg3 harg3 x1 0) (rdb arg4 harg4 x2 0)) (k1_pay8 (F := Ideal) (k1_pay7 (F := Ideal) (rdb arg3 harg3 x1 1) (rdb arg4 harg4 x2 1)))) (Rect.unit (s := S2x2056x128) ![1, 6, 0] S1x2048x128.size inb_S2x2056x128_S1x2048x128_1_6_0).toLoadRect)
            (arg8.view.readCov (pc1 (k1_pay3 (F := Ideal) (rdb arg3 harg3 x1 0) (rdb arg4 harg4 x2 0)) (k1_pay8 (F := Ideal) (k1_pay7 (F := Ideal) (rdb arg3 harg3 x1 1) (rdb arg4 harg4 x2 1)))) (Rect.unit (s := S2x2056x128) ![1, 7, 0] S1x2048x128.size inb_S2x2056x128_S1x2048x128_1_7_0).toLoadRect)
            (arg8.view.readCov (pc1 (k1_pay3 (F := Ideal) (rdb arg3 harg3 x1 0) (rdb arg4 harg4 x2 0)) (k1_pay8 (F := Ideal) (k1_pay7 (F := Ideal) (rdb arg3 harg3 x1 1) (rdb arg4 harg4 x2 1)))) (Rect.unit (s := S2x2056x128) ![1, 8, 0] S1x2048x128.size inb_S2x2056x128_S1x2048x128_1_8_0).toLoadRect)
            (rdb arg2 harg2 x0 1) (rdg arg6 harg6 x4))⟩,
        ⟨Rect.unit (s := S2x2048x128) ![0, 0, 0] S1x2048x128.size inb_S2x2048x128_S1x2048x128_0_0_0,
          k1_pay5 (F := Ideal) (k1_pay4 (F := Ideal) (rdw arg5 harg5 x3)
            (arg8.view.readCov (pc0 (k1_pay3 (F := Ideal) (rdb arg3 harg3 x1 0) (rdb arg4 harg4 x2 0))) (Rect.unit (s := S2x2056x128) ![0, 6, 0] S1x2048x128.size inb_S2x2056x128_S1x2048x128_0_6_0).toLoadRect)
            (arg8.view.readCov (pc0 (k1_pay3 (F := Ideal) (rdb arg3 harg3 x1 0) (rdb arg4 harg4 x2 0))) (Rect.unit (s := S2x2056x128) ![0, 7, 0] S1x2048x128.size inb_S2x2056x128_S1x2048x128_0_7_0).toLoadRect)
            (arg8.view.readCov (pc0 (k1_pay3 (F := Ideal) (rdb arg3 harg3 x1 0) (rdb arg4 harg4 x2 0))) (Rect.unit (s := S2x2056x128) ![0, 8, 0] S1x2048x128.size inb_S2x2056x128_S1x2048x128_0_8_0).toLoadRect))
            (rdb arg2 harg2 x0 0) (rdg arg6 harg6 x4)⟩] := by
  unfold kernelRun1_A
  rfl

theorem pay3_at (p q : FVec Ideal S1x2048x128 .bf16) (r : Fin 2048) (l : Fin 128) : k1_pay3 (F := Ideal) p q (ix3 0 r l) = p (ix3 0 r l) * q (ix3 0 r l) := by
  pointwise [k1_pay3]

theorem pay8_at (p q : FVec Ideal S1x2048x128 .bf16) (r : Fin 2048) (l : Fin 128) : k1_pay8 (F := Ideal) (k1_pay7 (F := Ideal) p q) (ix3 0 r l) = p (ix3 0 r l) * q (ix3 0 r l) := by
  pointwise [k1_pay8, k1_pay7]

theorem pay5_at (w : FVec Ideal S3x128 .f32) (t0 t1 t2 : FVec Ideal S1x2048x128 .f32) (q : FVec Ideal S1x2048x128 .bf16) (g : FVec Ideal S1x128 .f32) (r : Fin 2048) (l : Fin 128) :
    k1_pay5 (F := Ideal) (k1_pay4 (F := Ideal) w t0 t1 t2) q g (ix3 0 r l)
      = nrm (fun l => q (ix3 0 r l) * (w (ix2 0 l) * t0 (ix3 0 r l) + w (ix2 1 l) * t1 (ix3 0 r l) + w (ix2 2 l) * t2 (ix3 0 r l))) (fun l => g (ix2 0 l)) l := by
  pointwise [k1_pay5, k1_pay4, nrm]

theorem pay1_at (w : FVec Ideal S3x128 .f32) (t0 t1 t2 : FVec Ideal S1x2048x128 .f32) (q : FVec Ideal S1x2048x128 .bf16) (g : FVec Ideal S1x128 .f32) (r : Fin 2048) (l : Fin 128) :
    k1_pay1 (F := Ideal) (k1_pay9 (F := Ideal) w t0 t1 t2 q g) (ix3 0 r l)
      = nrm (fun l => q (ix3 0 r l) * (w (ix2 0 l) * t0 (ix3 0 r l) + w (ix2 1 l) * t1 (ix3 0 r l) + w (ix2 2 l) * t2 (ix3 0 r l))) (fun l => g (ix2 0 l)) l := by
  pointwise [k1_pay1, k1_pay9, nrm]

/-- The block at batch `b`, row `r`, lane `l`. -/
def blk (x0 x1 x2 : Vec Ideal S2x2048x128 .bf16) (x3 : Vec Ideal S3x128 .f32) (x4 : Vec Ideal S1x128 .f32) (b : Fin 2) (r : Fin 2048) (l : Fin 128) : EReal :=
  nrm (fun l => conv (fun k => x3 (ix2 k l)) (x0 (ix3 b r l)) (fun r => x1 (ix3 b r l) * x2 (ix3 b r l)) r) (fun l => x4 (ix2 0 l)) l

theorem store_ok (G : Fin 2 → Fin 2048 → Fin 128 → EReal) (b : Fin 2) (h : ∀ a : Fin 3, ![b.val, 0, 0] a + S1x2048x128.size a ≤ S2x2048x128.size a)
    (P : FVec Ideal S1x2048x128 .bf16) (hP : ∀ r l, P (ix3 0 r l) = G b r l) (x : S1x2048x128.Idx) :
    P x = (fun y : S2x2048x128.Idx => G (y 0) (y 1) (y 2)) ((Rect.unit (s := S2x2048x128) ![b.val, 0, 0] S1x2048x128.size h).emb x) := by
  obtain ⟨r, l, rfl⟩ : ∃ (r : Fin 2048) (l : Fin 128), x = ix3 0 r l := ⟨x 1, x 2, (eq_ix3 x).trans (by rw [Fin.fin_one_eq_zero (x 0)])⟩
  have e : (Rect.unit (s := S2x2048x128) ![b.val, 0, 0] S1x2048x128.size h).emb (ix3 0 r l) = ix3 b r l := by blk_ext []
  exact (hP r l).trans (congrArg (fun y : S2x2048x128.Idx => G (y 0) (y 1) (y 2)) e).symm

/-- The convolution from its factors. -/
theorem sum_of {q q' a b c : EReal} {w w' : Fin 3 → EReal} {f : Fin 2048 → EReal} {r : Fin 2048} (hq : q = q') (hw : ∀ k, w k = w' k)
    (ha : a = tap f 0 r) (hb : b = tap f 1 r) (hc : c = tap f 2 r) : q * (w 0 * a + w 1 * b + w 2 * c) = conv w' q' f r := by
  rw [hq, hw, hw, hw, ha, hb, hc]
  rfl

theorem out_at (c : Dev nD) (i : grid1.Coords) (arg2 : Memref sig .tc .vmem S2x2048x128 .bf16) (harg2 : arg2.IsWhole) (arg3 : Memref sig .tc .vmem S2x2048x128 .bf16) (harg3 : arg3.IsWhole) (arg4 : Memref sig .tc .vmem S2x2048x128 .bf16) (harg4 : arg4.IsWhole) (arg5 : Memref sig .tc .vmem S3x128 .f32) (harg5 : arg5.IsWhole) (arg6 : Memref sig .tc .vmem S1x128 .f32) (harg6 : arg6.IsWhole) (arg7 : Memref sig .tc .vmem S2x2048x128 .bf16) (harg7 : arg7.IsWhole) (arg8 : Memref sig .tc .vmem S2x2056x128 .f32) (harg8 : arg8.IsWhole)
    (x0 : Vec Ideal S2x2048x128 .bf16) (x1 : Vec Ideal S2x2048x128 .bf16) (x2 : Vec Ideal S2x2048x128 .bf16) (x3 : Vec Ideal S3x128 .f32) (x4 : Vec Ideal S1x128 .f32) (b : Fin 2) (r : Fin 2048) (l : Fin 128) :
    out1_A_5 (F := Ideal) c i arg2 harg2 arg3 harg3 arg4 harg4 arg5 harg5 arg6 harg6 arg7 harg7 arg8 harg8 x0 x1 x2 x3 x4 (ix3 b r l) = blk x0 x1 x2 x3 x4 b r l := by
  have hP : ∀ r l, k1_pay3 (F := Ideal) (rdb arg3 harg3 x1 0) (rdb arg4 harg4 x2 0) (ix3 0 r l) = x1 (ix3 0 r l) * x2 (ix3 0 r l) := fun r l => by
    rw [pay3_at, b_at, b_at]
  have hQ : ∀ r l, k1_pay8 (F := Ideal) (k1_pay7 (F := Ideal) (rdb arg3 harg3 x1 1) (rdb arg4 harg4 x2 1)) (ix3 0 r l) = x1 (ix3 1 r l) * x2 (ix3 1 r l) := fun r l => by
    rw [pay8_at, b_at, b_at]
  have t0 := load_at (fun b r l => x1 (ix3 b r l) * x2 (ix3 b r l)) arg8.view _ (pc0_ok _ _ hP) 0 (pc0_cov _)
  have t1 := load_at (fun b r l => x1 (ix3 b r l) * x2 (ix3 b r l)) arg8.view _ (pc1_ok _ _ _ hP hQ) 1 (pc1_cov _ _)
  unfold out1_A_5
  refine View.read_writes_apply_of_pieces VO1_5 _ (fun y : S2x2048x128.Idx => blk x0 x1 x2 x3 x4 (y 0) (y 1) (y 2)) _ ?_ (ix3 b r l)
    (cover1_A_5 c i arg2 harg2 arg3 harg3 arg4 harg4 arg5 harg5 arg6 harg6 arg7 harg7 arg8 harg8 x0 x1 x2 x3 x4 (ix3 b r l))
  rw [run_pieces]
  simp only [List.forall_mem_cons, List.not_mem_nil, false_implies, implies_true, and_true]
  refine ⟨store_ok (blk x0 x1 x2 x3 x4) 1 _ _ fun r l => ?_, store_ok (blk x0 x1 x2 x3 x4) 0 _ _ fun r l => ?_⟩
  · rw [pay1_at]
    exact congrFun (congrArg₂ nrm (funext fun l => sum_of (b_at _ _ _ 1 r l) (fun k => w_at _ _ _ k l) (t1 0 _ rfl _ r l) (t1 1 _ rfl _ r l) (t1 2 _ rfl _ r l))
      (funext fun l => g_at _ _ _ l)) l
  · rw [pay5_at]
    exact congrFun (congrArg₂ nrm (funext fun l => sum_of (b_at _ _ _ 0 r l) (fun k => w_at _ _ _ k l) (t0 0 _ rfl _ r l) (t0 1 _ rfl _ r l) (t0 2 _ rfl _ r l))
      (funext fun l => g_at _ _ _ l)) l

/-- Where each grid point's blocks lie. -/
theorem idx : ∀ t : Fin cfg1.N, win1_0.index t = ![t.val / 4, 0, 32 + t.val % 4] ∧ win1_1.index t = ![t.val / 4, 0, 36 + t.val % 4] ∧ win1_2.index t = ![t.val / 4, 0, 40 + t.val % 4]
    ∧ win1_3.index t = ![0, t.val % 4] ∧ win1_4.index t = ![0, t.val % 4] ∧ win1_5.index t = ![t.val / 4, 0, t.val % 4] :=
  (by decide +kernel : ∀ t : Fin grid1.N, _)

variable (V : (c : Dev nD) → (b : Ref sig .tc) → Buf (Elt Ideal) ((c : Thread nD τ).loc b))

theorem row0 (c : Dev nD) (t : Fin cfg1.N) (b : Fin 2) (r : Fin 2048) (l : Fin 128) (B : Fin 8) (hB : B.val = t.val / 4 * 2 + b.val) (g : Fin 4) (hg : g.val = t.val % 4) :
    (show FVec Ideal S2x2048x128 .bf16 from iblk1 V c 0 t) (ix3 b r l)
      = (show FVec Ideal S8x2048x6400 .bf16 from V c main_v2) (ix3 B r (⟨4096 + (col g l).val, by omega⟩ : Fin 6400)) := by
  blk_ext [iblk1, idx t, col]

theorem row1 (c : Dev nD) (t : Fin cfg1.N) (b : Fin 2) (r : Fin 2048) (l : Fin 128) (B : Fin 8) (hB : B.val = t.val / 4 * 2 + b.val) (g : Fin 4) (hg : g.val = t.val % 4) :
    (show FVec Ideal S2x2048x128 .bf16 from iblk1 V c 1 t) (ix3 b r l)
      = (show FVec Ideal S8x2048x6400 .bf16 from V c main_v2) (ix3 B r (⟨4608 + (col g l).val, by omega⟩ : Fin 6400)) := by
  blk_ext [iblk1, idx t, col]

theorem row2 (c : Dev nD) (t : Fin cfg1.N) (b : Fin 2) (r : Fin 2048) (l : Fin 128) (B : Fin 8) (hB : B.val = t.val / 4 * 2 + b.val) (g : Fin 4) (hg : g.val = t.val % 4) :
    (show FVec Ideal S2x2048x128 .bf16 from iblk1 V c 2 t) (ix3 b r l)
      = (show FVec Ideal S8x2048x6400 .bf16 from V c main_v2) (ix3 B r (⟨5120 + (col g l).val, by omega⟩ : Fin 6400)) := by
  blk_ext [iblk1, idx t, col]

theorem taps3 (c : Dev nD) (t : Fin cfg1.N) (k : Fin 3) (l : Fin 128) (g : Fin 4) (hg : g.val = t.val % 4) :
    (show FVec Ideal S3x128 .f32 from iblk1 V c 3 t) (ix2 k l) = (show FVec Ideal S3x512 .f32 from V c main_arg4) (ix2 k (col g l)) := by
  blk_ext [iblk1, idx t, col]

theorem gain4 (c : Dev nD) (t : Fin cfg1.N) (l : Fin 128) (g : Fin 4) (hg : g.val = t.val % 4) :
    (show FVec Ideal S1x128 .f32 from iblk1 V c 4 t) (ix2 0 l) = (show FVec Ideal S1x512 .f32 from V c main_v3) (ix2 0 (col g l)) := by
  blk_ext [iblk1, idx t, col]

/-- The output array after the second call is the reference's result, the gain's row being the vector `w`. -/
theorem final (c : Dev nD) (w : FVec Ideal S512 .f32) (hw : ∀ k : Fin 512, (show FVec Ideal S1x512 .f32 from V c main_v3) (ix2 0 k) = w (ix1 k)) :
    (dat1 V c).arrAt 5 cfg1.N
    = OUT (V c main_v2) (V c main_arg4) w := by
  refine (dat1 V c).arrAt_eq_of_covers 5 _ (by decide +kernel) fun t _ y => ?_
  blk_simp
  rw [after1_5]
  obtain ⟨b, r, l, rfl⟩ : ∃ (b : Fin 2) (r : Fin 2048) (l : Fin 128), y = ix3 b r l := ⟨y 0, y 1, y 2, eq_ix3 y⟩
  have ht : t.val < 16 := lt_of_lt_of_eq t.isLt N_1
  have he : ((cfg1.win 5).blk t).view.emb (ix3 b r l) = ix3 (⟨t.val / 4 * 2 + b.val, by omega⟩ : Fin 8) r (col ⟨t.val % 4, by omega⟩ l) := by blk_ext [idx t, col]
  refine Eq.trans (out_at c (grid1.coords t) _ (hs1_0 t) _ (hs1_1 t) _ (hs1_2 t) _ (hs1_3 t) _ (hs1_4 t) _ (hs1_5 t) _ (Memref.isWhole_whole _) _ _ _ _ _ b r l) ?_
  refine Eq.trans ?_ ((congrArg _ he).trans (OUT_at _ _ _ _ r _ l)).symm
  have q := fun l => row0 V c t b r l ⟨t.val / 4 * 2 + b.val, by omega⟩ rfl ⟨t.val % 4, by omega⟩ rfl
  have p := fun l r => congrArg₂ (· * ·) (row1 V c t b r l ⟨t.val / 4 * 2 + b.val, by omega⟩ rfl ⟨t.val % 4, by omega⟩ rfl) (row2 V c t b r l ⟨t.val / 4 * 2 + b.val, by omega⟩ rfl ⟨t.val % 4, by omega⟩ rfl)
  refine congrFun (congrArg₂ nrm (funext fun l => ?_) (funext fun l => (gain4 V c t l ⟨t.val % 4, by omega⟩ rfl).trans (hw _))) l
  exact congrFun (congr (congrArg₂ conv (funext fun k => taps3 V c t k l ⟨t.val % 4, by omega⟩ rfl) (q l)) (funext fun r => p l r)) r

end Cert.ChainIdeal.Second
-- ==== Proof.ChainThird.lean ====
/-
  The four-call program's third call: the output projection, from whatever the arrays hold when it is entered, leaves the new
  residual and the normalised residual that the reference's terms name.
-/
module

public import proofs.«01_k».proof.Proof.OutProjValue
public import proofs.«01_k».proof.Proof.Gen.ChainIdeal.Frame
public import Idealize.ShloMosaic.Lib.Pointwise
public import Idealize.ShloMosaic.Lib.Pipeline.ValueKit

@[expose] public section

set_option maxRecDepth 16384

noncomputable section

namespace Cert.ChainIdeal.Third

open Cert.ChainIdeal Cert.ChainIdeal.Gen Idealize.ShloMosaic Idealize.ShloMosaic.TcCoe Idealize.SL.Sem
open Idealize.ShloMosaic.Pipeline (Dat)
open Cert.InProjRefIdeal.Spec (nrm)
open Cert.OutProjRefIdeal.Spec (resid RES HN RES_at HN_at)

/-- The block of the new residual at an index. -/
theorem res_at (x0 : FVec Ideal S512x2048 .f32) (x1 x2 : FVec Ideal S512x512 .bf16) (x3 : FVec Ideal S512x1024 .bf16) (x4 : FVec Ideal S2048x2048 .bf16) (x5 : FVec Ideal S1x2048 .f32) (r : Fin 512) (d : Fin 2048) :
    out2_6 (F := Ideal) x0 x1 x2 x3 x4 x5 (ix2 r d)
      = resid (x0 (ix2 r d)) (fun k => x1 (ix2 r k)) (fun k => x2 (ix2 r k)) (fun k => x3 (ix2 r k)) (fun k e => x4 (ix2 k e)) d := by
  frame_out
  pointwise [k2_pay1, resid]

/-- The block of the normalised residual at an index. -/
theorem hn_at (x0 : FVec Ideal S512x2048 .f32) (x1 x2 : FVec Ideal S512x512 .bf16) (x3 : FVec Ideal S512x1024 .bf16) (x4 : FVec Ideal S2048x2048 .bf16) (x5 : FVec Ideal S1x2048 .f32) (r : Fin 512) (d : Fin 2048) :
    out2_7 (F := Ideal) x0 x1 x2 x3 x4 x5 (ix2 r d)
      = nrm (fun d => resid (x0 (ix2 r d)) (fun k => x1 (ix2 r k)) (fun k => x2 (ix2 r k)) (fun k => x3 (ix2 r k)) (fun k e => x4 (ix2 k e)) d)
          (fun k => x5 (ix2 0 k)) d := by
  frame_out
  pointwise [k2_pay1, k2_pay2, nrm, resid]

/-- The windows' block positions. -/
theorem idx : ∀ t : Fin cfg2.N, win2_0.index t = ![t.val, 0] ∧ win2_1.index t = ![t.val, 0] ∧ win2_2.index t = ![t.val, 0]
    ∧ win2_3.index t = ![t.val, 0] ∧ win2_4.index t = ![0, 0] ∧ win2_5.index t = ![0, 0] ∧ win2_6.index t = ![t.val, 0] ∧ win2_7.index t = ![t.val, 0] :=
  (by decide +kernel : ∀ t : Fin grid2.N, _)

variable (V : (c : Dev nD) → (b : Ref sig .tc) → Buf (Elt Ideal) ((c : Thread nD τ).loc b))

/-- A staged row of operand 0 is the array's row. -/
theorem row0 (c : Dev nD) (t : Fin cfg2.N) (r : Fin 512) (k : Fin 2048) (a : Fin 16384) (ha : a.val = t.val * 512 + r.val) :
    (show FVec Ideal S512x2048 .f32 from iblk2 V c 0 t) (ix2 r k) = (show FVec Ideal S16384x2048 .f32 from V c main_arg0) (ix2 a k) := by
  blk_ext [iblk2, idx t]

/-- A staged row of operand 1 is the array's row. -/
theorem row1 (c : Dev nD) (t : Fin cfg2.N) (r : Fin 512) (k : Fin 512) (a : Fin 16384) (ha : a.val = t.val * 512 + r.val) :
    (show FVec Ideal S512x512 .bf16 from iblk2 V c 1 t) (ix2 r k) = (show FVec Ideal S16384x512 .bf16 from V c main_v5) (ix2 a k) := by
  blk_ext [iblk2, idx t]

/-- A staged row of operand 2 is the array's row. -/
theorem row2 (c : Dev nD) (t : Fin cfg2.N) (r : Fin 512) (k : Fin 512) (a : Fin 16384) (ha : a.val = t.val * 512 + r.val) :
    (show FVec Ideal S512x512 .bf16 from iblk2 V c 2 t) (ix2 r k) = (show FVec Ideal S16384x512 .bf16 from V c main_arg6) (ix2 a k) := by
  blk_ext [iblk2, idx t]

/-- A staged row of operand 3 is the array's row. -/
theorem row3 (c : Dev nD) (t : Fin cfg2.N) (r : Fin 512) (k : Fin 1024) (a : Fin 16384) (ha : a.val = t.val * 512 + r.val) :
    (show FVec Ideal S512x1024 .bf16 from iblk2 V c 3 t) (ix2 r k) = (show FVec Ideal S16384x1024 .bf16 from V c main_arg7) (ix2 a k) := by
  blk_ext [iblk2, idx t]

/-- The staged weight is the array. -/
theorem weight (c : Dev nD) (t : Fin cfg2.N) (e l : Fin 2048) :
    (show FVec Ideal S2048x2048 .bf16 from iblk2 V c 4 t) (ix2 e l) = (show FVec Ideal S2048x2048 .bf16 from V c main_arg8) (ix2 e l) := by
  blk_ext [iblk2, idx t]

/-- The staged gain is the array's one row. -/
theorem gain (c : Dev nD) (t : Fin cfg2.N) (k : Fin 2048) :
    (show FVec Ideal S1x2048 .f32 from iblk2 V c 5 t) (ix2 0 k) = (show FVec Ideal S1x2048 .f32 from V c main_v6) (ix2 0 k) := by
  blk_ext [iblk2, idx t]

/-- A block's new residual is the reference's row. -/
theorem res_row (c : Dev nD) (t : Fin cfg2.N) (r : Fin 512) (a : Fin 16384) (ha : a.val = t.val * 512 + r.val) (d : Fin 2048) :
    resid ((show FVec Ideal S512x2048 .f32 from iblk2 V c 0 t) (ix2 r d)) (fun k => (show FVec Ideal S512x512 .bf16 from iblk2 V c 1 t) (ix2 r k))
        (fun k => (show FVec Ideal S512x512 .bf16 from iblk2 V c 2 t) (ix2 r k)) (fun k => (show FVec Ideal S512x1024 .bf16 from iblk2 V c 3 t) (ix2 r k))
        (fun k e => (show FVec Ideal S2048x2048 .bf16 from iblk2 V c 4 t) (ix2 k e)) d
      = RES (V c main_arg0) (V c main_v5) (V c main_arg6) (V c main_arg7) (V c main_arg8) (ix2 a d) := by
  refine Eq.trans ?_ (RES_at _ _ _ _ _ a d).symm
  rw [row0 V c t r d a ha, funext fun k => row1 V c t r k a ha, funext fun k => row2 V c t r k a ha, funext fun k => row3 V c t r k a ha,
    funext fun k => funext fun e => weight V c t k e]

/-- The new residual's array after the third call. -/
theorem final6 (c : Dev nD) : (dat2 V c).arrAt 6 cfg2.N = RES (V c main_arg0) (V c main_v5) (V c main_arg6) (V c main_arg7) (V c main_arg8) := by
  refine (dat2 V c).arrAt_eq_of_covers 6 _ (by decide +kernel) fun t _ y => ?_
  blk_simp
  rw [after2_6]
  obtain ⟨r, d, rfl⟩ : ∃ (r : Fin 512) (d : Fin 2048), y = ix2 r d := ⟨y 0, y 1, eq_ix2 y⟩
  refine (res_at _ _ _ _ _ _ r d).trans ?_
  have ht : t.val < 32 := lt_of_lt_of_eq t.isLt N_2
  have he : ((cfg2.win 6).blk t).view.emb (ix2 r d) = ix2 (⟨t.val * 512 + r.val, by omega⟩ : Fin 16384) d := by blk_ext [idx t]
  exact (res_row V c t r _ rfl d).trans (congrArg _ he).symm

/-- The normalised residual's array after the third call, the gain's row being the vector `g`. -/
theorem final7 (c : Dev nD) (g : FVec Ideal S2048 .f32) (hg : ∀ k : Fin 2048, (show FVec Ideal S1x2048 .f32 from V c main_v6) (ix2 0 k) = g (ix1 k)) :
    (dat2 V c).arrAt 7 cfg2.N = HN (V c main_arg0) (V c main_v5) (V c main_arg6) (V c main_arg7) (V c main_arg8) g := by
  refine (dat2 V c).arrAt_eq_of_covers 7 _ (by decide +kernel) fun t _ y => ?_
  blk_simp
  rw [after2_7]
  obtain ⟨r, d, rfl⟩ : ∃ (r : Fin 512) (d : Fin 2048), y = ix2 r d := ⟨y 0, y 1, eq_ix2 y⟩
  refine (hn_at _ _ _ _ _ _ r d).trans ?_
  have ht : t.val < 32 := lt_of_lt_of_eq t.isLt N_2
  have he : ((cfg2.win 7).blk t).view.emb (ix2 r d) = ix2 (⟨t.val * 512 + r.val, by omega⟩ : Fin 16384) d := by blk_ext [idx t]
  refine Eq.trans ?_ ((congrArg _ he).trans (HN_at _ _ _ _ _ _ _ d)).symm
  exact congrFun (congrArg₂ nrm (funext fun d => res_row V c t r _ rfl d) (funext fun k => (gain V c t k).trans (hg k))) d

end Cert.ChainIdeal.Third

end
-- ==== Proof.ChainFourth.lean ====
/-
  The four-call program's fourth call: the feed-forward part, from whatever the arrays hold when it is entered, accumulates
  over four blocks of hidden columns what the reference contracts at once.
-/
module

public import proofs.«01_k».proof.Proof.MlpValue
public import proofs.«01_k».proof.Proof.Gen.ChainIdeal.Frame
public import Idealize.ShloMosaic.Lib.Pointwise
public import Idealize.ShloMosaic.Lib.Pipeline.ValueKit

@[expose] public section

set_option maxRecDepth 16384

noncomputable section

namespace Cert.ChainIdeal.Fourth

open Cert.ChainIdeal Cert.ChainIdeal.Gen Idealize.ShloMosaic Idealize.ShloMosaic.TcCoe Idealize.SL.Sem
open Idealize.ShloMosaic.Pipeline (Dat)
open Cert.MlpIdeal.Acc (sqRelu term)
open Cert.MlpRefIdeal.Spec (REF REF_at)

/-- One accumulation step at an index: the old entry plus the step's 2048 hidden columns times the second weight. -/
theorem step_at (x : FVec Ideal S512x2048 .bf16) (w : FVec Ideal S2048x2048 .bf16) (acc : FVec Ideal S512x2048 .f32)
    (u : FVec Ideal S2048x2048 .bf16) (r : Fin 512) (d : Fin 2048) :
    k3_pay2 (F := Ideal) x w acc u (ix2 r d)
      = acc (ix2 r d) + ∑ k : Fin 2048, sqRelu (∑ l : Fin 2048, x (ix2 r l) * w (ix2 l k)) * u (ix2 k d) := by
  pointwise [k3_pay2, sqRelu]

theorem zz : (![0, 0] : Fin 2 → Nat) = fun _ => 0 := funext fun a => by fin_cases a <;> rfl

variable (V : (c : Dev nD) → (b : Ref sig .tc) → Buf (Elt Ideal) ((c : Thread nD τ).loc b))

/-- What the body leaves at the first block of hidden columns: one step from the residual's block. -/
theorem left_first (c : Dev nD) (i : grid3.Coords) (a0 : Memref sig .tc .vmem S512x2048 .f32) (h0 : a0.IsWhole) (a1 : Memref sig .tc .vmem S512x2048 .bf16) (h1 : a1.IsWhole) (a2 : Memref sig .tc .vmem S2048x2048 .bf16) (h2 : a2.IsWhole) (a3 : Memref sig .tc .vmem S2048x2048 .bf16) (h3 : a3.IsWhole) (a4 : Memref sig .tc .vmem S512x2048 .f32) (h4 : a4.IsWhole) (hc : cond3_0 i)
    (x0 : FVec Ideal S512x2048 .f32) (x1 : FVec Ideal S512x2048 .bf16) (x2 x3 : FVec Ideal S2048x2048 .bf16) :
    out3_A_4 (F := Ideal) c i a0 h0 a1 h1 a2 h2 a3 h3 a4 h4 hc x0 x1 x2 x3 = k3_pay2 (F := Ideal) x1 x2 x0 x3 := by
  unfold out3_A_4
  rw [View.read_writes_eq_canon _ _ _ (cover3_A_4 (F := Ideal) c i a0 h0 a1 h1 a2 h2 a3 h3 a4 h4 hc x0 x1 x2 x3)]
  unfold kernelRun3_A
  dsimp only
  try sl_unfold_words
  rw [View.canon_cons_unit_zero (S := S512x2048) zz, View.readCov_unit_zero (S := S512x2048) _ zz]
  simp only [View.readAt_eq_ld, h0.read_unread, h1.read_unread, h2.read_unread, h3.read_unread, View.ld_unit_zero (S := S2048x2048) zz, View.ld_unit_zero (S := S512x2048) zz, shapeCast_self, k3_pay1]

/-- What it leaves at a later block: one step from what the buffer held. -/
theorem left_later (c : Dev nD) (i : grid3.Coords) (a0 : Memref sig .tc .vmem S512x2048 .f32) (h0 : a0.IsWhole) (a1 : Memref sig .tc .vmem S512x2048 .bf16) (h1 : a1.IsWhole) (a2 : Memref sig .tc .vmem S2048x2048 .bf16) (h2 : a2.IsWhole) (a3 : Memref sig .tc .vmem S2048x2048 .bf16) (h3 : a3.IsWhole) (a4 : Memref sig .tc .vmem S512x2048 .f32) (h4 : a4.IsWhole) (hc : ¬cond3_0 i)
    (x0 : FVec Ideal S512x2048 .f32) (x1 : FVec Ideal S512x2048 .bf16) (x2 x3 : FVec Ideal S2048x2048 .bf16) (acc : FVec Ideal S512x2048 .f32) :
    out3_B_4 (F := Ideal) c i a0 h0 a1 h1 a2 h2 a3 h3 a4 h4 hc x0 x1 x2 x3 acc = k3_pay2 (F := Ideal) x1 x2 acc x3 := by
  unfold out3_B_4
  rw [View.read_writes_eq_canon _ _ _ (cover3_B_4 (F := Ideal) c i a0 h0 a1 h1 a2 h2 a3 h3 a4 h4 hc x0 x1 x2 x3 acc)]
  unfold kernelRun3_B
  dsimp only
  try sl_unfold_words
  rw [View.canon_unit_zero zz]
  simp only [View.readAt_eq_ld, h1.read_unread, h2.read_unread, h3.read_unread, h4.read_unread, View.ld_unit_zero (S := S2048x2048) zz, View.ld_unit_zero (S := S512x2048) zz, shapeCast_self]

/-- At the first block of hidden columns the accumulator starts from the residual's block. -/
theorem at_first (c : Dev nD) (t : Fin cfg3.N) (h : t.val % 4 = 0) :
    outsAt3 V c t.val t.isLt = k3_pay2 (F := Ideal) (iblk3 V c 1 t) (iblk3 V c 2 t) (iblk3 V c 0 t) (iblk3 V c 3 t) := by
  rw [outsAt3_A V c t h]
  exact left_first ..

/-- At a later block it goes on from what the point before left. -/
theorem at_later (c : Dev nD) (t : Fin cfg3.N) (h : ¬t.val % 4 = 0) :
    outsAt3 V c t.val t.isLt = k3_pay2 (F := Ideal) (iblk3 V c 1 t) (iblk3 V c 2 t) (outsAt3 V c (t.val - 1) (Nat.lt_of_le_of_lt (Nat.sub_le _ _) t.isLt)) (iblk3 V c 3 t) := by
  rw [outsAt3_B V c t h]
  exact left_later ..

/-- The windows' block positions at each grid point. -/
theorem idx : ∀ t : Fin cfg3.N, win3_0.index t = ![t.val / 4, 0] ∧ win3_1.index t = ![t.val / 4, 0]
    ∧ win3_2.index t = ![0, t.val % 4] ∧ win3_3.index t = ![t.val % 4, 0] ∧ win3_4.index t = ![t.val / 4, 0] :=
  (by decide +kernel : ∀ t : Fin grid3.N, _)

/-- A point's addend, over the arrays. -/
theorem part (c : Dev nD) (t : Fin cfg3.N) (f : Fin 4) (a : Fin 16384) (r : Fin 512) (d : Fin 2048)
    (ha : a.val = t.val / 4 * 512 + r.val) (hf : f.val = t.val % 4) :
    (∑ k : Fin 2048, sqRelu (∑ l : Fin 2048, (show FVec Ideal S512x2048 .bf16 from iblk3 V c 1 t) (ix2 r l)
        * (show FVec Ideal S2048x2048 .bf16 from iblk3 V c 2 t) (ix2 l k)) * (show FVec Ideal S2048x2048 .bf16 from iblk3 V c 3 t) (ix2 k d))
      = ∑ k : Fin 2048, term (V c main_v7_1) (V c main_arg10) (V c main_arg11) a d ⟨f.val * 2048 + k.val, by omega⟩ := by
  unfold term
  blk_point [iblk3, idx t]

/-- The accumulator's starting block is the residual's block. -/
theorem start (c : Dev nD) (t : Fin cfg3.N) (a : Fin 16384) (r : Fin 512) (d : Fin 2048) (ha : a.val = t.val / 4 * 512 + r.val) :
    (show FVec Ideal S512x2048 .f32 from iblk3 V c 0 t) (ix2 r d) = (show FVec Ideal S16384x2048 .f32 from V c main_v7_0) (ix2 a d) := by
  blk_ext [iblk3, idx t]

/-- What the accumulator holds after a point: the residual and the addends of its run's points so far. -/
theorem held (c : Dev nD) (q : Fin 32) (a : Fin 16384) (r : Fin 512) (d : Fin 2048) (ha : a.val = q.val * 512 + r.val) :
    ∀ (j : ℕ) (hj : j < 4) (h : 4 * q.val + j < cfg3.N),
      (show FVec Ideal S512x2048 .f32 from outsAt3 V c (4 * q.val + j) h) (ix2 r d)
        = (show FVec Ideal S16384x2048 .f32 from V c main_v7_0) (ix2 a d)
          + ∑ f : Fin (j + 1), ∑ k : Fin 2048, term (V c main_v7_1) (V c main_arg10) (V c main_arg11) a d ⟨f.val * 2048 + k.val, by omega⟩ := by
  intro j
  induction j with
  | zero =>
    intro hj h
    refine (congrFun (at_first V c ⟨4 * q.val + 0, h⟩ (by simp only; omega)) _).trans ((step_at _ _ _ _ r d).trans ?_)
    refine congrArg₂ (· + ·) (start V c ⟨4 * q.val + 0, h⟩ a r d (by simp only; omega)) ((part V c ⟨4 * q.val + 0, h⟩ 0 a r d (by simp only; omega) (by simp only [Fin.val_zero]; omega)).trans ?_)
    exact (Fin.sum_univ_one fun f : Fin 1 => ∑ k : Fin 2048, term (V c main_v7_1) (V c main_arg10) (V c main_arg11) a d ⟨f.val * 2048 + k.val, by omega⟩).symm
  | succ j ih =>
    intro hj h
    refine (congrFun (at_later V c ⟨4 * q.val + (j + 1), h⟩ (by simp only; omega)) _).trans ((step_at _ _ _ _ r d).trans ?_)
    rw [Fin.sum_univ_castSucc (n := j + 1) fun f : Fin (j + 1 + 1) => ∑ k : Fin 2048, term (V c main_v7_1) (V c main_arg10) (V c main_arg11) a d ⟨f.val * 2048 + k.val, by omega⟩]
    refine Eq.trans ?_ (add_assoc (G := EReal) _ _ _)
    exact congrArg₂ (· + ·) (ih (by omega) (by omega)) (part V c ⟨4 * q.val + (j + 1), h⟩ ⟨j + 1, hj⟩ a r d (by simp only; omega) (by simp only; omega))

/-- The layer output's array after the fourth call. -/
theorem final4 (c : Dev nD) : (dat3 V c).arrAt 4 cfg3.N = REF (V c main_v7_0) (V c main_v7_1) (V c main_arg10) (V c main_arg11) := by
  refine (dat3 V c).arrAt_eq_of_covers 4 _ (by decide +kernel) fun t hfl y => ?_
  have hm : t.val % 4 = 3 := (by decide +kernel : ∀ t : Fin cfg3.N, (cfg3.win 4).flush t = true → t.val % 4 = 3) t hfl
  blk_simp
  rw [after3_4]
  obtain ⟨r, d, rfl⟩ : ∃ (r : Fin 512) (d : Fin 2048), y = ix2 r d := ⟨y 0, y 1, eq_ix2 y⟩
  have ht : t.val < 128 := lt_of_lt_of_eq t.isLt N_3
  have he : ((cfg3.win 4).blk t).view.emb (ix2 r d) = ix2 (⟨t.val / 4 * 512 + r.val, by omega⟩ : Fin 16384) d := by blk_ext [idx t]
  refine Eq.trans ?_ ((congrArg _ he).trans (REF_at _ _ _ _ _ d)).symm
  have hv : t.val = 4 * (t.val / 4) + 3 := by omega
  have e : ∀ (n : ℕ) (hn : n < cfg3.N), t.val = n → outsAt3 V c t.val t.isLt = outsAt3 V c n hn := by intro n hn h; subst h; rfl
  refine (congrFun (e _ (lt_of_eq_of_lt hv.symm t.isLt) hv) _).trans ((held V c ⟨t.val / 4, by omega⟩ ⟨t.val / 4 * 512 + r.val, by omega⟩ r d rfl 3 (by omega) _).trans ?_)
  exact congrArg (_ + ·) (Fin.sum_univ_tiles 4 2048 rfl (fun l : Fin 8192 => term _ _ _ _ d l)).symm

end Cert.ChainIdeal.Fourth

end
-- ==== Proof.ChainRun.lean ====
/-
  The four-call program's run: the launch of its four regions, with the arrays of the layer output and of the gates read off
  the last boundary.
-/
module

public import proofs.«01_k».proof.Proof.Gen.ChainIdeal.Frame

@[expose] public section

set_option maxRecDepth 16384

noncomputable section

namespace Cert.ChainIdeal.Joined

open Cert.ChainIdeal Cert.ChainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The gates' array at the end is what the first region leaves there: nothing after it writes that array. -/
theorem W7_gates (c : Dev nD) : W7 m ρ c (Proc.devRef .tc main_v1_1) = (dat0 (V1 m ρ) c).arrAt 5 cfg0.N :=
  (W7_of m ρ c main_v1_1 (by decide)).trans ((W6_of m ρ c main_v1_1 (by decide)).trans ((W5_of m ρ c main_v1_1 (by decide)).trans
    ((W4_of m ρ c main_v1_1 (by decide)).trans ((W3_of m ρ c main_v1_1 (by decide)).trans (W2_arr m ρ c 5)))))

set_option backward.isDefEq.respectTransparency.types false in
/-- Every weakly fair run of the four-call program ends with the layer output's array at what the fourth region leaves there, the
    gates' at what the first leaves there and the arguments as launched. -/
theorem run : θ_run defs (onTc (τ := τ) (main (F := F))) ⟨m, fun _ => 0, ρ⟩ (fun r => ∀ c : Dev nD,
      r.2.mem ((c.tc : Thread nD τ).loc main_v8) = (dat3 (V6 m ρ) c).arrAt 4 cfg3.N
      ∧ r.2.mem ((c.tc : Thread nD τ).loc main_v1_1) = (dat0 (V1 m ρ) c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨(h c _ (mem_uc main_v8 (by decide))).trans (W7_arr m ρ c 4),
       (h c _ (mem_uc main_v1_1 (by decide))).trans (W7_gates m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.ChainIdeal.Joined

end
-- ==== Proof.ChainReference.lean ====
/-
  The four-call program's reference, as the single calls' references one after another.
-/
module

public import proofs.«01_k».proof.Proof.InProjValue
public import proofs.«01_k».proof.Proof.ConvSpec
public import proofs.«01_k».proof.Proof.OutProjValue
public import proofs.«01_k».proof.Proof.MlpValue
public import proofs.«01_k».proof.Proof.Gen.ChainIdeal.Launch
public import proofs.«01_k».proof.Proof.Gen.ChainRefIdeal.Run
public import Idealize.ShloMosaic.Lib.Pointwise

@[expose] public section

set_option maxRecDepth 16384

noncomputable section

namespace Cert.ChainRefIdeal.Spec

open Cert.ChainRefIdeal Cert.ChainRefIdeal.Gen Idealize.ShloMosaic Idealize.ShloMosaic.TcCoe Idealize.SL.Sem
open Cert.ChainRefIdeal.Value
open Cert.InProjRefIdeal.Spec (PROJ GATES)
open Cert.ConvRefIdeal.Spec (prod padded convV normV OUT)
open Cert.OutProjRefIdeal.Spec (RES HN)
open Cert.MlpRefIdeal.Spec (REF)

/-- The projections, by batch. -/
def BATCH (x0 : FVec Ideal S16384x2048 .f32) (x1 : FVec Ideal S2048 .f32) (x2 : FVec Ideal S6400x2048 .bf16) : FVec Ideal S8x2048x6400 .bf16 :=
  shapeCast S8x2048x6400 (PROJ x0 x1 x2 : FVec Ideal S16384x6400 .bf16) shapeCasts_S16384x6400_S8x2048x6400

/-- The convolution's result over the batches, flat. -/
def MIXED (p : FVec Ideal S8x2048x6400 .bf16) (x4 : FVec Ideal S3x512 .f32) (x5 : FVec Ideal S512 .f32) : FVec Ideal S16384x512 .bf16 :=
  shapeCast S16384x512 (OUT p x4 x5 : FVec Ideal S8x2048x512 .bf16) Cert.ChainIdeal.Facts₀.shapeCasts_S8x2048x512_S16384x512

/-- The layer's output. -/
def LAYER (x0 : FVec Ideal S16384x2048 .f32) (x1 : FVec Ideal S2048 .f32) (x2 : FVec Ideal S6400x2048 .bf16) (x4 : FVec Ideal S3x512 .f32) (x5 : FVec Ideal S512 .f32)
    (x6 : FVec Ideal S16384x512 .bf16) (x7 : FVec Ideal S16384x1024 .bf16) (x8 : FVec Ideal S2048x2048 .bf16) (x9 : FVec Ideal S2048 .f32)
    (x10 : FVec Ideal S2048x8192 .bf16) (x11 : FVec Ideal S8192x2048 .bf16) : FVec Ideal S16384x2048 .f32 :=
  REF (RES x0 (MIXED (BATCH x0 x1 x2) x4 x5) x6 x7 x8) (HN x0 (MIXED (BATCH x0 x1 x2) x4 x5) x6 x7 x8 x9) x10 x11

variable (V0 : Valuation τ sig (Elt Ideal))

theorem batch_eq : res_main_v19 V0 = BATCH (V0 (Proc.devRef .tc main_arg0)) (V0 (Proc.devRef .tc main_arg1)) (V0 (Proc.devRef .tc main_arg2)) := rfl

/-- The convolution's rows before the normalisation, by groups of 128 columns. -/
theorem groups_eq : res_main_v46 V0
    = shapeCast S8x2048x4x128 (convV (res_main_v19 V0) (V0 (Proc.devRef .tc main_arg4)) (padded (prod (res_main_v19 V0)))) Cert.ConvRefIdeal.Facts₀.shapeCasts_S8x2048x512_S8x2048x4x128 := rfl

/-- Normalised groups flattened at once are the groups flattened by batch and then over the batches. -/
theorem flat_eq (y : FVec Ideal S8x2048x512 .f32) (x5 : FVec Ideal S512 .f32) :
    ((shapeCast S16384x512 (mulf (mulf (shapeCast S8x2048x4x128 y Cert.ConvRefIdeal.Facts₀.shapeCasts_S8x2048x512_S8x2048x4x128) (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf (shapeCast S8x2048x4x128 y Cert.ConvRefIdeal.Facts₀.shapeCasts_S8x2048x512_S8x2048x4x128) (shapeCast S8x2048x4x128 y Cert.ConvRefIdeal.Facts₀.shapeCasts_S8x2048x512_S8x2048x4x128)) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x4x128_S8x2048x4x128_0_1_2_3 (broadcastInDim S1x1x4x128 ![2, 3] bcast_S4x128_S1x1x4x128_2_3 (shapeCast S4x128 x5 shapeCasts_S512_S4x128)))) shapeCasts_S8x2048x4x128_S16384x512) : FVec Ideal S16384x512 .f32)
      = shapeCast S16384x512 (normV y x5) Cert.ChainIdeal.Facts₀.shapeCasts_S8x2048x512_S16384x512 :=
  (shapeCast_comp _ Cert.ConvRefIdeal.Facts₀.shapeCasts_S8x2048x4x128_S8x2048x512 Cert.ChainIdeal.Facts₀.shapeCasts_S8x2048x512_S16384x512).symm

/-- The residual over the first of the concatenation's operands. -/
def resOver (x0 : FVec Ideal S16384x2048 .f32) (x6 : FVec Ideal S16384x512 .bf16) (x7 : FVec Ideal S16384x1024 .bf16) (x8 : FVec Ideal S2048x2048 .bf16)
    (yy : FVec Ideal S16384x512 .f32) : FVec Ideal S16384x2048 .f32 :=
  addf x0 (Host.dotGeneral dot_S16384x2048_S2048x2048_S16384x2048_1_0_0_1_n_n none ((concatenate S16384x2048 1 [⟨S16384x512, (yy : (⟨S16384x512, .f32⟩ : BufTy).Contents (Elt Ideal))⟩, ⟨S16384x512, ((extf .f32 x6 bitsLt_bf16_f32) : (⟨S16384x512, .f32⟩ : BufTy).Contents (Elt Ideal))⟩, ⟨S16384x1024, ((extf .f32 x7 bitsLt_bf16_f32) : (⟨S16384x1024, .f32⟩ : BufTy).Contents (Elt Ideal))⟩] concatenates_S16384x512_S16384x512_S16384x1024_S16384x2048_d1 : FVec Ideal S16384x2048 .f32)) (extf .f32 x8 bitsLt_bf16_f32))

/-- It is the output projection's residual. -/
theorem resOver_eq (x0 : FVec Ideal S16384x2048 .f32) (x6 : FVec Ideal S16384x512 .bf16) (x7 : FVec Ideal S16384x1024 .bf16) (x8 : FVec Ideal S2048x2048 .bf16)
    (yy : FVec Ideal S16384x512 .bf16) : resOver x0 x6 x7 x8 yy = RES x0 yy x6 x7 x8 := rfl

theorem mixed_eq : ((shapeCast _ (mulf (mulf (res_main_v46 V0) (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf (res_main_v46 V0) (res_main_v46 V0)) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x4x128_S8x2048x4x128_0_1_2_3 (broadcastInDim S1x1x4x128 ![2, 3] bcast_S4x128_S1x1x4x128_2_3 (shapeCast _ (V0 (Proc.devRef .tc main_arg5)) shapeCasts_S512_S4x128)))) shapeCasts_S8x2048x4x128_S16384x512) : FVec Ideal S16384x512 .f32)
    = MIXED (res_main_v19 V0) (V0 (Proc.devRef .tc main_arg4)) (V0 (Proc.devRef .tc main_arg5)) := by
  rw [groups_eq V0]
  exact flat_eq _ _

theorem res_eq : res_main_v67 V0 = RES (V0 (Proc.devRef .tc main_arg0)) (MIXED (res_main_v19 V0) (V0 (Proc.devRef .tc main_arg4)) (V0 (Proc.devRef .tc main_arg5))) (V0 (Proc.devRef .tc main_arg6)) (V0 (Proc.devRef .tc main_arg7)) (V0 (Proc.devRef .tc main_arg8)) :=
  (congrArg (resOver (V0 (Proc.devRef .tc main_arg0)) (V0 (Proc.devRef .tc main_arg6)) (V0 (Proc.devRef .tc main_arg7)) (V0 (Proc.devRef .tc main_arg8))) (mixed_eq V0)).trans (resOver_eq _ _ _ _ _)

/-- The reference program's first result is the layer's output. -/
theorem layer_eq : (addf (res_main_v67 V0) (Host.dotGeneral dot_S16384x8192_S8192x2048_S16384x2048_1_0_0_1_n_n none (mulf (φ := .f32) (res_main_v84 V0) (res_main_v84 V0)) (extf (φ := .bf16) .f32 (V0 (Proc.devRef .tc main_arg11)) bitsLt_bf16_f32)) : FVec Ideal S16384x2048 .f32)
    = LAYER (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold LAYER
  rw [← batch_eq V0]
  have h : res_main_v67 V0 = _ := res_eq V0
  rw [res_main_v84, h]
  rfl

/-- Its second result is the gates. -/
theorem gates_eq : Host.dotGeneral dot_S16384x2048_S2048x128_S16384x128_1_0_0_1_n_n none (res_main_v12 V0) (extf .f32 (shapeCast _ (extractStridedSlice S1x2048x128 ![0, 0, 0] (V0 (Proc.devRef .tc main_arg3)) slices_S2x2048x128_S1x2048x128_0_0_0) shapeCasts_S1x2048x128_S2048x128) bitsLt_bf16_f32)
    = GATES (V0 (Proc.devRef .tc main_arg0)) (V0 (Proc.devRef .tc main_arg1)) (V0 (Proc.devRef .tc main_arg3)) := rfl

end Cert.ChainRefIdeal.Spec

end
-- ==== Proof.ChainValue.lean ====
/-
  The four-call program's value: each call's array over what the calls before it left, down to the arguments, is the
  reference's layer output and gates.
-/
module

public import proofs.«01_k».proof.Proof.ChainFirst
public import proofs.«01_k».proof.Proof.ChainSecond
public import proofs.«01_k».proof.Proof.ChainThird
public import proofs.«01_k».proof.Proof.ChainFourth
public import proofs.«01_k».proof.Proof.ChainRun
public import proofs.«01_k».proof.Proof.ChainReference

@[expose] public section

set_option maxRecDepth 16384

noncomputable section

namespace Cert.ChainIdeal.Joined

open Cert.ChainIdeal Cert.ChainIdeal.Gen Idealize.ShloMosaic Idealize.ShloMosaic.TcCoe Idealize.SL.Sem
open Cert.InProjRefIdeal.Spec (PROJ GATES)
open Cert.ConvRefIdeal.Spec (OUT)
open Cert.OutProjRefIdeal.Spec (RES HN)
open Cert.MlpRefIdeal.Spec (REF)
open Cert.ChainRefIdeal.Spec (BATCH MIXED LAYER)

variable (m : (ℓ : Loc nD τ sig) → Buf (Elt Ideal) ℓ) (ρ : Dev nD → PrngReg)

/-- The first region finds an argument as launched. -/
theorem entry1 (c : Dev nD) (a : Ref sig .tc) (h : a ∈ argRefs) : V1 m ρ c a = m ((c : Thread nD τ).loc a) := W1_args m ρ c a h
/-- So does the second. -/
theorem entry3 (c : Dev nD) (a : Ref sig .tc) (h : a ∈ argRefs) : V3 m ρ c a = m ((c : Thread nD τ).loc a) := W3_args m ρ c a h
/-- So does the third. -/
theorem entry5 (c : Dev nD) (a : Ref sig .tc) (h : a ∈ argRefs) : V5 m ρ c a = m ((c : Thread nD τ).loc a) := W5_args m ρ c a h
/-- So does the fourth. -/
theorem entry6 (c : Dev nD) (a : Ref sig .tc) (h : a ∈ argRefs) : V6 m ρ c a = m ((c : Thread nD τ).loc a) := W6_args m ρ c a h

/-- The first region finds the first gain as one row. -/
theorem gain1 (c : Dev nD) (k : Fin 2048) : (show FVec Ideal S1x2048 .f32 from V1 m ρ c main_v0) (ix2 0 k)
    = (show FVec Ideal S2048 .f32 from m ((c : Thread nD τ).loc main_arg1)) (ix1 k) := by
  have e : (show FVec Ideal S1x2048 .f32 from V1 m ρ c main_v0)
      = broadcastInDim S1x2048 ![1] bcast_S2048_S1x2048_1 (show FVec Ideal S2048 .f32 from W0 m ρ c (Proc.devRef .tc main_arg1)) := by
    show StableHlo.after hostOps0 (W0 m ρ c) _ = _
    after_results
  rw [e, show W0 m ρ c (Proc.devRef .tc main_arg1) = m ((c : Thread nD τ).loc main_arg1) from W0_args m ρ c main_arg1 (by decide)]
  pointwise

/-- The second region finds the gain of the convolution's heads as one row. -/
theorem gain2 (c : Dev nD) (k : Fin 512) : (show FVec Ideal S1x512 .f32 from V3 m ρ c main_v3) (ix2 0 k)
    = (show FVec Ideal S512 .f32 from m ((c : Thread nD τ).loc main_arg5)) (ix1 k) := by
  have e : (show FVec Ideal S1x512 .f32 from V3 m ρ c main_v3)
      = broadcastInDim S1x512 ![1] bcast_S512_S1x512_1 (show FVec Ideal S512 .f32 from W2 m ρ c (Proc.devRef .tc main_arg5)) := by
    show StableHlo.after hostOps1 (W2 m ρ c) _ = _
    after_results
  rw [e, show W2 m ρ c (Proc.devRef .tc main_arg5) = m ((c : Thread nD τ).loc main_arg5) from W2_args m ρ c main_arg5 (by decide)]
  pointwise

/-- The third region finds the second gain as one row. -/
theorem gain3 (c : Dev nD) (k : Fin 2048) : (show FVec Ideal S1x2048 .f32 from V5 m ρ c main_v6) (ix2 0 k)
    = (show FVec Ideal S2048 .f32 from m ((c : Thread nD τ).loc main_arg9)) (ix1 k) := by
  have e : (show FVec Ideal S1x2048 .f32 from V5 m ρ c main_v6)
      = broadcastInDim S1x2048 ![1] bcast_S2048_S1x2048_1 (show FVec Ideal S2048 .f32 from W4 m ρ c (Proc.devRef .tc main_arg9)) := by
    show StableHlo.after hostOps2 (W4 m ρ c) _ = _
    after_results
  rw [e, show W4 m ρ c (Proc.devRef .tc main_arg9) = m ((c : Thread nD τ).loc main_arg9) from W4_args m ρ c main_arg9 (by decide)]
  pointwise

/-- The second region finds the projections by batch. -/
theorem mid2 (c : Dev nD) : V3 m ρ c main_v2 = BATCH (m ((c : Thread nD τ).loc main_arg0)) (m ((c : Thread nD τ).loc main_arg1)) (m ((c : Thread nD τ).loc main_arg2)) := by
  have e : (show FVec Ideal S8x2048x6400 .bf16 from V3 m ρ c main_v2)
      = shapeCast S8x2048x6400 (show FVec Ideal S16384x6400 .bf16 from W2 m ρ c (Proc.devRef .tc main_v1_0)) shapeCasts_S16384x6400_S8x2048x6400 := by
    show StableHlo.after hostOps1 (W2 m ρ c) _ = _
    after_results
    rfl
  have p : W2 m ρ c (Proc.devRef .tc main_v1_0) = PROJ (m ((c : Thread nD τ).loc main_arg0)) (m ((c : Thread nD τ).loc main_arg1)) (m ((c : Thread nD τ).loc main_arg2)) := by
    refine (W2_arr m ρ c 4).trans ((Cert.ChainIdeal.First.final4 (V1 m ρ) c _ (gain1 m ρ c)).trans ?_)
    rw [entry1 m ρ c main_arg0 (by decide), entry1 m ρ c main_arg2 (by decide)]
  refine Eq.trans e ?_
  rw [p]
  rfl

/-- The third region finds the convolution's result flat. -/
theorem mid5 (c : Dev nD) : V5 m ρ c main_v5 = MIXED (BATCH (m ((c : Thread nD τ).loc main_arg0)) (m ((c : Thread nD τ).loc main_arg1)) (m ((c : Thread nD τ).loc main_arg2))) (m ((c : Thread nD τ).loc main_arg4)) (m ((c : Thread nD τ).loc main_arg5)) := by
  have e : (show FVec Ideal S16384x512 .bf16 from V5 m ρ c main_v5)
      = shapeCast S16384x512 (show FVec Ideal S8x2048x512 .bf16 from W4 m ρ c (Proc.devRef .tc main_v4)) shapeCasts_S8x2048x512_S16384x512 := by
    show StableHlo.after hostOps2 (W4 m ρ c) _ = _
    after_results
    rfl
  have p : W4 m ρ c (Proc.devRef .tc main_v4) = OUT (BATCH (m ((c : Thread nD τ).loc main_arg0)) (m ((c : Thread nD τ).loc main_arg1)) (m ((c : Thread nD τ).loc main_arg2))) (m ((c : Thread nD τ).loc main_arg4)) (m ((c : Thread nD τ).loc main_arg5)) := by
    refine (W4_arr m ρ c 5).trans ((Cert.ChainIdeal.Second.final (V3 m ρ) c _ (gain2 m ρ c)).trans ?_)
    rw [mid2 m ρ c, entry3 m ρ c main_arg4 (by decide)]
  refine Eq.trans e ?_
  rw [p]
  rfl

/-- The fourth region finds the new residual in its first operand. -/
theorem mid6 (c : Dev nD) : V6 m ρ c main_v7_0 = RES (m ((c : Thread nD τ).loc main_arg0)) (MIXED (BATCH (m ((c : Thread nD τ).loc main_arg0)) (m ((c : Thread nD τ).loc main_arg1)) (m ((c : Thread nD τ).loc main_arg2))) (m ((c : Thread nD τ).loc main_arg4)) (m ((c : Thread nD τ).loc main_arg5))) (m ((c : Thread nD τ).loc main_arg6)) (m ((c : Thread nD τ).loc main_arg7)) (m ((c : Thread nD τ).loc main_arg8)) := by
  refine (W6_arr m ρ c 6).trans ((Cert.ChainIdeal.Third.final6 (V5 m ρ) c).trans ?_)
  rw [entry5 m ρ c main_arg0 (by decide), mid5 m ρ c, entry5 m ρ c main_arg6 (by decide), entry5 m ρ c main_arg7 (by decide),
    entry5 m ρ c main_arg8 (by decide)]

/-- The fourth region finds the normalised residual in its second operand. -/
theorem mid7 (c : Dev nD) : V6 m ρ c main_v7_1 = HN (m ((c : Thread nD τ).loc main_arg0)) (MIXED (BATCH (m ((c : Thread nD τ).loc main_arg0)) (m ((c : Thread nD τ).loc main_arg1)) (m ((c : Thread nD τ).loc main_arg2))) (m ((c : Thread nD τ).loc main_arg4)) (m ((c : Thread nD τ).loc main_arg5))) (m ((c : Thread nD τ).loc main_arg6)) (m ((c : Thread nD τ).loc main_arg7)) (m ((c : Thread nD τ).loc main_arg8)) (m ((c : Thread nD τ).loc main_arg9)) := by
  refine (W6_arr m ρ c 7).trans ((Cert.ChainIdeal.Third.final7 (V5 m ρ) c _ (gain3 m ρ c)).trans ?_)
  rw [entry5 m ρ c main_arg0 (by decide), mid5 m ρ c, entry5 m ρ c main_arg6 (by decide), entry5 m ρ c main_arg7 (by decide),
    entry5 m ρ c main_arg8 (by decide)]

/-- The layer output's array, over the arguments. -/
theorem final (c : Dev nD) : (dat3 (V6 m ρ) c).arrAt 4 cfg3.N
    = LAYER (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (Cert.ChainIdeal.Fourth.final4 (V6 m ρ) c).trans ?_
  rw [mid6 m ρ c, mid7 m ρ c, entry6 m ρ c main_arg10 (by decide), entry6 m ρ c main_arg11 (by decide)]
  rfl

/-- The gates' array, over the arguments. -/
theorem gates (c : Dev nD) : (dat0 (V1 m ρ) c).arrAt 5 cfg0.N = GATES (m ((c : Thread nD τ).loc main_arg0)) (m ((c : Thread nD τ).loc main_arg1)) (m ((c : Thread nD τ).loc main_arg3)) := by
  refine (Cert.ChainIdeal.First.final5 (V1 m ρ) c _ (gain1 m ρ c)).trans ?_
  rw [entry1 m ρ c main_arg0 (by decide), entry1 m ρ c main_arg3 (by decide)]

end Cert.ChainIdeal.Joined

end
-- ==== Proof.lean ====
/- The certificate's claim, put together: each program's frame, each program's idealization, and each kernel's equality
   with its reference. The mathematics is in the modules this one imports (one or more per kernel). -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Mlp.Frame
public import proofs.«01_k».proof.Proof.Gen.MlpIdeal.Value
public import proofs.«01_k».proof.Proof.Gen.MlpRefIdeal.Run
public import proofs.«01_k».proof.Proof.Gen.InProj.Frame
public import proofs.«01_k».proof.Proof.Gen.InProjIdeal.Value
public import proofs.«01_k».proof.Proof.Gen.InProjRefIdeal.Run
public import proofs.«01_k».proof.Proof.Gen.OutProj.Frame
public import proofs.«01_k».proof.Proof.Gen.OutProjIdeal.Value
public import proofs.«01_k».proof.Proof.Gen.OutProjRefIdeal.Run
public import proofs.«01_k».proof.Proof.Gen.Conv.Frame
public import proofs.«01_k».proof.Proof.Gen.ConvIdeal.Value
public import proofs.«01_k».proof.Proof.Gen.ConvRefIdeal.Run
public import proofs.«01_k».proof.Proof.Gen.Regroup.Frame
public import proofs.«01_k».proof.Proof.Gen.RegroupIdeal.Value
public import proofs.«01_k».proof.Proof.Gen.RegroupRefIdeal.Run
public import proofs.«01_k».proof.Proof.MlpValue
public import proofs.«01_k».proof.Proof.InProjValue
public import proofs.«01_k».proof.Proof.OutProjValue
public import proofs.«01_k».proof.Proof.ConvValue
public import proofs.«01_k».proof.Proof.SwaValue
public import proofs.«01_k».proof.Proof.RegroupValue
public import proofs.«01_k».proof.Proof.Gen.Tail.Frame
public import proofs.«01_k».proof.Proof.Gen.TailIdeal.Frame
public import proofs.«01_k».proof.Proof.Gen.TailRefIdeal.Run
public import proofs.«01_k».proof.Proof.TailValue
public import proofs.«01_k».proof.Proof.Gen.Chain.Frame
public import proofs.«01_k».proof.Proof.Gen.ChainIdeal.Frame
public import proofs.«01_k».proof.Proof.Gen.ChainRefIdeal.Run
public import proofs.«01_k».proof.Proof.ChainValue
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The shape facts of the precondition. -/
instance preFacts : Cert.Pre_finite_inputs.Facts where
  bitsLt_bf16_f32 := by decide
  bcast_S_S8x2048x6400 := by decide
  bcast_S_S64 := by decide
  bcast_S_S8 := by decide
  bcast_S_S512 := by decide

theorem frame_Reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem frame_MlpRef : Cert.quiescent_MlpRefIdeal := fun m g _ =>
  (θ_run Cert.MlpRefIdeal.defs _ _).mono (fun r h => ⟨fun c => (h c).2, sem_eq_zero_of_no_sems (by decide) r.2⟩)
    (Cert.MlpRefIdeal.Value.run m g)

theorem frame_InProjRef : Cert.quiescent_InProjRefIdeal := fun m g _ =>
  (θ_run Cert.InProjRefIdeal.defs _ _).mono (fun r h => ⟨fun c => (h c).2.2, sem_eq_zero_of_no_sems (by decide) r.2⟩)
    (Cert.InProjRefIdeal.Value.run m g)

theorem frame_OutProjRef : Cert.quiescent_OutProjRefIdeal := fun m g _ =>
  (θ_run Cert.OutProjRefIdeal.defs _ _).mono (fun r h => ⟨fun c => (h c).2.2, sem_eq_zero_of_no_sems (by decide) r.2⟩)
    (Cert.OutProjRefIdeal.Value.run m g)

theorem frame_ConvRef : Cert.quiescent_ConvRefIdeal := fun m g _ =>
  (θ_run Cert.ConvRefIdeal.defs _ _).mono (fun r h => ⟨fun c => (h c).2, sem_eq_zero_of_no_sems (by decide) r.2⟩)
    (Cert.ConvRefIdeal.Value.run m g)

theorem frame_RegroupRef : Cert.quiescent_RegroupRefIdeal := fun m g _ =>
  (θ_run Cert.RegroupRefIdeal.defs _ _).mono (fun r h => ⟨fun c => (h c).2, sem_eq_zero_of_no_sems (by decide) r.2⟩)
    (Cert.RegroupRefIdeal.Value.run m g)

theorem frame_TailRef : Cert.quiescent_TailRefIdeal := fun m g _ =>
  (θ_run Cert.TailRefIdeal.defs _ _).mono (fun r h => ⟨fun c => (h c).2, sem_eq_zero_of_no_sems (by decide) r.2⟩)
    (Cert.TailRefIdeal.Value.run m g)

theorem frame_ChainRef : Cert.quiescent_ChainRefIdeal := fun m g _ =>
  (θ_run Cert.ChainRefIdeal.defs _ _).mono (fun r h => ⟨fun c => (h c).2.2, sem_eq_zero_of_no_sems (by decide) r.2⟩)
    (Cert.ChainRefIdeal.Value.run m g)

set_option maxRecDepth 16384 in
set_option maxHeartbeats 1600000 in
theorem algebraic_Mlp : Cert.algebraic_MlpIdeal_MlpRefIdeal := by
  pair_intro
  · run_from Cert.MlpIdeal.Value.run m g
  · run_from Cert.MlpRefIdeal.Value.run m' g'
    exact (Cert.MlpIdeal.Acc.value m c).symm

set_option maxRecDepth 16384 in
set_option maxHeartbeats 1600000 in
theorem algebraic_InProj : Cert.algebraic_InProjIdeal_InProjRefIdeal := by
  pair_intro
  · run_from Cert.InProjIdeal.Value.run_blocks m g
  · run_from Cert.InProjRefIdeal.Value.run m' g'
    · exact (Cert.InProjIdeal.Pure.final4 m c).symm
    · exact (Cert.InProjIdeal.Pure.final5 m c).symm

theorem algebraic_OutProj : Cert.algebraic_OutProjIdeal_OutProjRefIdeal := by
  pair_intro
  · run_from Cert.OutProjIdeal.Value.run_blocks m g
  · refine (θ_run Cert.OutProjRefIdeal.defs _ _).mono (fun r h c => ?_) (Cert.OutProjRefIdeal.Value.run m' g')
    obtain ⟨e4, e18, a⟩ := h c
    obtain ⟨h0, h1, h2, h3, h4, h5⟩ := hagree c
    refine ⟨e4.trans (Eq.trans ?_ (Cert.OutProjIdeal.Pure.final6 m c).symm), e18.trans (Eq.trans ?_ (Cert.OutProjIdeal.Pure.final7 m c).symm), a⟩
    · rw [← h0, ← h1, ← h2, ← h3, ← h4]
      rfl
    · rw [← h0, ← h1, ← h2, ← h3, ← h4, ← h5]
      rfl

theorem algebraic_Conv : Cert.algebraic_ConvIdeal_ConvRefIdeal := by
  pair_intro
  · run_from Cert.ConvIdeal.Value.run_blocks m g
  · refine (θ_run Cert.ConvRefIdeal.defs _ _).mono (fun r h c => ?_) (Cert.ConvRefIdeal.Value.run m' g')
    obtain ⟨e, a⟩ := h c
    obtain ⟨h0, h1, h2⟩ := hagree c
    refine ⟨e.trans (Eq.trans ?_ (Cert.ConvIdeal.Acc.final m c).symm), a⟩
    rw [← h0, ← h1, ← h2]
    rfl

theorem algebraic_Regroup : Cert.algebraic_RegroupIdeal_RegroupRefIdeal := by
  pair_intro
  · run_from Cert.RegroupIdeal.Value.run_blocks m g
  · refine (θ_run Cert.RegroupRefIdeal.defs _ _).mono (fun r h c => ?_) (Cert.RegroupRefIdeal.Value.run m' g')
    obtain ⟨e, a⟩ := h c
    have h0 := hagree c
    refine ⟨e.trans (Eq.trans ?_ (Cert.RegroupIdeal.Acc.final m c).symm), a⟩
    rw [← h0]
    rfl

theorem algebraic_Tail : Cert.algebraic_TailIdeal_TailRefIdeal := by
  pair_intro
  · run_from Cert.TailIdeal.Joined.run m g
  · refine (θ_run Cert.TailRefIdeal.defs _ _).mono (fun r h c => ?_) (Cert.TailRefIdeal.Value.run m' g')
    obtain ⟨e, a⟩ := h c
    obtain ⟨h0, h1, h2, h3, h4, h5, h6, h7⟩ := hagree c
    refine ⟨e.trans (Eq.trans ?_ (Cert.TailIdeal.Joined.final m g c).symm), a⟩
    rw [← h0, ← h1, ← h2, ← h3, ← h4, ← h5, ← h6, ← h7]
    rfl

theorem algebraic_Chain : Cert.algebraic_ChainIdeal_ChainRefIdeal := by
  pair_intro
  · run_from Cert.ChainIdeal.Joined.run m g
  · refine (θ_run Cert.ChainRefIdeal.defs _ _).mono (fun r h c => ?_) (Cert.ChainRefIdeal.Value.run m' g')
    obtain ⟨e, e', a⟩ := h c
    obtain ⟨h0, h1, h2, h3, h4, h5, h6, h7, h8, h9, h10, h11⟩ := hagree c
    refine ⟨e.trans (Eq.trans ?_ (Cert.ChainIdeal.Joined.final m g c).symm), e'.trans (Eq.trans ?_ (Cert.ChainIdeal.Joined.gates m g c).symm), a⟩
    · refine Eq.trans (Cert.ChainRefIdeal.Spec.layer_eq (StableHlo.launchContents m' c)) ?_
      rw [← h0, ← h1, ← h2, ← h4, ← h5, ← h6, ← h7, ← h8, ← h9, ← h10, ← h11]
    · refine Eq.trans (Cert.ChainRefIdeal.Spec.gates_eq (StableHlo.launchContents m' c)) ?_
      rw [← h0, ← h1, ← h3]

set_option maxRecDepth 16384 in
theorem algebraic_Swa : Cert.algebraic_KernelIdeal_ReferenceIdeal_pre_finite_inputs := by
  pair_intro
  · run_from Cert.KernelIdeal.Value.run_blocks m g
  · refine (θ_run Cert.ReferenceIdeal.defs _ _).mono (fun r h c => ?_) (Cert.ReferenceIdeal.Value.run m' g')
    obtain ⟨e, a⟩ := h c
    obtain ⟨h0, h1, h2, h3, h4⟩ := hagree c
    refine ⟨e.trans (Eq.trans ?_ (Cert.KernelIdeal.Swa.final m hpre c).symm), a⟩
    rw [← h0, ← h1, ← h2, ← h3, ← h4]
    rfl

theorem preserves_Swa : Cert.preserves_Kernel_KernelIdeal :=
  ⟨IdealRules.named_const.statement Cert.KernelIdeal.κ "qscale" .f32 0x3E38AA3B#32 _ rfl,
    IdealRules.named_const.statement Cert.KernelIdeal.κ "log2e" .f32 0x3FB8AA3B#32 _ rfl⟩

theorem claim : Cert.Claim :=
  ⟨Cert.Kernel.Gen.facts, Cert.KernelIdeal.Gen.facts, Cert.ReferenceIdeal.Gen.facts, Cert.Mlp.Gen.facts, Cert.MlpIdeal.Gen.facts, Cert.MlpRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.Conv.Gen.facts, Cert.ConvIdeal.Gen.facts, Cert.ConvRefIdeal.Gen.facts, Cert.Regroup.Gen.facts, Cert.RegroupIdeal.Gen.facts, Cert.RegroupRefIdeal.Gen.facts, Cert.Tail.Gen.facts, Cert.TailIdeal.Gen.facts, Cert.TailRefIdeal.Gen.facts, Cert.Chain.Gen.facts, Cert.ChainIdeal.Gen.facts, Cert.ChainRefIdeal.Gen.facts,
    preFacts,
    fun m g _ => Cert.Kernel.Gen.frame m g, fun m g _ => Cert.KernelIdeal.Gen.frame m g, fun m g _ => Cert.KernelIdeal.Gen.frame m g, frame_Reference, fun m g _ => frame_Reference m g trivial,
    fun m g _ => Cert.Mlp.Gen.frame m g, fun m g _ => Cert.MlpIdeal.Gen.frame m g, frame_MlpRef,
    fun m g _ => Cert.InProj.Gen.frame m g, fun m g _ => Cert.InProjIdeal.Gen.frame m g, frame_InProjRef,
    fun m g _ => Cert.OutProj.Gen.frame m g, fun m g _ => Cert.OutProjIdeal.Gen.frame m g, frame_OutProjRef,
    fun m g _ => Cert.Conv.Gen.frame m g, fun m g _ => Cert.ConvIdeal.Gen.frame m g, frame_ConvRef,
    fun m g _ => Cert.Regroup.Gen.frame m g, fun m g _ => Cert.RegroupIdeal.Gen.frame m g, frame_RegroupRef,
    fun m g _ => Cert.Tail.Gen.frame m g, fun m g _ => Cert.TailIdeal.Gen.frame m g, frame_TailRef,
    fun m g _ => Cert.Chain.Gen.frame m g, fun m g _ => Cert.ChainIdeal.Gen.frame m g, frame_ChainRef,
    preserves_Swa, algebraic_Swa, trivial, algebraic_Mlp, trivial, algebraic_InProj, trivial, algebraic_OutProj, trivial, algebraic_Conv, trivial, algebraic_Regroup, trivial, algebraic_Tail, trivial, algebraic_Chain⟩

end Cert.Proof

end
